-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal [hPre_tables_in_range : Cert.Pre_tables_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_keys_finite [hPre_keys_finite : Cert.Pre_keys_finite.Facts] (m : (ℓ : Loc Cert.ProjIdeal.nD Cert.ProjIdeal.τ Cert.ProjIdeal.sig) → Buf (Elt Ideal) ℓ) : Prop :=
  ∀ c : Dev Cert.ProjIdeal.nD,
    (Cert.Pre_keys_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12)) (m ((c.tc : Thread Cert.ProjIdeal.nD Cert.ProjIdeal.τ).loc Cert.ProjIdeal.main_arg13)) (m ((c.tc : Thread Cert.ProjIdeal.nD Cert.ProjIdeal.τ).loc Cert.ProjIdeal.main_arg14))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_keys_finite [hPre_keys_finite : Cert.Pre_keys_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_keys_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12)) (m ((c.tc : Thread Cert.ProjReferenceIdeal.nD Cert.ProjReferenceIdeal.τ).loc Cert.ProjReferenceIdeal.main_arg13)) (m ((c.tc : Thread Cert.ProjReferenceIdeal.nD Cert.ProjReferenceIdeal.τ).loc Cert.ProjReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] [hPre_tables_in_range : Cert.Pre_tables_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjIdeal_pre_keys_finite [hProjIdeal : Cert.ProjIdeal.Facts] [hPre_keys_finite : Cert.Pre_keys_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_keys_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14))
      ∧ r.2.sem = fun _ => 0)

def quiescent_ProjReferenceIdeal_pre_keys_finite [hProjReferenceIdeal : Cert.ProjReferenceIdeal.Facts] [hPre_keys_finite : Cert.Pre_keys_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_keys_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v6) = v0 c
          ∧ r.2.mem ((c.tc : Thread Cert.FfnReferenceIdeal.nD Cert.FfnReferenceIdeal.τ).loc Cert.FfnReferenceIdeal.main_v19) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Moe_MoeIdeal : Prop :=
  True

def algebraic_MoeIdeal_MoeReferenceIdeal [hMoeIdeal : Cert.MoeIdeal.Facts] [hMoeReferenceIdeal : Cert.MoeReferenceIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v46) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Proj_ProjIdeal : Prop :=
  True

def algebraic_ProjIdeal_ProjReferenceIdeal_pre_keys_finite [hProjIdeal : Cert.ProjIdeal.Facts] [hProjReferenceIdeal : Cert.ProjReferenceIdeal.Facts] [hPre_keys_finite : Cert.Pre_keys_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_keys_finite m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)) (v2 : (c : Dev Cert.ProjIdeal.nD) → Buf (Elt Ideal) ((c.tc : Thread Cert.ProjIdeal.nD Cert.ProjIdeal.τ).loc Cert.ProjIdeal.main_v19_2)) (v3 : (c : Dev Cert.ProjIdeal.nD) → Buf (Elt Ideal) ((c.tc : Thread Cert.ProjIdeal.nD Cert.ProjIdeal.τ).loc Cert.ProjIdeal.main_v19_3)) (v4 : (c : Dev Cert.ProjIdeal.nD) → Buf (Elt Ideal) ((c.tc : Thread Cert.ProjIdeal.nD Cert.ProjIdeal.τ).loc Cert.ProjIdeal.main_v19_4)) (v5 : (c : Dev Cert.ProjIdeal.nD) → Buf (Elt Ideal) ((c.tc : Thread Cert.ProjIdeal.nD Cert.ProjIdeal.τ).loc Cert.ProjIdeal.main_v19_5)) (v6 : (c : Dev Cert.ProjIdeal.nD) → Buf (Elt Ideal) ((c.tc : Thread Cert.ProjIdeal.nD Cert.ProjIdeal.τ).loc Cert.ProjIdeal.main_v19_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_v19_2) = v2 c
          ∧ r.2.mem ((c.tc : Thread Cert.ProjIdeal.nD Cert.ProjIdeal.τ).loc Cert.ProjIdeal.main_v19_3) = v3 c
          ∧ r.2.mem ((c.tc : Thread Cert.ProjIdeal.nD Cert.ProjIdeal.τ).loc Cert.ProjIdeal.main_v19_4) = v4 c
          ∧ r.2.mem ((c.tc : Thread Cert.ProjIdeal.nD Cert.ProjIdeal.τ).loc Cert.ProjIdeal.main_v19_5) = v5 c
          ∧ r.2.mem ((c.tc : Thread Cert.ProjIdeal.nD Cert.ProjIdeal.τ).loc Cert.ProjIdeal.main_v19_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v93) = v0 c
          ∧ r.2.mem ((c.tc : Thread Cert.ProjReferenceIdeal.nD Cert.ProjReferenceIdeal.τ).loc Cert.ProjReferenceIdeal.main_v96) = v1 c
          ∧ r.2.mem ((c.tc : Thread Cert.ProjReferenceIdeal.nD Cert.ProjReferenceIdeal.τ).loc Cert.ProjReferenceIdeal.main_v98) = v2 c
          ∧ r.2.mem ((c.tc : Thread Cert.ProjReferenceIdeal.nD Cert.ProjReferenceIdeal.τ).loc Cert.ProjReferenceIdeal.main_v100) = v3 c
          ∧ r.2.mem ((c.tc : Thread Cert.ProjReferenceIdeal.nD Cert.ProjReferenceIdeal.τ).loc Cert.ProjReferenceIdeal.main_v103) = v4 c
          ∧ r.2.mem ((c.tc : Thread Cert.ProjReferenceIdeal.nD Cert.ProjReferenceIdeal.τ).loc Cert.ProjReferenceIdeal.main_v107) = v5 c
          ∧ r.2.mem ((c.tc : Thread Cert.ProjReferenceIdeal.nD Cert.ProjReferenceIdeal.τ).loc Cert.ProjReferenceIdeal.main_v109) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hPre_inputs_finite : Cert.Pre_inputs_finite.Facts) (hPre_tables_in_range : Cert.Pre_tables_in_range.Facts) (hPre_keys_finite : Cert.Pre_keys_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_tables_in_range := hPre_tables_in_range)
    ∧ quiescent_MoeIdeal (hMoeIdeal := hMoeIdeal) (hPre_tables_in_range := hPre_tables_in_range)
    ∧ quiescent_MoeReferenceIdeal (hMoeReferenceIdeal := hMoeReferenceIdeal) (hPre_tables_in_range := hPre_tables_in_range)
    ∧ quiescent_Proj (hProj := hProj)
    ∧ quiescent_ProjIdeal (hProjIdeal := hProjIdeal)
    ∧ quiescent_ProjIdeal_pre_keys_finite (hProjIdeal := hProjIdeal) (hPre_keys_finite := hPre_keys_finite)
    ∧ quiescent_ProjReferenceIdeal (hProjReferenceIdeal := hProjReferenceIdeal)
    ∧ quiescent_ProjReferenceIdeal_pre_keys_finite (hProjReferenceIdeal := hProjReferenceIdeal) (hPre_keys_finite := hPre_keys_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal (hMoeIdeal := hMoeIdeal) (hMoeReferenceIdeal := hMoeReferenceIdeal) (hPre_tables_in_range := hPre_tables_in_range)
    ∧ preserves_Proj_ProjIdeal
    ∧ algebraic_ProjIdeal_ProjReferenceIdeal_pre_keys_finite (hProjIdeal := hProjIdeal) (hProjReferenceIdeal := hProjReferenceIdeal) (hPre_keys_finite := hPre_keys_finite)
-- ==== Pre_inputs_finite.lean ====
abbrev S2x8192x2048 : Shape := ⟨3, ![2, 8192, 2048]⟩
abbrev S2048 : Shape := ⟨1, ![2048]⟩
abbrev S4x512x512 : Shape := ⟨3, ![4, 512, 512]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x8192x2048 .f32) (main_arg1 : FVec F S2048 .f32) (main_arg2 : FVec F S4x512x512 .f32) (main_arg3 : FVec F S2048 .f32) (main_arg4 : FVec F S2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Pre_keys_finite.lean ====
abbrev S2x8192x2048 : Shape := ⟨3, ![2, 8192, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S6x2048 : S_.BroadcastsInDim S6x2048 (![] : Fin 0 → Fin S6x2048.rank)
  reducesTo_S6x2048_S_d0_1 : S6x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2x8192x2048 .f32) (main_arg1 : FVec F S6x2048 .f32) (main_arg2 : FVec F S2048 .f32) (main_arg3 : FVec F S2048x96 .f32) (main_arg4 : FVec F S96x2048 .f32) (main_arg5 : FVec F S2048 .f32) (main_arg6 : FVec F S2048x96 .f32) (main_arg7 : FVec F S96x2048 .f32) (main_arg8 : FVec F S2048x256 .f32) (main_arg9 : FVec F S256x2048 .f32) (main_arg10 : FVec F S2048 .f32) (main_arg11 : FVec F S2048 .f32) (main_arg12 : FVec F S2048x2048 .f32) (main_arg13 : FVec F S2048x2048 .f32) (main_arg14 : FVec F S2048x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S6x2048 .f32 := Host.absf main_arg1
  let main_cst_0 : FVec F S_ .f32 := constant S_ .f32 0x7F800000#32
  let main_v5 : FVec F S6x2048 .f32 := broadcastInDim S6x2048 ![] bcast_S_S6x2048 main_cst_0
  let main_v6 : IVec S6x2048 1 := cmpf .olt main_v4 main_v5
  let main_c_1 : IVec S_ 1 := constantI S_ 1 1#1
  let main_v7 : IVec S_ 1 := (fun x v => Host.reduce IntOp.andi x v reducesTo_S6x2048_S_d0_1 h_S_) main_v6 main_c_1
  let main_v8 : IVec S_ 1 := andi main_v3 main_v7
  let main_v9 : FVec F S2048 .f32 := Host.absf main_arg10
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg13
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_tables_in_range.lean ====
abbrev S51 : Shape := ⟨1, ![51]⟩
abbrev S1 : Shape := ⟨1, ![1]⟩
abbrev S39168x1024 : Shape := ⟨2, ![39168, 1024]⟩
abbrev S2x8x2048x7168 : Shape := ⟨4, ![2, 8, 2048, 7168]⟩
abbrev S2x8x7168x2048 : Shape := ⟨4, ![2, 8, 7168, 2048]⟩
abbrev S_ : Shape := ⟨0, ![]⟩

class Facts : Prop where
  bcast_S_S51 : S_.BroadcastsInDim S51 (![] : Fin 0 → Fin S51.rank)
  reducesTo_S51_S_d0 : S51.ReducesTo [0] S_
  h_S_ : 0 < S_.numel
  shapeCasts_S1_S_ : S1.ShapeCasts S_

variable [Facts]

def fn {F : FTy → Type} [FloatOps F] (main_arg0 : IVec S51 32) (main_arg1 : IVec S1 32) (main_arg2 : IVec S39168x1024 32) (main_arg3 : FVec F S2x8x2048x7168 .f32) (main_arg4 : FVec F S2x8x2048x7168 .f32) (main_arg5 : FVec F S2x8x7168x2048 .f32) : IVec S_ 1 :=
  let main_c : IVec S_ 32 := constantI S_ 32 0#32
  let main_v0 : IVec S51 32 := broadcastInDim S51 ![] bcast_S_S51 main_c
  let main_v1 : IVec S51 1 := cmpi .sge main_arg0 main_v0
  let main_c_0 : IVec S_ 32 := constantI S_ 32 8#32
  let main_v2 : IVec S51 32 := broadcastInDim S51 ![] bcast_S_S51 main_c_0
  let main_v3 : IVec S51 1 := cmpi .slt main_arg0 main_v2
  let main_v4 : IVec S51 1 := andi main_v1 main_v3
  let main_c_1 : IVec S_ 1 := constantI S_ 1 1#1
  let main_v5 : IVec S_ 1 := (fun x v => Host.reduce IntOp.andi x v reducesTo_S51_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S2x8192x2048 : Shape := ⟨3, ![2, 8192, 2048]⟩
abbrev S2048 : Shape := ⟨1, ![2048]⟩
abbrev S4x512x512 : Shape := ⟨3, ![4, 512, 512]⟩
abbrev S16384x2048 : Shape := ⟨2, ![16384, 2048]⟩
abbrev S1x2048 : Shape := ⟨2, ![1, 2048]⟩
abbrev S512x2048 : Shape := ⟨2, ![512, 2048]⟩
abbrev S16x2048 : Shape := ⟨2, ![16, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x2048 : Shape := ⟨2, ![528, 2048]⟩
abbrev S528x512 : Shape := ⟨2, ![528, 512]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 12
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S4x512x512, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S4x512x512, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x8192x2048 : Shape := ⟨3, ![2, 8192, 2048]⟩
abbrev S2048 : Shape := ⟨1, ![2048]⟩
abbrev S4x512x512 : Shape := ⟨3, ![4, 512, 512]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x4x512 : Shape := ⟨4, ![2, 8192, 4, 512]⟩
abbrev S8192 : Shape := ⟨1, ![8192]⟩
abbrev S2x8192x1x512 : Shape := ⟨4, ![2, 8192, 1, 512]⟩
abbrev S2x8192x512 : Shape := ⟨3, ![2, 8192, 512]⟩
abbrev S2x8194x512 : Shape := ⟨3, ![2, 8194, 512]⟩
abbrev S1x8192x1 : Shape := ⟨3, ![1, 8192, 1]⟩
abbrev S2x8196x512 : Shape := ⟨3, ![2, 8196, 512]⟩
abbrev S2x8200x512 : Shape := ⟨3, ![2, 8200, 512]⟩
abbrev S2x8208x512 : Shape := ⟨3, ![2, 8208, 512]⟩
abbrev S4x512x2x8192 : Shape := ⟨4, ![4, 512, 2, 8192]⟩
abbrev S16384x2048 : Shape := ⟨2, ![16384, 2048]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x8192x4x512, .f32⟩
  | .hbm, ⟨22, _⟩ => ⟨S_, .f32⟩
  | .hbm, ⟨23, _⟩ => ⟨S_, .f32⟩
  | .hbm, ⟨24, _⟩ => ⟨S2x8192x4x512, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S2x8192x1x512, .f32⟩
  | .hbm, ⟨30, _⟩ => ⟨S2x8192x512, .f32⟩
  | .hbm, ⟨31, _⟩ => ⟨S_, .i32⟩
  | .hbm, ⟨32, _⟩ => ⟨S_, .f32⟩
  | .hbm, ⟨33, _⟩ => ⟨S2x8194x512, .f32⟩
  | .hbm, ⟨34, _⟩ => ⟨S2x8192x512, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S1x8192x1, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x1x512, .f32⟩
  | .hbm, ⟨43, _⟩ => ⟨S2x8192x512, .f32⟩
  | .hbm, ⟨44, _⟩ => ⟨S_, .i32⟩
  | .hbm, ⟨45, _⟩ => ⟨S_, .f32⟩
  | .hbm, ⟨46, _⟩ => ⟨S2x8196x512, .f32⟩
  | .hbm, ⟨47, _⟩ => ⟨S2x8192x512, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S1x8192x1, .f32⟩
  | .hbm, ⟨52, _⟩ => ⟨S2x8192x512, .f32⟩
  | .hbm, ⟨53, _⟩ => ⟨S2x8192x512, .f32⟩
  | .hbm, ⟨54, _⟩ => ⟨S2x8192x512, .f32⟩
  | .hbm, ⟨55, _⟩ => ⟨S2x8192x1x512, .f32⟩
  | .hbm, ⟨56, _⟩ => ⟨S2x8192x512, .f32⟩
  | .hbm, ⟨57, _⟩ => ⟨S_, .i32⟩
  | .hbm, ⟨58, _⟩ => ⟨S_, .f32⟩
  | .hbm, ⟨59, _⟩ => ⟨S2x8200x512, .f32⟩
  | .hbm, ⟨60, _⟩ => ⟨S2x8192x512, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S1x8192x1, .f32⟩
  | .hbm, ⟨65, _⟩ => ⟨S2x8192x512, .f32⟩
  | .hbm, ⟨66, _⟩ => ⟨S2x8192x512, .f32⟩
  | .hbm, ⟨67, _⟩ => ⟨S2x8192x512, .f32⟩
  | .hbm, ⟨68, _⟩ => ⟨S2x8192x1x512, .f32⟩
  | .hbm, ⟨69, _⟩ => ⟨S2x8192x512, .f32⟩
  | .hbm, ⟨70, _⟩ => ⟨S_, .i32⟩
  | .hbm, ⟨71, _⟩ => ⟨S_, .f32⟩
  | .hbm, ⟨72, _⟩ => ⟨S2x8208x512, .f32⟩
  | .hbm, ⟨73, _⟩ => ⟨S2x8192x512, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S1x8192x1, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S2x8192x1x512, .f32⟩
  | .hbm, ⟨82, _⟩ => ⟨S2x8192x1x512, .f32⟩
  | .hbm, ⟨83, _⟩ => ⟨S2x8192x1x512, .f32⟩
  | .hbm, ⟨84, _⟩ => ⟨S2x8192x1x512, .f32⟩
  | .hbm, ⟨85, _⟩ => ⟨S2x8192x4x512, .f32⟩
  | .hbm, ⟨86, _⟩ => ⟨S2x8192x4x512, .f32⟩
  | .hbm, ⟨87, _⟩ => ⟨S4x512x2x8192, .f32⟩
  | .hbm, ⟨88, _⟩ => ⟨S2x8192x4x512, .f32⟩
  | .hbm, ⟨89, _⟩ => ⟨S2x8192x2048, .f32⟩
  | .hbm, ⟨90, _⟩ => ⟨S1x1x2048, .f32⟩
  | .hbm, ⟨91, _⟩ => ⟨S2x8192x2048, .f32⟩
  | .hbm, ⟨92, _⟩ => ⟨S2x8192x2048, .f32⟩
  | .hbm, ⟨93, _⟩ => ⟨S2x8192x2048, .f32⟩
  | .hbm, ⟨94, _⟩ => ⟨S16384x2048, .f32⟩
  | .hbm, ⟨95, _⟩ => ⟨S2x8192x2048, .f32⟩
  | .hbm, ⟨96, _⟩ => ⟨S_, .f32⟩
  | .hbm, ⟨97, _⟩ => ⟨S2x8192, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1, .f32⟩
  | .hbm, ⟨106, _⟩ => ⟨S2x8192x2048, .f32⟩
  | .hbm, ⟨107, _⟩ => ⟨S2x8192x2048, .f32⟩
  | .hbm, ⟨108, _⟩ => ⟨S1x1x2048, .f32⟩
  | .hbm, ⟨109, _⟩ => ⟨S2x8192x2048, .f32⟩
  | .hbm, ⟨110, _⟩ => ⟨S2x8192x2048, .f32⟩
  | .hbm, ⟨111, _⟩ => ⟨S16384x2048, .f32⟩
  | .hbm, ⟨112, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_call0_cst : Ref sig .tc := ⟨.hbm, 22, rfl⟩
abbrev main_call0_call0_v0 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call2_v0 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_call3_v0 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_call4_v0 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Ffn.lean ====
abbrev S16384x2048 : Shape := ⟨2, ![16384, 2048]⟩
abbrev S2048x7168 : Shape := ⟨2, ![2048, 7168]⟩
abbrev S7168x2048 : Shape := ⟨2, ![7168, 2048]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x7168, .f32⟩
  | .hbm, ⟨3, _⟩ => ⟨S2048x7168, .f32⟩
  | .hbm, ⟨4, _⟩ => ⟨S7168x2048, .f32⟩
  | .hbm, ⟨5, _⟩ => ⟨S2048, .f32⟩
  | .hbm, ⟨6, _⟩ => ⟨S2048x7168, .bf16⟩
  | .hbm, ⟨7, _⟩ => ⟨S2048x7168, .bf16⟩
  | .hbm, ⟨8, _⟩ => ⟨S7168x2048, .bf16⟩
  | .hbm, ⟨9, _⟩ => ⟨S1x2048, .f32⟩
  | .hbm, ⟨10, _⟩ => ⟨S16384x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v27 : BitVec 1 := Scalar.cmpi .eq arg1 c6_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S16384x2048 : Shape := ⟨2, ![16384, 2048]⟩
abbrev S2048x7168 : Shape := ⟨2, ![2048, 7168]⟩
abbrev S7168x2048 : Shape := ⟨2, ![7168, 2048]⟩
abbrev S2048 : Shape := ⟨1, ![2048]⟩
abbrev S16384x7168 : Shape := ⟨2, ![16384, 7168]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x7168, .f32⟩
  | .hbm, ⟨3, _⟩ => ⟨S2048x7168, .f32⟩
  | .hbm, ⟨4, _⟩ => ⟨S7168x2048, .f32⟩
  | .hbm, ⟨5, _⟩ => ⟨S2048, .f32⟩
  | .hbm, ⟨6, _⟩ => ⟨S16384x2048, .f32⟩
  | .hbm, ⟨7, _⟩ => ⟨S16384x7168, .f32⟩
  | .hbm, ⟨8, _⟩ => ⟨S16384x7168, .f32⟩
  | .hbm, ⟨9, _⟩ => ⟨S16384x7168, .f32⟩
  | .hbm, ⟨10, _⟩ => ⟨S_, .f32⟩
  | .hbm, ⟨11, _⟩ => ⟨S16384x7168, .f32⟩
  | .hbm, ⟨12, _⟩ => ⟨S16384x7168, .f32⟩
  | .hbm, ⟨13, _⟩ => ⟨S_, .f32⟩
  | .hbm, ⟨14, _⟩ => ⟨S16384x7168, .f32⟩
  | .hbm, ⟨15, _⟩ => ⟨S16384x7168, .f32⟩
  | .hbm, ⟨16, _⟩ => ⟨S16384x7168, .f32⟩
  | .hbm, ⟨17, _⟩ => ⟨S16384x7168, .f32⟩
  | .hbm, ⟨18, _⟩ => ⟨S16384x7168, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Moe.lean ====
abbrev S51 : Shape := ⟨1, ![51]⟩
abbrev S1 : Shape := ⟨1, ![1]⟩
abbrev S39168x1024 : Shape := ⟨2, ![39168, 1024]⟩
abbrev S2x8x2048x7168 : Shape := ⟨4, ![2, 8, 2048, 7168]⟩
abbrev S2x8x7168x2048 : Shape := ⟨4, ![2, 8, 7168, 2048]⟩
abbrev S39168x2048 : Shape := ⟨2, ![39168, 2048]⟩
abbrev S768x1024 : Shape := ⟨2, ![768, 1024]⟩
abbrev S1x1x2048x512 : Shape := ⟨4, ![1, 1, 2048, 512]⟩
abbrev S1x1x512x2048 : Shape := ⟨4, ![1, 1, 512, 2048]⟩
abbrev S768x2048 : Shape := ⟨2, ![768, 2048]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 5
  | .vmem => 11
  | .smem => 2
  | _ => 0

abbrev bufTy : (tb : Table) → Fin (tcTables nBuf tb) → BufTy
  | .hbm, ⟨0, _⟩ => ⟨S39168x1024, .i32⟩
  | .hbm, ⟨1, _⟩ => ⟨S2x8x2048x7168, .f32⟩
  | .hbm, ⟨2, _⟩ => ⟨S2x8x2048x7168, .f32⟩
  | .hbm, ⟨3, _⟩ => ⟨S2x8x7168x2048, .f32⟩
  | .hbm, ⟨4, _⟩ => ⟨S39168x2048, .f32⟩
  | .local _ .vmem, ⟨0, _⟩ => ⟨S768x1024, .i32⟩
  | .local _ .vmem, ⟨1, _⟩ => ⟨S768x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S768x2048, .f32⟩
  | .local _ .vmem, ⟨9, _⟩ => ⟨S768x2048, .f32⟩
  | .local _ .vmem, ⟨10, _⟩ => ⟨S768x2048, .bf16⟩
  | .local _ .smem, ⟨0, _⟩ => ⟨S51, .i32⟩
  | .local _ .smem, ⟨1, _⟩ => ⟨S1, .i32⟩
  | _, _ => ⟨S39168x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![51, 14], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S51.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S51) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c1_i32 : BitVec 32 := 1#32
  let c0_i32 : BitVec 32 := 0#32
  let c0_i32_0 : BitVec 32 := 0#32
  ![c1_i32.toNat, v1.toNat, c0_i32.toNat, v4.toNat]

def cc0_transform_2 (k0_off1_inb : ∀ i : grid0.Coords, ∀ a, (k0_off1 i) a + S1.size a ≤ S51.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S51) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c1_i32 : BitVec 32 := 1#32
  let c0_i32 : BitVec 32 := 0#32
  let c0_i32_0 : BitVec 32 := 0#32
  ![c1_i32.toNat, v1.toNat, c0_i32.toNat, v4.toNat]

def cc0_transform_3 (k0_off1_inb : ∀ i : grid0.Coords, ∀ a, (k0_off1 i) a + S1.size a ≤ S51.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S51) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c1_i32 : BitVec 32 := 1#32
  let c0_i32 : BitVec 32 := 0#32
  let c0_i32_0 : BitVec 32 := 0#32
  ![c1_i32.toNat, v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S51 : Shape := ⟨1, ![51]⟩
abbrev S1 : Shape := ⟨1, ![1]⟩
abbrev S39168x1024 : Shape := ⟨2, ![39168, 1024]⟩
abbrev S2x8x2048x7168 : Shape := ⟨4, ![2, 8, 2048, 7168]⟩
abbrev S2x8x7168x2048 : Shape := ⟨4, ![2, 8, 7168, 2048]⟩
abbrev S_ : Shape := ⟨0, ![]⟩
abbrev S39168x2048 : Shape := ⟨2, ![39168, 2048]⟩
abbrev S51x768x2048 : Shape := ⟨3, ![51, 768, 2048]⟩
abbrev S1x8x2048x7168 : Shape := ⟨4, ![1, 8, 2048, 7168]⟩
abbrev S8x2048x7168 : Shape := ⟨3, ![8, 2048, 7168]⟩
abbrev S1x8x7168x2048 : Shape := ⟨4, ![1, 8, 7168, 2048]⟩
abbrev S8x7168x2048 : Shape := ⟨3, ![8, 7168, 2048]⟩
abbrev S51x1 : Shape := ⟨2, ![51, 1]⟩
abbrev S51x2048x7168 : Shape := ⟨3, ![51, 2048, 7168]⟩
abbrev S51x768x7168 : Shape := ⟨3, ![51, 768, 7168]⟩
abbrev S51x7168x2048 : Shape := ⟨3, ![51, 7168, 2048]⟩
abbrev S51x1x1 : Shape := ⟨3, ![51, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S51, .i32⟩
  | .hbm, ⟨1, _⟩ => ⟨S1, .i32⟩
  | .hbm, ⟨2, _⟩ => ⟨S39168x1024, .i32⟩
  | .hbm, ⟨3, _⟩ => ⟨S2x8x2048x7168, .f32⟩
  | .hbm, ⟨4, _⟩ => ⟨S2x8x2048x7168, .f32⟩
  | .hbm, ⟨5, _⟩ => ⟨S2x8x7168x2048, .f32⟩
  | .hbm, ⟨6, _⟩ => ⟨S_, .i32⟩
  | .hbm, ⟨7, _⟩ => ⟨S39168x1024, .i32⟩
  | .hbm, ⟨8, _⟩ => ⟨S39168x1024, .i32⟩
  | .hbm, ⟨9, _⟩ => ⟨S39168x1024, .f32⟩
  | .hbm, ⟨10, _⟩ => ⟨S_, .i32⟩
  | .hbm, ⟨11, _⟩ => ⟨S39168x1024, .i32⟩
  | .hbm, ⟨12, _⟩ => ⟨S39168x1024, .i32⟩
  | .hbm, ⟨13, _⟩ => ⟨S39168x1024, .f32⟩
  | .hbm, ⟨14, _⟩ => ⟨S39168x2048, .f32⟩
  | .hbm, ⟨15, _⟩ => ⟨S51x768x2048, .f32⟩
  | .hbm, ⟨16, _⟩ => ⟨S1x8x2048x7168, .f32⟩
  | .hbm, ⟨17, _⟩ => ⟨S8x2048x7168, .f32⟩
  | .hbm, ⟨18, _⟩ => ⟨S1x8x2048x7168, .f32⟩
  | .hbm, ⟨19, _⟩ => ⟨S8x2048x7168, .f32⟩
  | .hbm, ⟨20, _⟩ => ⟨S1x8x7168x2048, .f32⟩
  | .hbm, ⟨21, _⟩ => ⟨S8x7168x2048, .f32⟩
  | .hbm, ⟨22, _⟩ => ⟨S_, .i32⟩
  | .hbm, ⟨23, _⟩ => ⟨S51, .i32⟩
  | .hbm, ⟨24, _⟩ => ⟨S51, .i1⟩
  | .hbm, ⟨25, _⟩ => ⟨S_, .i32⟩
  | .hbm, ⟨26, _⟩ => ⟨S51, .i32⟩
  | .hbm, ⟨27, _⟩ => ⟨S51, .i32⟩
  | .hbm, ⟨28, _⟩ => ⟨S51, .i32⟩
  | .hbm, ⟨29, _⟩ => ⟨S51x1, .i32⟩
  | .hbm, ⟨30, _⟩ => ⟨S51x2048x7168, .f32⟩
  | .hbm, ⟨31, _⟩ => ⟨S51x768x7168, .f32⟩
  | .hbm, ⟨32, _⟩ => ⟨S_, .i32⟩
  | .hbm, ⟨33, _⟩ => ⟨S51, .i32⟩
  | .hbm, ⟨34, _⟩ => ⟨S51, .i1⟩
  | .hbm, ⟨35, _⟩ => ⟨S_, .i32⟩
  | .hbm, ⟨36, _⟩ => ⟨S51, .i32⟩
  | .hbm, ⟨37, _⟩ => ⟨S51, .i32⟩
  | .hbm, ⟨38, _⟩ => ⟨S51, .i32⟩
  | .hbm, ⟨39, _⟩ => ⟨S51x1, .i32⟩
  | .hbm, ⟨40, _⟩ => ⟨S51x2048x7168, .f32⟩
  | .hbm, ⟨41, _⟩ => ⟨S51x768x7168, .f32⟩
  | .hbm, ⟨42, _⟩ => ⟨S51x768x7168, .f32⟩
  | .hbm, ⟨43, _⟩ => ⟨S51x768x7168, .f32⟩
  | .hbm, ⟨44, _⟩ => ⟨S_, .f32⟩
  | .hbm, ⟨45, _⟩ => ⟨S51x768x7168, .f32⟩
  | .hbm, ⟨46, _⟩ => ⟨S51x768x7168, .f32⟩
  | .hbm, ⟨47, _⟩ => ⟨S_, .f32⟩
  | .hbm, ⟨48, _⟩ => ⟨S51x768x7168, .f32⟩
  | .hbm, ⟨49, _⟩ => ⟨S51x768x7168, .f32⟩
  | .hbm, ⟨50, _⟩ => ⟨S51x768x7168, .f32⟩
  | .hbm, ⟨51, _⟩ => ⟨S51x768x7168, .f32⟩
  | .hbm, ⟨52, _⟩ => ⟨S_, .i32⟩
  | .hbm, ⟨53, _⟩ => ⟨S51, .i32⟩
  | .hbm, ⟨54, _⟩ => ⟨S51, .i1⟩
  | .hbm, ⟨55, _⟩ => ⟨S_, .i32⟩
  | .hbm, ⟨56, _⟩ => ⟨S51, .i32⟩
  | .hbm, ⟨57, _⟩ => ⟨S51, .i32⟩
  | .hbm, ⟨58, _⟩ => ⟨S51, .i32⟩
  | .hbm, ⟨59, _⟩ => ⟨S51x1, .i32⟩
  | .hbm, ⟨60, _⟩ => ⟨S51x7168x2048, .f32⟩
  | .hbm, ⟨61, _⟩ => ⟨S51x768x2048, .f32⟩
  | .hbm, ⟨62, _⟩ => ⟨S51, .i32⟩
  | .hbm, ⟨63, _⟩ => ⟨S51x1x1, .i32⟩
  | .hbm, ⟨64, _⟩ => ⟨S_, .i32⟩
  | .hbm, ⟨65, _⟩ => ⟨S51x1x1, .i32⟩
  | .hbm, ⟨66, _⟩ => ⟨S51x1x1, .i1⟩
  | .hbm, ⟨67, _⟩ => ⟨S_, .f32⟩
  | .hbm, ⟨68, _⟩ => ⟨S_, .f32⟩
  | .hbm, ⟨69, _⟩ => ⟨S51x768x2048, .i1⟩
  | .hbm, ⟨70, _⟩ => ⟨S51x768x2048, .f32⟩
  | .hbm, ⟨71, _⟩ => ⟨S51x768x2048, .f32⟩
  | .hbm, ⟨72, _⟩ => ⟨S39168x2048, .f32⟩
  | _, _ => ⟨S51, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Proj.lean ====
abbrev S2x8192x2048 : Shape := ⟨3, ![2, 8192, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩
abbrev S8x2048 : Shape := ⟨2, ![8, 2048]⟩
abbrev S2048x128 : Shape := ⟨2, ![2048, 128]⟩
abbrev S128x2048 : Shape := ⟨2, ![128, 2048]⟩
abbrev S1x2048 : Shape := ⟨2, ![1, 2048]⟩
abbrev S16384x2048 : Shape := ⟨2, ![16384, 2048]⟩
abbrev S512x2048 : Shape := ⟨2, ![512, 2048]⟩
abbrev S2048x512 : Shape := ⟨2, ![2048, 512]⟩
abbrev S128x512 : Shape := ⟨2, ![128, 512]⟩
abbrev S256x512 : Shape := ⟨2, ![256, 512]⟩
abbrev S1x512 : Shape := ⟨2, ![1, 512]⟩
abbrev S512x512 : Shape := ⟨2, ![512, 512]⟩
abbrev S6x512x2048 : Shape := ⟨3, ![6, 512, 2048]⟩
abbrev S512x128 : Shape := ⟨2, ![512, 128]⟩
abbrev S512x256 : Shape := ⟨2, ![512, 256]⟩
abbrev S512x1 : Shape := ⟨2, ![512, 1]⟩
abbrev S1x512x2048 : Shape := ⟨3, ![1, 512, 2048]⟩
abbrev S128x128 : Shape := ⟨2, ![128, 128]⟩

abbrev nBuf : Space → Nat
  | .hbm => 51
  | .vmem => 46
  | .smem => 0
  | _ => 0

abbrev bufTy : (tb : Table) → Fin (tcTables nBuf tb) → BufTy
  | .hbm, ⟨0, _⟩ => ⟨S2x8192x2048, .f32⟩
  | .hbm, ⟨1, _⟩ => ⟨S6x2048, .f32⟩
  | .hbm, ⟨2, _⟩ => ⟨S2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x96, .f32⟩
  | .hbm, ⟨7, _⟩ => ⟨S96x2048, .f32⟩
  | .hbm, ⟨8, _⟩ => ⟨S2048x256, .f32⟩
  | .hbm, ⟨9, _⟩ => ⟨S256x2048, .f32⟩
  | .hbm, ⟨10, _⟩ => ⟨S2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .i32⟩
  | .hbm, ⟨16, _⟩ => ⟨S_, .f32⟩
  | .hbm, ⟨17, _⟩ => ⟨S8x2048, .f32⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S2048x128, .bf16⟩
  | .hbm, ⟨25, _⟩ => ⟨S_, .i32⟩
  | .hbm, ⟨26, _⟩ => ⟨S_, .f32⟩
  | .hbm, ⟨27, _⟩ => ⟨S128x2048, .f32⟩
  | .hbm, ⟨28, _⟩ => ⟨S128x2048, .bf16⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x128, .bf16⟩
  | .hbm, ⟨33, _⟩ => ⟨S_, .i32⟩
  | .hbm, ⟨34, _⟩ => ⟨S_, .f32⟩
  | .hbm, ⟨35, _⟩ => ⟨S128x2048, .f32⟩
  | .hbm, ⟨36, _⟩ => ⟨S128x2048, .bf16⟩
  | .hbm, ⟨37, _⟩ => ⟨S2048x256, .bf16⟩
  | .hbm, ⟨38, _⟩ => ⟨S256x2048, .bf16⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S16384x2048, .f32⟩
  | .hbm, ⟨44, _⟩ => ⟨S16384x2048, .bf16⟩
  | .hbm, ⟨45, _⟩ => ⟨S16384x2048, .f32⟩
  | .hbm, ⟨46, _⟩ => ⟨S16384x2048, .bf16⟩
  | .hbm, ⟨47, _⟩ => ⟨S16384x2048, .bf16⟩
  | .hbm, ⟨48, _⟩ => ⟨S16384x2048, .bf16⟩
  | .hbm, ⟨49, _⟩ => ⟨S16384x2048, .bf16⟩
  | .hbm, ⟨50, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x128, .bf16⟩
  | .local _ .vmem, ⟨12, _⟩ => ⟨S2048x128, .bf16⟩
  | .local _ .vmem, ⟨13, _⟩ => ⟨S2048x256, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S256x512, .bf16⟩
  | .local _ .vmem, ⟨19, _⟩ => ⟨S256x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x512, .bf16⟩
  | .local _ .vmem, ⟨29, _⟩ => ⟨S512x512, .bf16⟩
  | .local _ .vmem, ⟨30, _⟩ => ⟨S512x512, .f32⟩
  | .local _ .vmem, ⟨31, _⟩ => ⟨S512x512, .f32⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S6x512x2048, .bf16⟩
  | .local _ .vmem, ⟨43, _⟩ => ⟨S512x128, .bf16⟩
  | .local _ .vmem, ⟨44, _⟩ => ⟨S512x128, .bf16⟩
  | .local _ .vmem, ⟨45, _⟩ => ⟨S512x256, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_call2_v0 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_call3_v0 : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_call4_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev main_v19_3 : Ref sig .tc := ⟨.hbm, 47, rfl⟩
abbrev main_v19_4 : Ref sig .tc := ⟨.hbm, 48, rfl⟩
abbrev main_v19_5 : Ref sig .tc := ⟨.hbm, 49, rfl⟩
abbrev main_v19_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ProjReferenceIdeal.lean ====
abbrev S2x8192x2048 : Shape := ⟨3, ![2, 8192, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩
abbrev S2x8193x2048 : Shape := ⟨3, ![2, 8193, 2048]⟩
abbrev S1x2048 : Shape := ⟨2, ![1, 2048]⟩
abbrev S1x1x2048 : Shape := ⟨3, ![1, 1, 2048]⟩
abbrev S2x8192x96 : Shape := ⟨3, ![2, 8192, 96]⟩
abbrev S2x8192x256 : Shape := ⟨3, ![2, 8192, 256]⟩
abbrev S2x8192x32x64 : Shape := ⟨4, ![2, 8192, 32, 64]⟩
abbrev S2x8192x32 : Shape := ⟨3, ![2, 8192, 32]⟩
abbrev S2x8192x32x1 : Shape := ⟨4, ![2, 8192, 32, 1]⟩
abbrev S16384x2048 : Shape := ⟨2, ![16384, 2048]⟩

abbrev nBuf : Space → Nat
  | .hbm => 149
  | .vmem => 0
  | .smem => 0
  | _ => 0

abbrev hbmTy0_0 (i : Nat) : BufTy := match i % 128 with
  | 0 => ⟨S2x8192x2048, .f32⟩
  | 1 => ⟨S6x2048, .f32⟩
  | 2 => ⟨S2048, .f32⟩
  | 3 => ⟨S2048x96, .f32⟩
  | 4 => ⟨S96x2048, .f32⟩
  | 5 => ⟨S2048, .f32⟩
  | 6 => ⟨S2048x96, .f32⟩
  | 7 => ⟨S96x2048, .f32⟩
  | 8 => ⟨S2048x256, .f32⟩
  | 9 => ⟨S256x2048, .f32⟩
  | 10 => ⟨S2048, .f32⟩
  | 11 => ⟨S2048, .f32⟩
  | 12 => ⟨S2048x2048, .f32⟩
  | 13 => ⟨S2048x2048, .f32⟩
  | 14 => ⟨S2048x2048, .f32⟩
  | 15 => ⟨S_, .i32⟩
  | 16 => ⟨S_, .f32⟩
  | 17 => ⟨S2x8193x2048, .f32⟩
  | 18 => ⟨S2x8192x2048, .f32⟩
  | 19 => ⟨S2x8192x2048, .f32⟩
  | 20 => ⟨S1x2048, .f32⟩
  | 21 => ⟨S2048, .f32⟩
  | 22 => ⟨S1x1x2048, .f32⟩
  | 23 => ⟨S2x8192x2048, .f32⟩
  | 24 => ⟨S2x8192x2048, .f32⟩
  | 25 => ⟨S2x8192x2048, .f32⟩
  | 26 => ⟨S1x2048, .f32⟩
  | 27 => ⟨S2048, .f32⟩
  | 28 => ⟨S1x1x2048, .f32⟩
  | 29 => ⟨S2x8192x2048, .f32⟩
  | 30 => ⟨S2x8192x2048, .f32⟩
  | 31 => ⟨S2x8192x2048, .f32⟩
  | 32 => ⟨S1x2048, .f32⟩
  | 33 => ⟨S2048, .f32⟩
  | 34 => ⟨S1x1x2048, .f32⟩
  | 35 => ⟨S2x8192x2048, .f32⟩
  | 36 => ⟨S2x8192x2048, .f32⟩
  | 37 => ⟨S2x8192x2048, .f32⟩
  | 38 => ⟨S1x2048, .f32⟩
  | 39 => ⟨S2048, .f32⟩
  | 40 => ⟨S1x1x2048, .f32⟩
  | 41 => ⟨S2x8192x2048, .f32⟩
  | 42 => ⟨S2x8192x2048, .f32⟩
  | 43 => ⟨S2x8192x2048, .f32⟩
  | 44 => ⟨S1x2048, .f32⟩
  | 45 => ⟨S2048, .f32⟩
  | 46 => ⟨S1x1x2048, .f32⟩
  | 47 => ⟨S2x8192x2048, .f32⟩
  | 48 => ⟨S2x8192x2048, .f32⟩
  | 49 => ⟨S2x8192x2048, .f32⟩
  | 50 => ⟨S1x2048, .f32⟩
  | 51 => ⟨S2048, .f32⟩
  | 52 => ⟨S1x1x2048, .f32⟩
  | 53 => ⟨S2x8192x2048, .f32⟩
  | 54 => ⟨S2x8192x2048, .f32⟩
  | 55 => ⟨S2x8192x2048, .f32⟩
  | 56 => ⟨S2x8192x2048, .f32⟩
  | 57 => ⟨S2x8192x2048, .f32⟩
  | 58 => ⟨S2x8192x2048, .f32⟩
  | 59 => ⟨S2x8192x96, .f32⟩
  | 60 => ⟨S2x8192x96, .f32⟩
  | 61 => ⟨S2x8192x2048, .f32⟩
  | 62 => ⟨S1x1x2048, .f32⟩
  | 63 => ⟨S2x8192x2048, .f32⟩
  | 64 => ⟨S2x8192x2048, .f32⟩
  | 65 => ⟨S2x8192x2048, .f32⟩
  | 66 => ⟨S_, .f32⟩
  | 67 => ⟨S2x8192x2048, .f32⟩
  | 68 => ⟨S2x8192x2048, .f32⟩
  | 69 => ⟨S2x8192x2048, .f32⟩
  | 70 => ⟨S2x8192x2048, .f32⟩
  | 71 => ⟨S2x8192x2048, .i1⟩
  | 72 => ⟨S2x8192x2048, .f32⟩
  | 73 => ⟨S2x8192x2048, .f32⟩
  | 74 => ⟨S2x8192x2048, .f32⟩
  | 75 => ⟨S2x8192x2048, .f32⟩
  | 76 => ⟨S2x8192x2048, .f32⟩
  | 77 => ⟨S2x8192x2048, .f32⟩
  | 78 => ⟨S2x8192x2048, .f32⟩
  | 79 => ⟨S2x8192x2048, .f32⟩
  | 80 => ⟨S2x8192x2048, .f32⟩
  | 81 => ⟨S_, .f32⟩
  | 82 => ⟨S2x8192x2048, .f32⟩
  | 83 => ⟨S2x8192x2048, .f32⟩
  | 84 => ⟨S2x8192x96, .f32⟩
  | 85 => ⟨S2x8192x2048, .f32⟩
  | 86 => ⟨S1x1x2048, .f32⟩
  | 87 => ⟨S2x8192x2048, .f32⟩
  | 88 => ⟨S2x8192x2048, .f32⟩
  | 89 => ⟨S2x8192x2048, .f32⟩
  | 90 => ⟨S2x8192x2048, .f32⟩
  | 91 => ⟨S_, .f32⟩
  | 92 => ⟨S2x8192x2048, .f32⟩
  | 93 => ⟨S2x8192x2048, .f32⟩
  | 94 => ⟨S_, .f32⟩
  | 95 => ⟨S2x8192x2048, .f32⟩
  | 96 => ⟨S2x8192x2048, .f32⟩
  | 97 => ⟨S2x8192x256, .f32⟩
  | 98 => ⟨S2x8192x256, .f32⟩
  | 99 => ⟨S2x8192x256, .f32⟩
  | 100 => ⟨S_, .f32⟩
  | 101 => ⟨S2x8192x256, .f32⟩
  | 102 => ⟨S2x8192x256, .f32⟩
  | 103 => ⟨S_, .f32⟩
  | 104 => ⟨S2x8192x256, .f32⟩
  | 105 => ⟨S2x8192x256, .f32⟩
  | 106 => ⟨S2x8192x2048, .f32⟩
  | 107 => ⟨S1x1x2048, .f32⟩
  | 108 => ⟨S2x8192x2048, .f32⟩
  | 109 => ⟨S2x8192x2048, .f32⟩
  | 110 => ⟨S2x8192x32x64, .f32⟩
  | 111 => ⟨S2x8192x32x64, .f32⟩
  | 112 => ⟨S_, .f32⟩
  | 113 => ⟨S2x8192x32, .f32⟩
  | 114 => ⟨S2x8192x32x1, .f32⟩
  | 115 => ⟨S2x8192x32x1, .f32⟩
  | 116 => ⟨S_, .f32⟩
  | 117 => ⟨S2x8192x32x1, .f32⟩
  | 118 => ⟨S2x8192x32x1, .f32⟩
  | 119 => ⟨S2x8192x32x64, .f32⟩
  | 120 => ⟨S2x8192x32x64, .f32⟩
  | 121 => ⟨S_, .f32⟩
  | 122 => ⟨S2x8192x2048, .f32⟩
  | 123 => ⟨S2x8192x2048, .f32⟩
  | 124 => ⟨S1x1x2048, .f32⟩
  | 125 => ⟨S2x8192x2048, .f32⟩
  | 126 => ⟨S2x8192x2048, .f32⟩
  | 127 => ⟨S_, .f32⟩
  | _ => ⟨S2x8192x2048, .f32⟩

abbrev hbmTy0_1 (i : Nat) : BufTy := match i % 128 with
  | 0 => ⟨S2x8192x2048, .f32⟩
  | 1 => ⟨S2x8192x2048, .f32⟩
  | 2 => ⟨S2x8192x2048, .f32⟩
  | 3 => ⟨S16384x2048, .f32⟩
  | 4 => ⟨S16384x2048, .bf16⟩
  | 5 => ⟨S2x8192x2048, .f32⟩
  | 6 => ⟨S2x8192x2048, .f32⟩
  | 7 => ⟨S16384x2048, .f32⟩
  | 8 => ⟨S16384x2048, .f32⟩
  | 9 => ⟨S16384x2048, .bf16⟩
  | 10 => ⟨S16384x2048, .f32⟩
  | 11 => ⟨S16384x2048, .bf16⟩
  | 12 => ⟨S2x8192x32x64, .f32⟩
  | 13 => ⟨S16384x2048, .f32⟩
  | 14 => ⟨S16384x2048, .bf16⟩
  | 15 => ⟨S2x8192x32x64, .f32⟩
  | 16 => ⟨S2x8192x32x64, .f32⟩
  | 17 => ⟨S16384x2048, .f32⟩
  | 18 => ⟨S16384x2048, .bf16⟩
  | 19 => ⟨S16384x2048, .f32⟩
  | 20 => ⟨S16384x2048, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v49 : Ref sig .tc := ⟨.hbm, 79, rfl⟩
abbrev main_v50 : Ref sig .tc := ⟨.hbm, 80, rfl⟩
abbrev main_cst : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_0 : Ref sig .tc := ⟨.hbm, 91, rfl⟩
abbrev main_v60 : Ref sig .tc := ⟨.hbm, 92, rfl⟩
abbrev main_v61 : Ref sig .tc := ⟨.hbm, 93, rfl⟩
abbrev main_cst_1 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_2 : Ref sig .tc := ⟨.hbm, 100, rfl⟩
abbrev main_v67 : Ref sig .tc := ⟨.hbm, 101, rfl⟩
abbrev main_v68 : Ref sig .tc := ⟨.hbm, 102, rfl⟩
abbrev main_cst_3 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_4 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_5 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_6 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_7 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== Proof.FfnBlock.lean ====
/-  The dense feed-forward layer at one grid point, element by element: what the body adds to its row block, and what
    it stores as the normalised rows. -/
module

public import proofs.«01_k».proof.Proof.Gen.FfnIdeal.Skeleton
public import Idealize.ShloMosaic.Lib.Pointwise

@[expose] public section

set_option maxRecDepth 16384

noncomputable section

namespace Cert.FfnIdeal.Block

open Cert.FfnIdeal Cert.FfnIdeal.Gen Idealize.ShloMosaic Idealize.ShloMosaic.TcCoe

/-- The hidden unit `k` of row `r`: the gate's projection times its sigmoid, times the other projection. -/
def hiddenUnit (x : Vec Ideal S512x2048 .bf16) (wg wu : Vec Ideal S2048x1024 .bf16) (r : Fin 512) (k : Fin 1024) : EReal :=
  ((∑ c : Fin 2048, x (ix2 r c) * wg (ix2 c k))
      * Ideal.div 1 (1 + Ideal.exp (-∑ c : Fin 2048, x (ix2 r c) * wg (ix2 c k))))
    * ∑ c : Fin 2048, x (ix2 r c) * wu (ix2 c k)

/-- What one tile of 1024 hidden units contributes to column `d` of row `r`. -/
def part (x : Vec Ideal S512x2048 .bf16) (wg wu : Vec Ideal S2048x1024 .bf16) (wd : Vec Ideal S1024x2048 .bf16)
    (j : S512x2048.Idx) : EReal :=
  ∑ k : Fin 1024, hiddenUnit x wg wu (j 0) k * wd (ix2 k (j 1))

/-- The body's product step adds the tile's contribution to the block found. -/
theorem tile (x : Vec Ideal S512x2048 .bf16) (wg wu : Vec Ideal S2048x1024 .bf16) (acc : Vec Ideal S512x2048 .f32)
    (wd : Vec Ideal S1024x2048 .bf16) (j : S512x2048.Idx) :
    k0_pay1 (F := Ideal) x wg wu acc wd j = acc j + part x wg wu wd j := by
  idx_vars j
  pointwise [k0_pay1, part, hiddenUnit, zero_sub]

end Cert.FfnIdeal.Block
end
-- ==== Proof.FfnRows.lean ====
/-  The dense feed-forward layer: the block left after the seven tiles of a row block, as one sum. -/
module

public import proofs.«01_k».proof.Proof.FfnBlock
public import proofs.«01_k».proof.Proof.Gen.FfnIdeal.Value
public import Idealize.ShloMosaic.Lib.Pipeline.ValueKit

@[expose] public section

set_option maxRecDepth 16384

noncomputable section

namespace Cert.FfnIdeal.Rows

open Cert.FfnIdeal Cert.FfnIdeal.Gen Cert.FfnIdeal.Block Idealize.ShloMosaic Idealize.ShloMosaic.TcCoe Idealize.SL.Sem
open Idealize.ShloMosaic.Pipeline (Dat)

variable (m : (ℓ : Loc nD τ sig) → Buf (Elt Ideal) ℓ)

/-- The contribution of grid point `t`'s tile. -/
def partAt (c : Dev nD) (t : Fin cfg0.N) (j : S512x2048.Idx) : EReal :=
  part (iblk m c 0 t) (iblk m c 1 t) (iblk m c 2 t) (iblk m c 3 t) j

/-- The residual row block of grid point `t`. -/
def residualRows (c : Dev nD) (t : Fin cfg0.N) : FVec Ideal S512x2048 .f32 := iblk m c 4 t

/-- What grid point `t` adds: the first tile of a row block brings the residual rows with it. -/
def added (c : Dev nD) (t : Fin cfg0.N) (j : S512x2048.Idx) : EReal :=
  if t.val % 7 = 0 then residualRows m c t j + partAt m c t j else partAt m c t j

theorem first (c : Dev nD) (t : Fin cfg0.N) (h : t.val % 7 = 0) (j : S512x2048.Idx) :
    (outsAt0 m c t.val t.isLt).1 j = (0 : EReal) + added m c t j := by
  rw [outsAt0_A m c t h (by omega)]; frame_out; rw [tile, zero_add, added, if_pos h]; rfl

theorem later (c : Dev nD) (t : Fin cfg0.N) (h : ¬t.val % 7 = 0) (j : S512x2048.Idx) :
    (outsAt0 m c t.val t.isLt).1 j
      = (outsAt0 m c (t.val - 1) (Nat.lt_of_le_of_lt (Nat.sub_le _ _) t.isLt)).1 j + added m c t j := by
  by_cases h6 : t.val % 7 = 6
  · rw [outsAt0_C m c t h h6]; frame_out; rw [tile, added, if_neg h]; rfl
  · rw [outsAt0_B m c t h h6]; frame_out; rw [tile, added, if_neg h]; rfl

/-- A sum whose first term carries something extra. -/
theorem sum_first (a p : Fin 7 → EReal) : (∑ s : Fin 7, if s.val = 0 then a s + p s else p s) = a 0 + ∑ s, p s := by
  rw [Fin.sum_univ_succ, Fin.sum_univ_succ (f := p), ← add_assoc]
  rfl

/-- After the last tile of a row block: the residual plus the seven tiles' contributions. -/
theorem last (c : Dev nD) (t : Fin cfg0.N) (h : t.val % 7 = 6) (j : S512x2048.Idx) :
    (outsAt0 m c t.val t.isLt).1 j
      = residualRows m c ⟨7 * (t.val / 7), by have := t.isLt; omega⟩ j
        + ∑ s : Fin 7, partAt m c ⟨7 * (t.val / 7) + s.val, Pipeline.run_point_lt_of_flush t h s⟩ j := by
  rw [Pipeline.eq_sum_fin_of_reset_step_apply_of_flush (fun n hn => (outsAt0 m c n hn).1) 7 (fun _ => (0 : EReal))
    (added m c) (first m c) (later m c) t h j]
  show (0 : EReal) + _ = _
  rw [zero_add]
  refine Eq.trans ?_ (sum_first (fun s => residualRows m c ⟨7 * (t.val / 7) + s.val, Pipeline.run_point_lt_of_flush t h s⟩ j) _)
  refine Fin.sum_fin_congr fun s => ?_
  unfold added
  have : (7 * (t.val / 7) + s.val) % 7 = 0 ↔ s.val = 0 := by omega
  simp only [this]

/-- The normalised rows are the body's second payload over the finished block. -/
theorem normed (c : Dev nD) (t : Fin cfg0.N) (h : t.val % 7 = 6) :
    (outsAt0 m c t.val t.isLt).2 = k0_pay2 (F := Ideal) (outsAt0 m c t.val t.isLt).1 (iblk m c 5 t) := by
  rw [outsAt0_C m c t (by omega) h]; frame_out

end Cert.FfnIdeal.Rows
end
-- ==== Proof.FfnResult.lean ====
/-  The dense feed-forward layer: both result arrays are the plain computation's terms. -/
module

public import proofs.«01_k».proof.Proof.FfnRows
public import proofs.«01_k».proof.Proof.Gen.FfnReferenceIdeal

@[expose] public section

set_option maxRecDepth 16384

noncomputable section

namespace Cert.FfnReferenceIdeal.Plain

open Cert.FfnReferenceIdeal Cert.FfnReferenceIdeal.Gen Idealize.ShloMosaic Idealize.ShloMosaic.TcCoe

/-- The residual plus the feed-forward layer, as the plain computation writes it. -/
def mixed (x : FVec Ideal S16384x2048 .bf16) (h : FVec Ideal S16384x2048 .f32) (wg wu : FVec Ideal S2048x7168 .f32)
    (wd : FVec Ideal S7168x2048 .f32) : FVec Ideal S16384x2048 .f32 :=
  addf h (Host.dotGeneral dot_S16384x7168_S7168x2048_S16384x2048_1_0_0_1_n_n none
    (mulf (mulf (Host.dotGeneral dot_S16384x2048_S2048x7168_S16384x7168_1_0_0_1_n_n none (extf .f32 x bitsLt_bf16_f32) wg)
      (Host.divf (broadcastInDim S16384x7168 ![] bcast_S_S16384x7168 (constant S_ .f32 0x3F800000#32))
        (addf (broadcastInDim S16384x7168 ![] bcast_S_S16384x7168 (constant S_ .f32 0x3F800000#32))
          (Host.exp (Host.negf
            (Host.dotGeneral dot_S16384x2048_S2048x7168_S16384x7168_1_0_0_1_n_n none (extf .f32 x bitsLt_bf16_f32) wg))))))
      (Host.dotGeneral dot_S16384x2048_S2048x7168_S16384x7168_1_0_0_1_n_n none (extf .f32 x bitsLt_bf16_f32) wu)) wd)

/-- The root-mean-square normalisation of the rows of `y`, scaled by `g`. -/
def normalised (y : FVec Ideal S16384x2048 .f32) (g : FVec Ideal S2048 .f32) : FVec Ideal S16384x2048 .f32 :=
  mulf (mulf y (broadcastInDim S16384x2048 ![0, 1] bcast_S16384x1_S16384x2048_0_1
    (Host.rsqrt (addf (Host.divf (broadcastInDim S16384x1 ![0] bcast_S16384_S16384x1_0
        (Host.reduceAdd (mulf y y) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

end Cert.FfnReferenceIdeal.Plain

namespace Cert.FfnIdeal.Result

open Cert.FfnIdeal Cert.FfnIdeal.Gen Cert.FfnIdeal.Block Cert.FfnIdeal.Rows
open Idealize.ShloMosaic Idealize.ShloMosaic.TcCoe Idealize.SL.Sem
open Idealize.ShloMosaic.Pipeline (Dat)
open Cert.FfnReferenceIdeal.Plain (mixed normalised)

variable (m : (ℓ : Loc nD τ sig) → Buf (Elt Ideal) ℓ)

/-- Which block each window hands a grid point: row blocks by `t / 7`, weight tiles by `t % 7`. -/
theorem idx : ∀ t : Fin cfg0.N, win0_0.index t = ![t.val / 7, 0] ∧ win0_1.index t = ![0, t.val % 7]
    ∧ win0_2.index t = ![0, t.val % 7] ∧ win0_3.index t = ![t.val % 7, 0] ∧ win0_4.index t = ![t.val / 7, 0]
    ∧ win0_5.index t = ![0, 0] ∧ win0_6.index t = ![t.val / 7, 0] ∧ win0_7.index t = ![t.val / 7, 0] :=
  (by decide +kernel : ∀ t : Fin grid0.N, _)

/-- The first result at the launch's arguments. -/
abbrev mixedOf (c : Dev nD) : FVec Ideal S16384x2048 .f32 :=
  mixed (m ((c : Thread nD τ).loc main_arg0)) (m ((c : Thread nD τ).loc main_arg1)) (m ((c : Thread nD τ).loc main_arg2))
    (m ((c : Thread nD τ).loc main_arg3)) (m ((c : Thread nD τ).loc main_arg4))

/-- A finished row block holds the plain computation's rows. -/
theorem rows (c : Dev nD) (t : Fin cfg0.N) (h : t.val % 7 = 6) (r : Fin 512) (d : Fin 2048) :
    (outsAt0 m c t.val t.isLt).1 (ix2 r d)
      = mixedOf m c (ix2 ⟨t.val / 7 * 512 + r.val, by have := lt_of_lt_of_eq t.isLt N_0; omega⟩ d) := by
  rw [last m c t h]
  pointwise [mixedOf, mixed, partAt, part, hiddenUnit, residualRows]
  refine Ideal.add_congr ?_ ?_
  · blk_ext! [iblk, V, idx ⟨7 * (t.val / 7), by have := t.isLt; omega⟩]
  · refine Fin.sum_mul_add_congr fun s k hl => ?_
    blk_point [iblk, V, idx ⟨_, Pipeline.run_point_lt_of_flush t h s⟩]

/-- The first result array. -/
theorem final6 (c : Dev nD) : (dats m 0 c).arrAt 6 cfg0.N = mixedOf m c := by
  refine (dats m 0 c).arrAt_eq_of_covers 6 _ (by decide +kernel) fun t hf y => ?_
  blk_simp
  rw [after0_6]
  have h := (flush0_6 t).mp hf
  have hr := rows m c t h (y 0) (y 1)
  rw [eq_ix2 y]
  refine hr.trans ?_
  blk_ext [idx t]

/-- The second result array. -/
theorem final7 (c : Dev nD) : (dats m 0 c).arrAt 7 cfg0.N
    = normalised (mixedOf m c) (m ((c : Thread nD τ).loc main_arg5)) := by
  refine (dats m 0 c).arrAt_eq_of_covers 7 _ (by decide +kernel) fun t hf y => ?_
  blk_simp
  rw [after0_7]
  have h := (flush0_7 t).mp hf
  rw [normed m c t h]
  pointwise [k0_pay2, normalised]
  reads_congr
  · rw [eq_ix2 y]
    refine (rows m c t h (y 0) (y 1)).trans ?_
    blk_ext [idx t]
  · refine (rows m c t h (y 0) x).trans ?_
    blk_ext [idx t]
  · blk_ext! [iblk, V, idx t]

end Cert.FfnIdeal.Result
end
-- ==== Proof.FfnClaim.lean ====
/-  The dense feed-forward layer computes what the plain computation computes. -/
module

public import proofs.«01_k».proof.Defs
public import proofs.«01_k».proof.Proof.FfnResult
public import proofs.«01_k».proof.Proof.Gen.Ffn.Frame
public import proofs.«01_k».proof.Proof.Gen.FfnReferenceIdeal.Run

@[expose] public section

set_option maxRecDepth 16384

noncomputable section

namespace Cert.FfnClaim

open Idealize.ShloMosaic Idealize.ShloMosaic.TcCoe Idealize.SL.Sem

theorem equal : Cert.algebraic_FfnIdeal_FfnReferenceIdeal (hFfnIdeal := Cert.FfnIdeal.Gen.facts)
    (hFfnReferenceIdeal := Cert.FfnReferenceIdeal.Gen.facts) := by
  intro m g m' g' _ agree
  refine ⟨fun c => FfnIdeal.Result.mixedOf m c,
    fun c => FfnReferenceIdeal.Plain.normalised (FfnIdeal.Result.mixedOf m c)
      (m ((c.tc : Thread FfnIdeal.nD FfnIdeal.τ).loc FfnIdeal.main_arg5)), ?_, ?_⟩
  · exact (θ_run _ _ _).mono (fun _ h c => ⟨(h c).1.trans (FfnIdeal.Result.final6 m c),
      (h c).2.1.trans (FfnIdeal.Result.final7 m c), (h c).2.2⟩) (FfnIdeal.Value.run_blocks m g)
  · refine (θ_run _ _ _).mono (fun _ h c => ⟨(h c).1.trans ?_, (h c).2.1.trans ?_, (h c).2.2⟩)
      (FfnReferenceIdeal.Value.run m' g')
    · obtain ⟨e0, e1, e2, e3, e4, e5⟩ := agree c
      rw [e0, e1, e2, e3, e4]; rfl
    · obtain ⟨e0, e1, e2, e3, e4, e5⟩ := agree c
      rw [e0, e1, e2, e3, e4, e5]; rfl

end Cert.FfnClaim
end
-- ==== Proof.MoeBody.lean ====
/-  One visit of the experts' kernel body: what it leaves in the accumulator block and in the unpacked rows. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.ValueKit.Acc
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two prefetched tables as the body is handed them: the expert of every row block, the number of row blocks in use. -/
abbrev expertTable : Memref sig .tc .smem S51 .i32 := Memref.whole main_arg0
abbrev usedTable : Memref sig .tc .smem S1 .i32 := Memref.whole main_arg1
abbrev TableBuf (c : Dev nD) {S : Shape} {e : EltTy} (M : Memref sig .tc .smem S e) : Type := Buf (Elt F) (M.view.loc (c : Thread nD τ))
abbrev tableAt (c : Dev nD) {S : Shape} {e : EltTy} (M : Memref sig .tc .smem S e) (f : TableBuf (F := F) c M) : sProp 𝕄 :=
  M.view.loc (c : Thread nD τ) ↦{fullShare.right} f

/-- The word the body compares its row block's number with. -/
def usedWord (c : Dev nD) (xt1 : TableBuf (F := F) c usedTable) : BitVec 32 :=
  View.readAt (Elt F) usedTable.view (Rect.unit (s := S1) ![0] S1.size inb_S1_S1_0).toLoadRect xt1
    (Shape.Idx.first (numel1_S1.symm ▸ Nat.one_pos))

/-- The two halves of the unpacked rows, as the body stores them. -/
abbrev halves (x0 : Vec F S768x1024 .i32) : List (View.Piece (Elt F) S768x2048 .bf16) :=
  [⟨Rect.unit (s := S768x2048) ![0, 1024] S768x1024.size inb_S768x2048_S768x1024_0_1024, k0_pay3 x0⟩,
    ⟨Rect.unit (s := S768x2048) ![0, 0] S768x1024.size inb_S768x2048_S768x1024_0_0, k0_pay2 x0⟩]

/-- The rows of a block, unpacked: the low halves of the words beside the high halves. -/
def unpacked (x0 : Vec F S768x1024 .i32) : Vec F S768x2048 .bf16 := View.canon (halves x0)

theorem read_halves (v : View sig .tc .vmem S768x2048 .bf16) (f : v.ty.Contents (Elt F)) (x0 : Vec F S768x1024 .i32) :
    v.read (Elt F) (v.writes (Elt F) f (halves x0)) = unpacked x0 :=
  (View.read_writes_of_cover v f v v.junk _ (View.cover_of_tiledL (halves x0) S768x1024.size (by sl_kernel_rfl))).trans
    (View.read_writes_junk_eq_canon _ _)

theorem readCov_halves (v : View sig .tc .vmem S768x2048 .bf16) (x0 : Vec F S768x1024 .i32) :
    v.readCov (halves x0) (Rect.unit (s := S768x2048) ![0, 0] S768x2048.size inb_S768x2048_S768x2048_0_0).toLoadRect = unpacked x0 :=
  (View.readCov_eq_canon_ld v _ _ (View.cover_of_tiledL (halves x0) S768x1024.size (by sl_kernel_rfl))).trans
    (View.ld_unit_lit' (by decide) _ (by decide))

/-- The accumulator block after the visit: a row block in use gains this tile's contribution. -/
def accumulated (c : Dev nD) (i : grid0.Coords) (xt1 : TableBuf (F := F) c usedTable) (rows : Vec F S768x2048 .bf16)
    (x1 x2 : Vec F S1x1x2048x512 .f32) (acc : Vec F S768x2048 .f32) (x3 : Vec F S1x1x512x2048 .f32) : Vec F S768x2048 .f32 :=
  if k0_cond2 i (usedWord c xt1) = 1#1 then k0_pay4 rows x1 x2 acc x3 else acc

/-- A later tile of a row block: the accumulator and the unpacked rows are found as the tile before left them. -/
theorem body_later (c : Dev nD) (i : grid0.Coords) (arg4 : Memref sig .tc .vmem S768x1024 .i32) (harg4 : arg4.IsWhole)
    (arg5 : Memref sig .tc .vmem S1x1x2048x512 .f32) (harg5 : arg5.IsWhole) (arg6 : Memref sig .tc .vmem S1x1x2048x512 .f32)
    (harg6 : arg6.IsWhole) (arg7 : Memref sig .tc .vmem S1x1x512x2048 .f32) (harg7 : arg7.IsWhole)
    (arg8 : Memref sig .tc .vmem S768x2048 .f32) (harg8 : arg8.IsWhole) (arg9 : Memref sig .tc .vmem S768x2048 .bf16) (harg9 : arg9.IsWhole)
    (x0 : Vec F S768x1024 .i32) (x1 : Vec F S1x1x2048x512 .f32) (x2 : Vec F S1x1x2048x512 .f32) (x3 : Vec F S1x1x512x2048 .f32)
    (xt0 : TableBuf (F := F) c expertTable) (xt1 : TableBuf (F := F) c usedTable)
    (acc : Vec F S768x2048 .f32) (rows : Vec F S768x2048 .bf16) (hf : ¬k0_cond1 i = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare acc ∗ owns (c : Thread nD τ) arg9 fullShare rows ∗ tableAt c expertTable xt0 ∗ tableAt c usedTable xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (accumulated c i xt1 rows x1 x2 acc x3) ∗ owns (c : Thread nD τ) arg9 fullShare rows ∗ tableAt c expertTable xt0 ∗ tableAt c usedTable xt1) -∗ K ⟨⟩))
      ⊢ wp frame (wpE (defs₀ (F := F)) Variants.none c none) E (cc0_moe_experts i expertTable (Memref.isWhole_whole _) usedTable (Memref.isWhole_whole _) arg4 harg4 arg5 harg5 arg6 harg6 arg7 harg7 arg8 harg8 arg9 harg9) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hf)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap
    · iexact H4
    ipureintro
    unfold body_later.sl.r accumulated
    show View.read (Elt F) arg8.view (if hc : k0_cond2 i (usedWord c xt1) = 1#1 then _ else _) = _
    by_cases ha : k0_cond2 i (usedWord c xt1) = 1#1
    · rw [dif_pos ha, if_pos ha, View.read_writes_full]
      simp (disch := decide) only [View.ld_unit_lit', View.readAt_eq_ld, Memref.IsWhole.read_unread]
    · rw [dif_neg ha, if_neg ha, harg8.read_unread]
  isplitl [HS0]
  · iexists _; isplitr; · ipureintro; exact harg9.read_unread _
    iexact HS0
  isplitl [HT0]; · iexact HT0
  iexact HT1

/-- The first tile of a row block: the accumulator is cleared and the rows are unpacked, whatever the buffers held. -/
theorem body_first (c : Dev nD) (i : grid0.Coords) (arg4 : Memref sig .tc .vmem S768x1024 .i32) (harg4 : arg4.IsWhole)
    (arg5 : Memref sig .tc .vmem S1x1x2048x512 .f32) (harg5 : arg5.IsWhole) (arg6 : Memref sig .tc .vmem S1x1x2048x512 .f32)
    (harg6 : arg6.IsWhole) (arg7 : Memref sig .tc .vmem S1x1x512x2048 .f32) (harg7 : arg7.IsWhole)
    (arg8 : Memref sig .tc .vmem S768x2048 .f32) (harg8 : arg8.IsWhole) (arg9 : Memref sig .tc .vmem S768x2048 .bf16) (harg9 : arg9.IsWhole)
    (x0 : Vec F S768x1024 .i32) (x1 : Vec F S1x1x2048x512 .f32) (x2 : Vec F S1x1x2048x512 .f32) (x3 : Vec F S1x1x512x2048 .f32)
    (xt0 : TableBuf (F := F) c expertTable) (xt1 : TableBuf (F := F) c usedTable)
    (hf : k0_cond1 i = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tableAt c expertTable xt0 ∗ tableAt c usedTable xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (accumulated c i xt1 (unpacked x0) x1 x2 k0_pay1 x3) ∗ owns (c : Thread nD τ) arg9 fullShare (unpacked x0) ∗ tableAt c expertTable xt0 ∗ tableAt c usedTable xt1) -∗ K ⟨⟩))
      ⊢ wp frame (wpE (defs₀ (F := F)) Variants.none c none) E (cc0_moe_experts i expertTable (Memref.isWhole_whole _) usedTable (Memref.isWhole_whole _) arg4 harg4 arg5 harg5 arg6 harg6 arg7 harg7 arg8 harg8 arg9 harg9) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
  obtain rfl := harg4.eq_unread hf0; obtain rfl := harg5.eq_unread hf1; obtain rfl := harg6.eq_unread hf2; obtain rfl := harg7.eq_unread hf3
  sl_exec (disch := first | sl_exact hf)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap
    · iexact H4
    ipureintro
    unfold body_first.sl.r accumulated
    show View.read (Elt F) arg8.view (if hc : k0_cond2 i (usedWord c xt1) = 1#1 then _ else _) = _
    by_cases ha : k0_cond2 i (usedWord c xt1) = 1#1
    · rw [dif_pos ha, if_pos ha, View.read_writes_full]
      unfold body_first.sl.v7 body_first.sl.v26 body_first.sl.HS0_2 body_first.sl.H4_1
      simp (disch := decide) only [View.ld_unit_lit', View.readAt_eq_ld, Memref.IsWhole.read_unread, View.readCov_unit_lit']
      rw [readCov_halves]
    · unfold body_first.sl.H4_1
      rw [dif_neg ha, if_neg ha, View.read_writes_full]
  isplitl [HS0]
  · iexists _; isplitr; swap
    · iexact HS0
    ipureintro
    unfold body_first.sl.HS0_2
    simp (disch := decide) only [View.ld_unit_lit', View.readAt_eq_ld, Memref.IsWhole.read_unread]
    exact read_halves _ _ _
  isplitl [HT0]; · iexact HT0
  iexact HT1

end Cert.MoeIdeal.Experts
end
-- ==== Proof.MoeData.lean ====
/-  The experts' pipeline: its tables, its blocks, when it writes back, and the proof data of one run. -/
module

public import proofs.«01_k».proof.Proof.MoeBody
public import Idealize.ShloMosaic.Lib.Pipeline.Kit
public import Idealize.ShloMosaic.Lib.Pipeline.TableIdle
public import Idealize.ShloMosaic.Lib.Claim

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as launched: the program is the one call. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables as launched, and the condition that every block they select lies inside its array. -/
def tables : pre0.Contents (Elt F) := fun j => V m (0 : Dev nD) (pre0.ref j)
theorem V_tables (c : Dev nD) (j : Fin 2) : V m c (pre0.ref j) = tables m j := by
  obtain rfl : c = 0 := Subsingleton.elim _ _; rfl
abbrev InRange : Prop := ok0 (F := F) (tables m)
abbrev adm (hO : InRange m) : (pcfg0 (F := F)).Adm := ⟨tables m, hO⟩
abbrev cfgM (hO : InRange m) : Pipeline.Cfg sig Λ₀ := cfg0 (adm m hO)

theorem tables_held (c : Dev nD) : (Pipeline.ΦT pre0 (tables m) c : sProp 𝕄)
    = iprop(tableAt c expertTable (tables m 0) ∗ tableAt c usedTable (tables m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at a point, read off the launched array. -/
def blockAt (hO : InRange m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The number of points, and a block's first tile: the points ≡ 0 (mod 14). -/
theorem points (hO : InRange m) : (cfgM m hO).N = 714 := N_0
theorem isFirst : ∀ t : Fin grid0.N, k0_cond1 (grid0.coords t) = 1#1 ↔ t.val % 14 = 0 := fun t => by
  have ht : t.val < 714 := Nat.lt_of_lt_of_eq t.isLt N_0
  have e1 : (grid0.coords t 1).val = t.val / 1 % 14 := Pipeline.Grid.coords_val t 1 (by decide) rfl
  simp only [k0_cond1, e1]
  word_cmp
/-- The result's block is written back after the last tile: the points ≡ 13 (mod 14). -/
theorem writesBack (a : (pcfg0 (F := F)).Adm) (t : Fin (cfg0 a).N) : ((cfg0 a).win 4).flush t = true ↔ t.val % 14 = 13 :=
  Pipeline.Window.flushOf_reads cc0_transform_4 reads0_4 hreads0_4 0 (by decide) (by decide)
    (Pipeline.Window.sep_of_coord cc0_transform_4 0 0 (fun _ => rfl) (by decide)) (P := 14) (m := 13) (by decide) rfl t

/-- The word the body loads is the word the pipeline reads off the table. -/
theorem usedWord_eq (c : Dev nD) : usedWord c (tables m 1) = (tables m).atD 1 ![0] := by
  rfl
theorem idle_iff (hO : InRange m) (c : Dev nD) (t : Fin (cfgM m hO).N) :
    (cfgM m hO).idle 4 ((cfgM m hO).grid.coords t) = true ↔ ¬t.val % 14 = 0 ∧ ¬k0_cond2 (grid0.coords t) (usedWord c (tables m 1)) = 1#1 := by
  rw [usedWord_eq, ← isFirst t]
  show (!(k0_cond1 (grid0.coords t) == 1#1) && !(k0_cond2 (grid0.coords t) ((tables m).atD 1 ![0]) == 1#1)) = true ↔ _
  simp

abbrev stage0 (hO : InRange m) (t : Fin (cfgM m hO).N) : Memref sig .tc .vmem S768x1024 .i32 := spec0_0.stage ((cfgM m hO).slots t 0)
abbrev stage1 (hO : InRange m) (t : Fin (cfgM m hO).N) : Memref sig .tc .vmem S1x1x2048x512 .f32 := spec0_1.stage ((cfgM m hO).slots t 1)
abbrev stage2 (hO : InRange m) (t : Fin (cfgM m hO).N) : Memref sig .tc .vmem S1x1x2048x512 .f32 := spec0_2.stage ((cfgM m hO).slots t 2)
abbrev stage3 (hO : InRange m) (t : Fin (cfgM m hO).N) : Memref sig .tc .vmem S1x1x512x2048 .f32 := spec0_3.stage ((cfgM m hO).slots t 3)
abbrev stage4 (hO : InRange m) (t : Fin (cfgM m hO).N) : Memref sig .tc .vmem S768x2048 .f32 := spec0_4.stage ((cfgM m hO).slots t 4)
abbrev rowsRef : Memref sig .tc .vmem S768x2048 .bf16 := Memref.whole cc0_scratch0
abbrev bodyAt (hO : InRange m) (t : Fin (cfgM m hO).N) : Prog (TpuEff nD τ sig (Elt F) Λ₀ .tc) PUnit :=
  cc0_moe_experts (grid0.coords t) expertTable (Memref.isWhole_whole _) usedTable (Memref.isWhole_whole _)
    (stage0 m hO t) (hstage0_0 (((cfgM m hO).slots t 0).cast nbuf0_0)) (stage1 m hO t) (hstage0_1 (((cfgM m hO).slots t 1).cast nbuf0_1))
    (stage2 m hO t) (hstage0_2 (((cfgM m hO).slots t 2).cast nbuf0_2)) (stage3 m hO t) (hstage0_3 (((cfgM m hO).slots t 3).cast nbuf0_3))
    (stage4 m hO t) (hstage0_4 (((cfgM m hO).slots t 4).cast nbuf0_4)) rowsRef (Memref.isWhole_whole _)

theorem scratch_held (c : Dev nD) :
    (Pipeline.ΦA spec0 c : sProp 𝕄) = iprop(iprop((∃ d, owns (c : Thread nD τ) rowsRef fullShare d)) ∗ (∃ r, prngReg c r)) := by
  unfold Pipeline.ΦA; rw [scopedRest0_eq]; simp only [rowsRef, owns_whole]; try rfl

/-- What a point leaves on finding `acc` and `rows`: the accumulator block and the unpacked rows. -/
def visit (hO : InRange m) (c : Dev nD) (t : Fin (cfgM m hO).N) (rows : Vec F S768x2048 .bf16) (acc : Vec F S768x2048 .f32) : Vec F S768x2048 .f32 :=
  accumulated c (grid0.coords t) (tables m 1) rows (blockAt m hO c 1 t) (blockAt m hO c 2 t) acc (blockAt m hO c 3 t)
/-- The same at a block's first tile: the rows freshly unpacked, the accumulator cleared. -/
def opening (hO : InRange m) (c : Dev nD) (t : Fin (cfgM m hO).N) : Vec F S768x2048 .f32 × Vec F S768x2048 .bf16 :=
  (visit m hO c t (unpacked (blockAt m hO c 0 t)) k0_pay1, unpacked (blockAt m hO c 0 t))

/-- The accumulator block and the unpacked rows after each point. -/
def after (hO : InRange m) (c : Dev nD) : (n : ℕ) → n < (cfgM m hO).N → Vec F S768x2048 .f32 × Vec F S768x2048 .bf16
  | 0, hn => opening m hO c ⟨0, hn⟩
  | n + 1, hn => if (n + 1) % 14 = 0 then opening m hO c ⟨n + 1, hn⟩
      else (visit m hO c ⟨n + 1, hn⟩ (after hO c n (Nat.lt_of_succ_lt hn)).2 (after hO c n (Nat.lt_of_succ_lt hn)).1, (after hO c n (Nat.lt_of_succ_lt hn)).2)

theorem pred_lt (hO : InRange m) (t : Fin (cfgM m hO).N) : t.val - 1 < (cfgM m hO).N := Nat.lt_of_le_of_lt (Nat.sub_le _ _) t.isLt
theorem after_first (hO : InRange m) (c : Dev nD) (t : Fin (cfgM m hO).N) (h : t.val % 14 = 0) : after m hO c t.val t.isLt = opening m hO c t := by
  obtain ⟨n, hn⟩ := t
  cases n with
  | zero => rfl
  | succ n => exact if_pos h
theorem after_later (hO : InRange m) (c : Dev nD) (t : Fin (cfgM m hO).N) (h : ¬t.val % 14 = 0) :
    after m hO c t.val t.isLt = (visit m hO c t (after m hO c (t.val - 1) (pred_lt m hO t)).2 (after m hO c (t.val - 1) (pred_lt m hO t)).1,
      (after m hO c (t.val - 1) (pred_lt m hO t)).2) := by
  obtain ⟨n, hn⟩ := t
  cases n with
  | zero => exact absurd (Nat.zero_mod _) h
  | succ n => exact if_neg h

/-- Between points: the rows' buffer at what the point before left, at anything before the first. -/
def between (hO : InRange m) (c : Dev nD) : (n : ℕ) → n ≤ (cfgM m hO).N → sProp 𝕄
  | 0, _ => iprop(Pipeline.ΦA spec0 c ∗ Pipeline.ΦT pre0 (tables m) c)
  | n + 1, hn => iprop(iprop(owns (c : Thread nD τ) rowsRef fullShare (after m hO c n hn).2 ∗ (∃ r, prngReg c r)) ∗ Pipeline.ΦT pre0 (tables m) c)
theorem between_pos (hO : InRange m) (c : Dev nD) (n : ℕ) (h : n ≤ (cfgM m hO).N) (hz : n ≠ 0) :
    between m hO c n h = iprop(iprop(owns (c : Thread nD τ) rowsRef fullShare (after m hO c (n - 1) (by omega)).2 ∗ (∃ r, prngReg c r)) ∗ Pipeline.ΦT pre0 (tables m) c) := by
  cases n with
  | zero => exact absurd rfl hz
  | succ n => rfl
/-- At any point the rows' buffer holds something. -/
theorem between_any (hO : InRange m) (c : Dev nD) (n : ℕ) (h : n ≤ (cfgM m hO).N) :
    between m hO c n h ⊢ iprop(Pipeline.ΦA spec0 c ∗ Pipeline.ΦT pre0 (tables m) c) := by
  by_cases hz : n = 0
  · subst hz; exact Idealize.SL.BI.Entails.refl _
  · rw [between_pos m hO c n h hz, scratch_held]
    iintro ⟨⟨HS, Hg⟩, HT⟩
    isplitl [HS Hg]
    · isplitl [HS]
      · iexists _; iexact HS
      iexact Hg
    iexact HT

/-- The proof data: every input block left in place, the accumulator at `after`. -/
def dats (hO : InRange m) (_ : Fin 1) (c : Dev nD) : Dat τ (Elt F) Unit ℕ (UR sig nD τ) ℕ (cfgM m hO) c where
  A w := V m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => (after m hO c t.val t.isLt).1
  Φ t := between m hO c t.val (Nat.le_of_lt_succ t.isLt)
  q _ := fullShare
  owed _ := 0

theorem A_eq (hO : InRange m) (c : Dev nD) (w : Fin (cfgM m hO).W) : (dats m hO 0 c).A w = V m c (Pipeline.arrRef spec0 w) := by
  dsimp only [dats]
theorem start_eq (hO : InRange m) (c : Dev nD) (t : Fin (cfgM m hO).N) :
    (dats m hO 0 c).Φ t.castSucc = between m hO c t.val (Nat.le_of_lt t.isLt) := by
  dsimp only [dats]; exact Pipeline.Dat.Φ_castSucc (between m hO c) t
theorem after0_0 (hO : InRange m) (c : Dev nD) (t : Fin (cfgM m hO).N) : (dats m hO 0 c).after 0 t = blockAt m hO c 0 t := by dsimp only [dats]; try rfl
theorem after0_1 (hO : InRange m) (c : Dev nD) (t : Fin (cfgM m hO).N) : (dats m hO 0 c).after 1 t = blockAt m hO c 1 t := by dsimp only [dats]; try rfl
theorem after0_2 (hO : InRange m) (c : Dev nD) (t : Fin (cfgM m hO).N) : (dats m hO 0 c).after 2 t = blockAt m hO c 2 t := by dsimp only [dats]; try rfl
theorem after0_3 (hO : InRange m) (c : Dev nD) (t : Fin (cfgM m hO).N) : (dats m hO 0 c).after 3 t = blockAt m hO c 3 t := by dsimp only [dats]; try rfl
theorem after0_4 (hO : InRange m) (c : Dev nD) (t : Fin (cfgM m hO).N) : (dats m hO 0 c).after 4 t = (after m hO c t.val t.isLt).1 := by dsimp only [dats]; try rfl

/-- Each input's staging buffer holds its block at every point. -/
theorem before0_0 (hO : InRange m) (c : Dev nD) (t : Fin (cfgM m hO).N) (d) : (dats m hO 0 c).before 0 t d = blockAt m hO c 0 t :=
  ((dats m hO 0 c).before_in_eq_fetched 0 rfl (fun _ => rfl) (fun _ _ _ => rfl) (fun t => by rw [after0_0]; unfold Dat.blockOf blockAt; rw [A_eq]; try rfl) t d).trans
    (by unfold Dat.fetched Dat.blockOf blockAt; rw [A_eq]; try rfl)
theorem before0_1 (hO : InRange m) (c : Dev nD) (t : Fin (cfgM m hO).N) (d) : (dats m hO 0 c).before 1 t d = blockAt m hO c 1 t :=
  ((dats m hO 0 c).before_in_eq_fetched 1 rfl (fun _ => rfl) (fun _ _ _ => rfl) (fun t => by rw [after0_1]; unfold Dat.blockOf blockAt; rw [A_eq]; try rfl) t d).trans
    (by unfold Dat.fetched Dat.blockOf blockAt; rw [A_eq]; try rfl)
theorem before0_2 (hO : InRange m) (c : Dev nD) (t : Fin (cfgM m hO).N) (d) : (dats m hO 0 c).before 2 t d = blockAt m hO c 2 t :=
  ((dats m hO 0 c).before_in_eq_fetched 2 rfl (fun _ => rfl) (fun _ _ _ => rfl) (fun t => by rw [after0_2]; unfold Dat.blockOf blockAt; rw [A_eq]; try rfl) t d).trans
    (by unfold Dat.fetched Dat.blockOf blockAt; rw [A_eq]; try rfl)
theorem before0_3 (hO : InRange m) (c : Dev nD) (t : Fin (cfgM m hO).N) (d) : (dats m hO 0 c).before 3 t d = blockAt m hO c 3 t :=
  ((dats m hO 0 c).before_in_eq_fetched 3 rfl (fun _ => rfl) (fun _ _ _ => rfl) (fun t => by rw [after0_3]; unfold Dat.blockOf blockAt; rw [A_eq]; try rfl) t d).trans
    (by unfold Dat.fetched Dat.blockOf blockAt; rw [A_eq]; try rfl)

/-- At a point where the body stores nothing the accumulator is what it was. -/
theorem after_idle (hO : InRange m) (c : Dev nD) (t : Fin (cfgM m hO).N) (hi : (cfgM m hO).idle 4 ((cfgM m hO).grid.coords t) = true) :
    (after m hO c t.val t.isLt).1 = (after m hO c (t.val - 1) (pred_lt m hO t)).1 := by
  obtain ⟨h, hu⟩ := (idle_iff m hO c t).mp hi
  rw [after_later m hO c t h]
  exact if_neg hu
/-- The accumulator's buffer is fresh exactly at the first tiles. -/
theorem fresh_eq (hO : InRange m) (n : ℕ) (hn : n ≤ (cfgM m hO).N) : (cfgM m hO).fresh 4 n = decide (n % 14 = 0) := by
  refine (cfgM m hO).fresh_tab 4 (fun n => decide (n % 14 = 0)) rfl (fun t => ?_) n hn
  by_cases hf : ((cfgM m hO).win 4).flush t = true
  · have := (writesBack (adm m hO) t).mp hf
    rw [hf]; simp; omega
  · have hnf : ¬t.val % 14 = 13 := fun h => hf ((writesBack (adm m hO) t).mpr h)
    rw [Bool.eq_false_iff.mpr hf, Bool.false_or]
    have h1 : ¬(t.val + 1) % 14 = 0 := by omega
    rw [decide_eq_false h1]
    by_cases h0 : t.val % 14 = 0
    · have hi : ¬(cfgM m hO).idle 4 ((cfgM m hO).grid.coords t) = true := fun h => ((idle_iff m hO 0 t).mp h).1 h0
      rw [Bool.eq_false_iff.mpr hi]; rfl
    · rw [decide_eq_false h0, Bool.and_false]
/-- At a later tile the accumulator's buffer holds what the point before left. -/
theorem before0_4 (hO : InRange m) (c : Dev nD) (t : Fin (cfgM m hO).N) (h : ¬t.val % 14 = 0) (d) :
    (dats m hO 0 c).before 4 t d = (after m hO c (t.val - 1) (pred_lt m hO t)).1 := by
  rw [(dats m hO 0 c).before_out_traj 4 rfl (fun _ _ => rfl) (fun t hz hi hfr => by
      rw [after0_4, after0_4]; exact after_idle m hO c t hi) t.val t rfl d,
    fresh_eq m hO _ (Nat.le_of_lt t.isLt), decide_eq_false h, if_neg (by decide), after0_4]

end Cert.MoeIdeal.Experts
end
-- ==== Proof.MoeRun.lean ====
/-  The run of the experts' kernel: the body at every point, the launch, and the arguments unchanged at the end. -/
module

public import proofs.«01_k».proof.Proof.MoeData

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer at `after` is what the point owes: at a point that stores nothing, the buffer as it was found. -/
theorem leaves_result (hO : InRange m) (c : Dev nD) (t : Fin (cfgM m hO).N) :
    owns (c : Thread nD τ) (stage4 m hO t) fullShare (after m hO c t.val t.isLt).1 ⊢ (dats m hO 0 c).leavesExact 4 t := by
  by_cases hi : (cfgM m hO).idle 4 ((cfgM m hO).grid.coords t) = true
  · by_cases hf : ((cfgM m hO).win 4).flush t = true
    · unfold Dat.leavesExact
      rw [hi, hf]
      dsimp only
      rw [after0_4]; exact Idealize.SL.BI.Entails.refl _
    · rw [(dats m hO 0 c).leavesExact_idle 4 t hi (Bool.eq_false_iff.mpr hf), after_idle m hO c t hi]
      simp only [before0_4 m hO c t ((idle_iff m hO c t).mp hi).1]
      iintro H
      iexists (after m hO c (t.val - 1) (pred_lt m hO t)).1
      iexact H
  · unfold Dat.leavesExact
    rw [Bool.eq_false_iff.mpr hi]
    dsimp only
    rw [after0_4]; exact Idealize.SL.BI.Entails.refl _

/-- What the body is called with, and what it returns. -/
def bodyPre (hO : InRange m) (c : Dev nD) (t : Fin (cfgM m hO).N) : sProp 𝕄 :=
  iprop((dats m hO 0 c).Φ t.castSucc ∗ (dats m hO 0 c).owesAt () t.castSucc
    ∗ (∃ d, owns (c : Thread nD τ) (stage0 m hO t) fullShare ((dats m hO 0 c).before 0 t d))
    ∗ (∃ d, owns (c : Thread nD τ) (stage1 m hO t) fullShare ((dats m hO 0 c).before 1 t d))
    ∗ (∃ d, owns (c : Thread nD τ) (stage2 m hO t) fullShare ((dats m hO 0 c).before 2 t d))
    ∗ (∃ d, owns (c : Thread nD τ) (stage3 m hO t) fullShare ((dats m hO 0 c).before 3 t d))
    ∗ (∃ d, owns (c : Thread nD τ) (stage4 m hO t) fullShare ((dats m hO 0 c).before 4 t d)))
def bodyPost (hO : InRange m) (c : Dev nD) (t : Fin (cfgM m hO).N) : sProp 𝕄 :=
  iprop((dats m hO 0 c).Φ t.succ ∗ (dats m hO 0 c).owesAt () t.succ
    ∗ owns (c : Thread nD τ) (stage0 m hO t) fullShare ((dats m hO 0 c).after 0 t)
    ∗ owns (c : Thread nD τ) (stage1 m hO t) fullShare ((dats m hO 0 c).after 1 t)
    ∗ owns (c : Thread nD τ) (stage2 m hO t) fullShare ((dats m hO 0 c).after 2 t)
    ∗ owns (c : Thread nD τ) (stage3 m hO t) fullShare ((dats m hO 0 c).after 3 t)
    ∗ (dats m hO 0 c).leavesExact 4 t)

set_option maxHeartbeats 3200000 in
theorem body_at (hO : InRange m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3]
  rw [show (dats m hO 0 c).owesAt () t.succ = (dats m hO 0 c).owesAt () t.castSucc from rfl, after0_0, after0_1, after0_2, after0_3]
  rw [show (dats m hO 0 c).Φ t.succ = iprop(iprop(owns (c : Thread nD τ) rowsRef fullShare (after m hO c t.val t.isLt).2 ∗ (∃ r, prngReg c r)) ∗ Pipeline.ΦT pre0 (tables m) c) from rfl,
    start_eq, tables_held]
  have hres := leaves_result m hO c t
  by_cases h0 : t.val % 14 = 0
  · rw [after_first m hO c t h0] at hres ⊢
    refine (sep_mono (between_any m hO c _ _) .rfl).trans ?_
    rw [tables_held, scratch_held]
    iintro ⟨⟨⟨HS, Hg⟩, ⟨HT0, HT1⟩⟩, Ho, ⟨%d0, H0⟩, ⟨%d1, H1⟩, ⟨%d2, H2⟩, ⟨%d3, H3⟩, ⟨%d4, H4⟩⟩
    iapply (body_first c (grid0.coords t) _ _ _ _ _ _ _ _ _ _ _ _ (blockAt m hO c 0 t) (blockAt m hO c 1 t) (blockAt m hO c 2 t) (blockAt m hO c 3 t) (tables m 0) (tables m 1) ((isFirst t).mpr h0) Set.univ _)
    isplitl [H0]; · iexact H0
    isplitl [H1]; · iexact H1
    isplitl [H2]; · iexact H2
    isplitl [H3]; · iexact H3
    isplitl [H4]; · iexists _; iexact H4
    isplitl [HS]; · iexact HS
    isplitl [HT0]; · iexact HT0
    isplitl [HT1]; · iexact HT1
    iintro ⟨H0, H1, H2, H3, H4, HS, HT0, HT1⟩
    isplitl [HS Hg HT0 HT1]
    · isplitl [HS Hg]
      · isplitl [HS]; · iexact HS
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iapply hres
    iexact H4
  · have hz : t.val ≠ 0 := fun h => h0 (by rw [h])
    rw [after_later m hO c t h0] at hres ⊢
    rw [between_pos m hO c _ _ hz, tables_held]
    simp only [before0_4 m hO c t h0]
    iintro ⟨⟨⟨HS, Hg⟩, ⟨HT0, HT1⟩⟩, Ho, ⟨%d0, H0⟩, ⟨%d1, H1⟩, ⟨%d2, H2⟩, ⟨%d3, H3⟩, ⟨%d4, H4⟩⟩
    iapply (body_later c (grid0.coords t) _ _ _ _ _ _ _ _ _ _ _ _ (blockAt m hO c 0 t) (blockAt m hO c 1 t) (blockAt m hO c 2 t) (blockAt m hO c 3 t) (tables m 0) (tables m 1) _ _ (fun h => h0 ((isFirst t).mp h)) Set.univ _)
    isplitl [H0]; · iexact H0
    isplitl [H1]; · iexact H1
    isplitl [H2]; · iexact H2
    isplitl [H3]; · iexact H3
    isplitl [H4]; · iexact H4
    isplitl [HS]; · iexact HS
    isplitl [HT0]; · iexact HT0
    isplitl [HT1]; · iexact HT1
    iintro ⟨H0, H1, H2, H3, H4, HS, HT0, HT1⟩
    isplitl [HS Hg HT0 HT1]
    · isplitl [HS Hg]
      · isplitl [HS]; · iexact HS
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iapply hres
    iexact H4

theorem body_row (hO : InRange m) (t : Fin (cfgM m hO).N) :
    defs₀ (F := F) .tc (cfgM m hO).body ((cfgM m hO).bodyArgs t ((cfgM m hO).slots t)) = bodyAt m hO t := by
  unfold defs₀; rw [Defs.onTc_tc]
theorem body_obligation (hO : InRange m) (c : Dev nD) : BodyObligation (dats (F := F) m hO 0 c) (defs₀ (F := F)) Variants.none () Set.univ := fun t => by
  rw [bigSep_W0, bigSep_W0, body_row m hO]
  exact triple_restated (body_at m hO c t) rfl .rfl fun _ => .rfl

theorem hin (hO : InRange m) (c : Dev nD) : iprop(Pipeline.ΦA spec0 c ∗ Pipeline.ΦT pre0 (tables m) c) ⊢ (dats m hO 0 c).Φ 0 := by
  rw [show (dats m hO 0 c).Φ 0 = iprop(Pipeline.ΦA spec0 c ∗ Pipeline.ΦT pre0 (tables m) c) from rfl]
theorem hout (hO : InRange m) (c : Dev nD) : (dats m hO 0 c).Φ (Fin.last (cfgM m hO).N) ⊢ Pipeline.ΦA spec0 c := by
  rw [show (dats m hO 0 c).Φ (Fin.last (cfgM m hO).N) = between m hO c (Fin.last (cfgM m hO).N).val (Nat.le_of_lt_succ (Fin.last (cfgM m hO).N).isLt) from rfl]
  refine (between_any m hO c _ _).trans ?_
  iintro ⟨H, -⟩
  iexact H

set_option backward.isDefEq.respectTransparency.types false in
/-- The launch: every array of the pipeline as the proof data says, every other buffer as launched, every counter at zero. -/
theorem run_quiescent (hO : InRange m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_tables m)
    (hin := hin m hO) (hout := hout m hO)
theorem run (hO : InRange m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The frame: every argument ends as it was, with every counter at zero. -/
theorem frame_run (hO : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_quiescent m ρ hO)

end Cert.MoeIdeal.Experts
end
-- ==== Proof.MoeTables.lean ====
/-  The tables of the experts' call: what the precondition says of them, and which blocks they select. -/
module

public import proofs.«01_k».proof.Proof.MoeData
public import Idealize.ShloMosaic.Lib.WordCmp
public import Idealize.ShloMosaic.Lib.ReduceAll
public import Idealize.ShloMosaic.Lib.Pipeline.ValueKit
public import proofs.«01_k».proof.Pre_tables_in_range
public import proofs.«01_k».proof.Proof.Gen.Pre_tables_in_range

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A grid coordinate read back signed from its word. -/
theorem coord_toInt {n : ℕ} (h : n < 714) : (BitVec.ofNat 32 n).toInt = (n : ℤ) := WordCmp.toInt_ofNat_of_lt (by omega)
/-- The smaller of a coordinate and the last block in use. -/
theorem clamped {n : ℕ} (h : n < 714) {u : BitVec 32} (hu : 1 ≤ u.toInt) :
    (Scalar.minsi (BitVec.ofNat 32 n) (Scalar.subi u 1#32)).toNat ≤ n
      ∧ ((n : ℤ) < u.toInt → (Scalar.minsi (BitVec.ofNat 32 n) (Scalar.subi u 1#32)).toNat = n) := by
  have hn := coord_toInt h
  have hlt := BitVec.toInt_lt (x := u)
  have hs : (Scalar.subi u 1#32).toInt = u.toInt - 1 := by
    show (u - 1#32).toInt = _
    rw [BitVec.toInt_sub]
    show (u.toInt - 1).bmod (2 ^ 32) = _
    rw [Int.bmod_def]; omega
  have hN : ∀ w : BitVec 32, 0 ≤ w.toInt → (w.toNat : ℤ) = w.toInt := fun w hw => by
    rw [BitVec.toInt_eq_toNat_cond] at hw ⊢; split at hw <;> split <;> omega
  simp only [Scalar.minsi, IntOp.minsi, BitVec.slt_eq_decide, decide_eq_true_eq, hs, hn]
  have h1 := hN (BitVec.ofNat 32 n) (by omega)
  have h2 := hN (Scalar.subi u 1#32) (by omega)
  split <;> constructor <;> omega

variable (m : (ℓ : Loc nD τ sig) → Buf (Elt F) ℓ)

/-- The expert of a row block, and the number of row blocks in use. -/
def expertOf (b : Fin 51) : BitVec 32 := tables m 0 (ix1 b : S51.Idx)
def usedBlocks : BitVec 32 := tables m 1 (ix1 (0 : Fin 1) : S1.Idx)

/-- Every row block's expert exists, and at least one row block is in use. -/
structure Valid : Prop where
  expert : ∀ b, 0 ≤ (expertOf m b).toInt ∧ (expertOf m b).toInt < 8
  used : 1 ≤ (usedBlocks m).toInt

theorem Valid.expert_lt (hv : Valid m) (b : Fin 51) : (expertOf m b).toNat < 8 := by
  obtain ⟨h0, h8⟩ := hv.expert b
  rw [BitVec.toInt_eq_toNat_cond] at h0 h8; split at h0 <;> omega

theorem usedWord_used (c : Dev nD) : usedWord c (tables m 1) = usedBlocks m :=
  congrArg (tables m 1) (funext fun a => Fin.ext (by fin_cases a; rfl))
/-- The word an index map reads of each table. -/
theorem used_read : (tables m).at 1 (Rect.unit (s := S1) ![0] S1.size inb_S1_S1_0) numel1_S1 = usedBlocks m :=
  congrArg (tables m 1) (funext fun a => Fin.ext (by fin_cases a; rfl))
theorem expert_read (i : grid0.Coords) (h) : (tables m).at 0 (Rect.unit (s := S51) ![(Scalar.indexCast (BitVec.ofNat 32 (i 0).val) : Index).toNat] S1.size h) numel1_S1
    = expertOf m (i 0) :=
  congrArg (tables m 0) (funext fun a => Fin.ext (by
    have h0 : (i 0).val < 51 := (i 0).isLt
    fin_cases a
    show (BitVec.ofNat 32 (i 0).val).toNat + 0 = (i 0).val
    rw [BitVec.toNat_ofNat]; omega))

/-- A row block is computed when it is one of those in use. -/
abbrev Active (i : grid0.Coords) : Prop := ((i 0).val : ℤ) < (usedBlocks m).toInt
theorem slt_iff (i : grid0.Coords) : Scalar.cmpi .slt (BitVec.ofNat 32 (i 0).val) (usedBlocks m) = 1#1 ↔ Active m i := by
  have h0 : (i 0).val < 51 := (i 0).isLt
  unfold Active
  rw [← coord_toInt (show (i 0).val < 714 by omega)]; exact IntOp.cmpi_slt
theorem active_iff (c : Dev nD) (i : grid0.Coords) : k0_cond2 i (usedWord c (tables m 1)) = 1#1 ↔ Active m i := by
  rw [usedWord_used, ← slt_iff]
  simp only [k0_cond2]
  generalize Scalar.cmpi .slt (BitVec.ofNat 32 (i 0).val) (usedBlocks m) = z
  revert z; decide

/-- The blocks the index maps select. -/
def tile (i : grid0.Coords) : ℕ := if Active m i then (i 1).val else 13
theorem tile_lt (i : grid0.Coords) : tile m i < 14 := by
  have h1 : (i 1).val < 14 := (i 1).isLt
  unfold tile; split <;> omega
theorem tile_word (i : grid0.Coords) : (Scalar.select (Scalar.cmpi .slt (BitVec.ofNat 32 (i 0).val) (usedBlocks m)) (BitVec.ofNat 32 (i 1).val) 13#32).toNat = tile m i := by
  have h1 : (i 1).val < 14 := (i 1).isLt
  unfold Scalar.select tile
  by_cases h : Active m i
  · have e : Scalar.cmpi .slt (BitVec.ofNat 32 (i 0).val) (usedBlocks m) = 1 := (slt_iff m i).mpr h
    rw [if_pos h, if_pos e, BitVec.toNat_ofNat]; omega
  · have e : ¬Scalar.cmpi .slt (BitVec.ofNat 32 (i 0).val) (usedBlocks m) = 1 := fun e => h ((slt_iff m i).mp e)
    rw [if_neg h, if_neg e]; rfl
theorem map1 (i : grid0.Coords) : cc0_transform_1 k0_off1_inb numel1_S1 inb_S1_S1_0 (tables m) i = ![1, (expertOf m (i 0)).toNat, 0, tile m i] := by
  rw [← tile_word]
  exact congrArg₂ (fun x y : BitVec 32 => (![1, x.toNat, 0, (Scalar.select (Scalar.cmpi .slt (BitVec.ofNat 32 (i 0).val) y) (BitVec.ofNat 32 (i 1).val) 13#32).toNat] : Fin 4 → ℕ)) (expert_read m i (k0_off1_inb i)) (used_read m)
theorem map2 (i : grid0.Coords) : cc0_transform_2 k0_off1_inb numel1_S1 inb_S1_S1_0 (tables m) i = ![1, (expertOf m (i 0)).toNat, 0, tile m i] := by
  rw [← tile_word]
  exact congrArg₂ (fun x y : BitVec 32 => (![1, x.toNat, 0, (Scalar.select (Scalar.cmpi .slt (BitVec.ofNat 32 (i 0).val) y) (BitVec.ofNat 32 (i 1).val) 13#32).toNat] : Fin 4 → ℕ)) (expert_read m i (k0_off1_inb i)) (used_read m)
theorem map3 (i : grid0.Coords) : cc0_transform_3 k0_off1_inb numel1_S1 inb_S1_S1_0 (tables m) i = ![1, (expertOf m (i 0)).toNat, tile m i, 0] := by
  rw [← tile_word]
  exact congrArg₂ (fun x y : BitVec 32 => (![1, x.toNat, (Scalar.select (Scalar.cmpi .slt (BitVec.ofNat 32 (i 0).val) y) (BitVec.ofNat 32 (i 1).val) 13#32).toNat, 0] : Fin 4 → ℕ)) (expert_read m i (k0_off1_inb i)) (used_read m)
/-- The row block read: at most the point's own, and its own when it is in use. -/
theorem map0 (hv : Valid m) (i : grid0.Coords) : ∃ n ≤ (i 0).val, (Active m i → n = (i 0).val)
    ∧ cc0_transform_0 inb_S1_S1_0 numel1_S1 (tables m) i = ![n, 0] := by
  have h0 : (i 0).val < 51 := (i 0).isLt
  obtain ⟨h1, h2⟩ := clamped (show (i 0).val < 714 by omega) hv.used
  refine ⟨_, h1, h2, ?_⟩
  exact congrArg (fun y : BitVec 32 => (![(Scalar.minsi (BitVec.ofNat 32 (i 0).val) (Scalar.subi y 1#32)).toNat, 0] : Fin 2 → ℕ)) (used_read m)

/-- Valid tables select blocks inside their arrays. -/
theorem Valid.inRange (hv : Valid m) : InRange m := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · have h0 : (i 0).val < 51 := (i 0).isLt
    obtain ⟨n, hn, -, e⟩ := map0 m hv i
    rw [e]
    fin_cases a
    · show (n + 1) * 768 ≤ 39168; omega
    · show (0 + 1) * 1024 ≤ 1024; omega
  · have he := hv.expert_lt m (i 0)
    have ht := tile_lt m i
    rw [map1]
    fin_cases a
    · show (1 + 1) * 1 ≤ 2; omega
    · show ((expertOf m (i 0)).toNat + 1) * 1 ≤ 8; omega
    · show (0 + 1) * 2048 ≤ 2048; omega
    · show (tile m i + 1) * 512 ≤ 7168; omega
  · have he := hv.expert_lt m (i 0)
    have ht := tile_lt m i
    rw [map2]
    fin_cases a
    · show (1 + 1) * 1 ≤ 2; omega
    · show ((expertOf m (i 0)).toNat + 1) * 1 ≤ 8; omega
    · show (0 + 1) * 2048 ≤ 2048; omega
    · show (tile m i + 1) * 512 ≤ 7168; omega
  · have he := hv.expert_lt m (i 0)
    have ht := tile_lt m i
    rw [map3]
    fin_cases a
    · show (1 + 1) * 1 ≤ 2; omega
    · show ((expertOf m (i 0)).toNat + 1) * 1 ≤ 8; omega
    · show (tile m i + 1) * 512 ≤ 7168; omega
    · show (0 + 1) * 2048 ≤ 2048; omega

/-- The precondition's word is one: the tables are valid. -/
theorem valid (h : ∀ c : Dev nD, Cert.Pre_tables_in_range.fn (F := F) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) = (fun _ => 1#1)) :
    Valid m := by
  have h0 := congrFun (h 0) (fun a => a.elim0)
  dsimp only [Cert.Pre_tables_in_range.fn] at h0
  obtain ⟨hall, hu⟩ := IntOp.andi_eq_one.mp h0
  constructor
  · intro b
    obtain ⟨hge, hlt⟩ := IntOp.andi_eq_one.mp (@Host.reduce_andi_all _ _ _ _ ⟨fun a b => funext fun x => x.elim0⟩ _ _ _ _ _ hall (ix1 b))
    exact ⟨IntOp.cmpi_sge.mp hge, IntOp.cmpi_slt.mp hlt⟩
  · have := IntOp.cmpi_sge.mp hu
    refine this.trans (le_of_eq (congrArg BitVec.toInt ?_))
    exact congrArg (tables m 1) (funext fun a => Fin.ext (by fin_cases a; exact Nat.lt_one_iff.mp (Fin.isLt _)))

end Cert.MoeIdeal.Experts
end
-- ==== Proof.MoeFrames.lean ====
/-  The experts' call and its plain computation terminate, leave their arguments unchanged and every counter at zero. -/
module

public import proofs.«01_k».proof.Defs
public import proofs.«01_k».proof.Proof.MoeRun
public import proofs.«01_k».proof.Proof.MoeTables
public import proofs.«01_k».proof.Proof.Gen.Moe
public import proofs.«01_k».proof.Proof.Gen.MoeReferenceIdeal.Run
public import Idealize.ShloMosaic.Lib.Quiescent

@[expose] public section

set_option maxRecDepth 16384

noncomputable section

namespace Cert.MoeFrames

open Idealize.ShloMosaic Idealize.ShloMosaic.TcCoe Idealize.SL.Sem
open Cert.MoeIdeal.Experts

/-- Over the reals. -/
theorem ideal : Cert.quiescent_MoeIdeal (hMoeIdeal := Cert.MoeIdeal.Gen.facts) (hPre_tables_in_range := Cert.Pre_tables_in_range.Gen.facts) := fun m g h =>
  frame_run m g (valid m h).inRange

/-- The two instances of the program run the same bodies, -/
theorem bodies : @Cert.Moe.defs₀ Bits _ Cert.Moe.Gen.facts = @Cert.MoeIdeal.defs₀ Bits _ Cert.MoeIdeal.Gen.facts := by
  unfold Cert.Moe.defs₀ Cert.MoeIdeal.defs₀
  refine congrArg Defs.onTc (funext fun l => funext fun x => ?_)
  obtain ⟨l, hl⟩ := l
  obtain rfl : l = 0 := by have : l < 1 := hl; omega
  rfl
set_option maxHeartbeats 1000000 in
/-- hence the same program. -/
theorem programs : @Cert.Moe.defs Bits _ Cert.Moe.Gen.facts = @Cert.MoeIdeal.defs Bits _ Cert.MoeIdeal.Gen.facts :=
  congrArg (Pipeline.defs (Cert.MoeIdeal.pcfgs (F := Bits))) bodies

/-- Over the machine's floats: the same text, so the same run. -/
theorem bits : Cert.quiescent_Moe (hMoe := Cert.Moe.Gen.facts) (hPre_tables_in_range := Cert.Pre_tables_in_range.Gen.facts) := fun m g h => by
  have h' := frame_run (F := Bits) m g (valid (F := Bits) m h).inRange
  rw [← programs] at h'
  exact h'

theorem reference : Cert.quiescent_MoeReferenceIdeal (hMoeReferenceIdeal := Cert.MoeReferenceIdeal.Gen.facts)
    (hPre_tables_in_range := Cert.Pre_tables_in_range.Gen.facts) := fun m g _ =>
  (θ_run _ _ _).mono (fun r h => ⟨fun c => (h c).2, sem_eq_zero_of_no_sems (by decide) r.2⟩)
    (MoeReferenceIdeal.Value.run m g)

end Cert.MoeFrames
end
-- ==== Proof.MoeBlock.lean ====
/-  The experts' call at one grid point, element by element: the unpacked rows, and what the body adds to its block. -/
module

public import proofs.«01_k».proof.Proof.MoeBody
public import Idealize.ShloMosaic.Lib.Pointwise

@[expose] public section

set_option maxRecDepth 16384

noncomputable section

namespace Cert.MoeIdeal.Block

open Cert.MoeIdeal Cert.MoeIdeal.Gen Cert.MoeIdeal.Experts Idealize.ShloMosaic Idealize.ShloMosaic.TcCoe

/-- The hidden unit `k` of row `r`: the gate's projection times its sigmoid, times the other projection. -/
def hiddenUnit (x : Vec Ideal S768x2048 .bf16) (wg wu : Vec Ideal S1x1x2048x512 .f32) (r : Fin 768) (k : Fin 512) : EReal :=
  ((∑ c : Fin 2048, x (ix2 r c) * wg (ix4 0 0 c k))
      * Ideal.div 1 (1 + Ideal.exp (-∑ c : Fin 2048, x (ix2 r c) * wg (ix4 0 0 c k))))
    * ∑ c : Fin 2048, x (ix2 r c) * wu (ix4 0 0 c k)

/-- What one tile of 512 hidden units contributes to column `d` of row `r`. -/
def part (x : Vec Ideal S768x2048 .bf16) (wg wu : Vec Ideal S1x1x2048x512 .f32) (wd : Vec Ideal S1x1x512x2048 .f32)
    (j : S768x2048.Idx) : EReal :=
  ∑ k : Fin 512, hiddenUnit x wg wu (j 0) k * wd (ix4 0 0 k (j 1))

/-- The body's product step adds the tile's contribution to the block found. -/
theorem tile (x : Vec Ideal S768x2048 .bf16) (wg wu : Vec Ideal S1x1x2048x512 .f32) (acc : Vec Ideal S768x2048 .f32)
    (wd : Vec Ideal S1x1x512x2048 .f32) (j : S768x2048.Idx) :
    k0_pay4 (F := Ideal) x wg wu acc wd j = acc j + part x wg wu wd j := by
  idx_vars j
  pointwise [k0_pay4, part, hiddenUnit, zero_sub]

/-- The cleared block. -/
theorem cleared (j : S768x2048.Idx) : k0_pay1 (F := Ideal) j = (0 : EReal) := by
  pointwise [k0_pay1]

/-- A row's words hold two numbers each: the lower half and the upper half, decoded as the upper half of a 32-bit float. -/
def lower (w : BitVec 32) : EReal := Ideal.ofBits .f32 (w <<< 16)
@[inherit_doc lower] def upper (w : BitVec 32) : EReal := Ideal.ofBits .f32 (w &&& 4294901760#32)

theorem low_half (x0 : Vec Ideal S768x1024 .i32) (r : Fin 768) (c : Fin 1024) :
    k0_pay2 (F := Ideal) x0 (ix2 r c) = lower (x0 (ix2 r c)) := by
  pointwise [k0_pay2]
  rfl

theorem high_half (x0 : Vec Ideal S768x1024 .i32) (r : Fin 768) (c : Fin 1024) :
    k0_pay3 (F := Ideal) x0 (ix2 r c) = upper (x0 (ix2 r c)) := by
  pointwise [k0_pay3]
  rfl

/-- Column `c` of an unpacked row: the lower half of word `c` for the first 1024, the upper half of word `c - 1024` after. -/
def entry (row : Fin 1024 → BitVec 32) (c : Fin 2048) : EReal :=
  if h : c.val < 1024 then lower (row ⟨c.val, h⟩) else upper (row ⟨c.val - 1024, by omega⟩)

theorem unpacked_apply (x0 : Vec Ideal S768x1024 .i32) (r : Fin 768) (c : Fin 2048) :
    unpacked (F := Ideal) x0 (ix2 r c) = entry (fun k => x0 (ix2 r k)) c := by
  unfold unpacked halves entry
  split
  · rename_i h
    rw [View.canon_cons_of_not_mem]
    · have e : ix2 r c = (Rect.unit (s := S768x2048) ![0, 0] S768x1024.size inb_S768x2048_S768x1024_0_0).emb (ix2 r ⟨c.val, h⟩) := by
        ext a; fin_cases a <;> simp [Rect.emb, Rect.unit, ix2]
      rw [e, View.canon_cons_emb]
      exact low_half x0 r _
    · intro hm
      have : 1024 ≤ c.val := ((Rect.mem_set_unit (inb := inb_S768x2048_S768x1024_0_1024)).1 hm 1).1
      omega
  · rename_i h
    have e : ix2 r c = (Rect.unit (s := S768x2048) ![0, 1024] S768x1024.size inb_S768x2048_S768x1024_0_1024).emb
        (ix2 r ⟨c.val - 1024, by omega⟩) := by
      ext a; fin_cases a <;> simp [Rect.emb, Rect.unit, ix2]; omega
    rw [e, View.canon_cons_emb]
    exact high_half x0 r _

end Cert.MoeIdeal.Block
end
-- ==== Proof.MoeRows.lean ====
/-  The experts' call: the block left after the fourteen tiles of a row block, as one sum. -/
module

public import proofs.«01_k».proof.Proof.MoeBlock
public import proofs.«01_k».proof.Proof.MoeRun
public import proofs.«01_k».proof.Proof.MoeTables
public import Idealize.ShloMosaic.Lib.Pipeline.ValueKit

@[expose] public section

set_option maxRecDepth 16384

noncomputable section

namespace Cert.MoeIdeal.Rows

open Cert.MoeIdeal Cert.MoeIdeal.Gen Cert.MoeIdeal.Block Cert.MoeIdeal.Experts Idealize.ShloMosaic Idealize.ShloMosaic.TcCoe Idealize.SL.Sem

variable (m : (ℓ : Loc nD τ sig) → Buf (Elt Ideal) ℓ) (hO : InRange m)

/-- The blocks grid point `t` is given, at their shapes. -/
def words (c : Dev nD) (t : Fin (cfgM m hO).N) : Vec Ideal S768x1024 .i32 := blockAt m hO c 0 t
@[inherit_doc words] def gate (c : Dev nD) (t : Fin (cfgM m hO).N) : Vec Ideal S1x1x2048x512 .f32 := blockAt m hO c 1 t
@[inherit_doc words] def up (c : Dev nD) (t : Fin (cfgM m hO).N) : Vec Ideal S1x1x2048x512 .f32 := blockAt m hO c 2 t
@[inherit_doc words] def down (c : Dev nD) (t : Fin (cfgM m hO).N) : Vec Ideal S1x1x512x2048 .f32 := blockAt m hO c 3 t

/-- The first point of the row block that point `n` works on. -/
def start (n : ℕ) (hn : n < (cfgM m hO).N) : Fin (cfgM m hO).N := ⟨14 * (n / 14), Nat.lt_of_le_of_lt (Nat.mul_div_le n 14) hn⟩

theorem start_first (n : ℕ) (hn : n < (cfgM m hO).N) (h : n % 14 = 0) : start m hO n hn = ⟨n, hn⟩ :=
  Fin.ext (Nat.mul_div_cancel' (Nat.dvd_of_mod_eq_zero h))
theorem start_later (n : ℕ) (hn : n + 1 < (cfgM m hO).N) (h : ¬(n + 1) % 14 = 0) :
    start m hO n (Nat.lt_of_succ_lt hn) = start m hO (n + 1) hn := by
  have e : n / 14 = (n + 1) / 14 := by clear hn; omega
  exact Fin.ext (congrArg (14 * ·) e)

/-- The unpacked rows of the row block that point `n` works on. -/
def rowsAt (c : Dev nD) (n : ℕ) (hn : n < (cfgM m hO).N) : Vec Ideal S768x2048 .bf16 :=
  unpacked (words m hO c (start m hO n hn))

theorem opening_eq (c : Dev nD) (t : Fin (cfgM m hO).N) :
    opening m hO c t = (visit m hO c t (unpacked (words m hO c t)) (k0_pay1 (F := Ideal)), unpacked (words m hO c t)) := rfl

theorem opening_rows (c : Dev nD) (n : ℕ) (hn : n < (cfgM m hO).N) (h : n % 14 = 0) :
    (opening m hO c ⟨n, hn⟩).2 = rowsAt m hO c n hn := by
  rw [rowsAt, start_first m hO n hn h, opening_eq]

/-- They stay in place through the fourteen tiles. -/
theorem rows_kept (c : Dev nD) (n : ℕ) (hn : n < (cfgM m hO).N) : (after m hO c n hn).2 = rowsAt m hO c n hn := by
  induction n with
  | zero => exact opening_rows m hO c 0 hn rfl
  | succ n ih =>
    by_cases h : (n + 1) % 14 = 0
    · exact (congrArg Prod.snd (after_first m hO c ⟨n + 1, hn⟩ h)).trans (opening_rows m hO c (n + 1) hn h)
    · refine (congrArg Prod.snd (after_later m hO c ⟨n + 1, hn⟩ h)).trans ((ih (Nat.lt_of_succ_lt hn)).trans ?_)
      rw [rowsAt, rowsAt, start_later m hO n hn h]

/-- What grid point `t` adds: its tile's contribution when its row block is one of the used ones. -/
def added (c : Dev nD) (t : Fin (cfgM m hO).N) (j : S768x2048.Idx) : EReal :=
  if Active m (grid0.coords t) then part (rowsAt m hO c t.val t.isLt) (gate m hO c t) (up m hO c t) (down m hO c t) j else 0

theorem visit_eq (c : Dev nD) (t : Fin (cfgM m hO).N) (rows : Vec Ideal S768x2048 .bf16) (acc : Vec Ideal S768x2048 .f32) :
    visit m hO c t rows acc = if k0_cond2 (grid0.coords t) (usedWord c (tables m 1)) = 1#1 then
      k0_pay4 (F := Ideal) rows (gate m hO c t) (up m hO c t) acc (down m hO c t) else acc := rfl

/-- One visit adds that much. -/
theorem visit_apply (c : Dev nD) (t : Fin (cfgM m hO).N) (acc : Vec Ideal S768x2048 .f32) (j : S768x2048.Idx) :
    visit m hO c t (rowsAt m hO c t.val t.isLt) acc j = acc j + added m hO c t j := by
  rw [visit_eq]
  unfold added
  by_cases ha : Active m (grid0.coords t)
  · rw [if_pos ((active_iff m c _).2 ha), if_pos ha, Block.tile]
  · rw [if_neg (fun h => ha ((active_iff m c _).1 h)), if_neg ha, add_zero]

theorem first (c : Dev nD) (t : Fin (cfgM m hO).N) (h : t.val % 14 = 0) (j : S768x2048.Idx) :
    (after m hO c t.val t.isLt).1 j = (0 : EReal) + added m hO c t j := by
  have e := rows_kept m hO c t.val t.isLt
  rw [after_first m hO c t h, opening_eq] at e
  rw [after_first m hO c t h, opening_eq]
  dsimp only at e ⊢
  rw [e, visit_apply, cleared]

theorem later (c : Dev nD) (t : Fin (cfgM m hO).N) (h : ¬t.val % 14 = 0) (j : S768x2048.Idx) :
    (after m hO c t.val t.isLt).1 j = (after m hO c (t.val - 1) (pred_lt m hO t)).1 j + added m hO c t j := by
  have e := rows_kept m hO c t.val t.isLt
  rw [after_later m hO c t h] at e
  rw [after_later m hO c t h]
  dsimp only at e ⊢
  rw [e, visit_apply]

/-- After the last tile of a row block: the fourteen tiles' contributions. -/
theorem last (c : Dev nD) (t : Fin (cfgM m hO).N) (h : t.val % 14 = 13) (j : S768x2048.Idx) :
    (after m hO c t.val t.isLt).1 j
      = ∑ s : Fin 14, added m hO c ⟨14 * (t.val / 14) + s.val, Pipeline.run_point_lt_of_flush t h s⟩ j := by
  rw [Pipeline.eq_sum_fin_of_reset_step_apply_of_flush (fun n hn => (after m hO c n hn).1) 14 (fun _ => (0 : EReal))
    (added m hO c) (first m hO c) (later m hO c) t h j]
  show (0 : EReal) + _ = _
  rw [zero_add]

end Cert.MoeIdeal.Rows
end
-- ==== Proof.MoeWindows.lean ====
/-  The experts' call: the blocks a grid point is given, as entries of the arrays. -/
module

public import proofs.«01_k».proof.Proof.MoeRows

@[expose] public section

set_option maxRecDepth 16384

noncomputable section

namespace Cert.MoeIdeal.Windows

open Cert.MoeIdeal Cert.MoeIdeal.Gen Cert.MoeIdeal.Block Cert.MoeIdeal.Experts Cert.MoeIdeal.Rows
open Idealize.ShloMosaic Idealize.ShloMosaic.TcCoe Idealize.SL.Sem

variable (m : (ℓ : Loc nD τ sig) → Buf (Elt Ideal) ℓ) (hO : InRange m)

/-- The arrays, at their shapes. -/
def rowsIn (c : Dev nD) : Vec Ideal S39168x1024 .i32 := m ((c : Thread nD τ).loc main_arg2)
@[inherit_doc rowsIn] def gateIn (c : Dev nD) : Vec Ideal S2x8x2048x7168 .f32 := m ((c : Thread nD τ).loc main_arg3)
@[inherit_doc rowsIn] def upIn (c : Dev nD) : Vec Ideal S2x8x2048x7168 .f32 := m ((c : Thread nD τ).loc main_arg4)
@[inherit_doc rowsIn] def downIn (c : Dev nD) : Vec Ideal S2x8x7168x2048 .f32 := m ((c : Thread nD τ).loc main_arg5)

theorem words_apply (c : Dev nD) (t : Fin (cfgM m hO).N) (b : Fin 51)
    (h : cc0_transform_0 inb_S1_S1_0 numel1_S1 (tables m) (grid0.coords t) = ![b.val, 0]) (r : Fin 768) (q : Fin 1024) :
    words m hO c t (ix2 r q) = rowsIn m c (ix2 ⟨b.val * 768 + r.val, by omega⟩ q) := by
  refine congrArg (rowsIn m c) (funext fun a => Fin.ext ?_)
  match a with
  | ⟨0, _⟩ =>
    have e : b.val * 768 + 1 * r.val = b.val * 768 + r.val := by omega
    exact (congrArg (· * 768 + 1 * r.val) (congrFun h 0)).trans e
  | ⟨1, _⟩ =>
    have e : 0 * 1024 + 1 * q.val = q.val := by omega
    exact (congrArg (· * 1024 + 1 * q.val) (congrFun h 1)).trans e

/-- A weight block's coordinates: one layer, one expert, all rows or columns on one axis, one tile of 512 on the other. -/
theorem one (x : ℕ) : x * 1 + 1 * 0 = x := by omega
theorem whole (x : ℕ) : 0 * 2048 + 1 * x = x := by omega
theorem part_of (s k : ℕ) : s * 512 + 1 * k = s * 512 + k := by omega

theorem gate_apply (c : Dev nD) (t : Fin (cfgM m hO).N) (e : Fin 8) (s : Fin 14)
    (h : cc0_transform_1 k0_off1_inb numel1_S1 inb_S1_S1_0 (tables m) (grid0.coords t) = ![1, e.val, 0, s.val]) (p : Fin 2048) (k : Fin 512) :
    gate m hO c t (ix4 0 0 p k) = gateIn m c (ix4 1 e p ⟨s.val * 512 + k.val, by omega⟩) := by
  refine congrArg (gateIn m c) (funext fun a => Fin.ext ?_)
  match a with
  | ⟨0, _⟩ => exact (congrArg (· * 1 + 1 * 0) (congrFun h 0)).trans (one 1)
  | ⟨1, _⟩ => exact (congrArg (· * 1 + 1 * 0) (congrFun h 1)).trans (one e.val)
  | ⟨2, _⟩ => exact (congrArg (· * 2048 + 1 * p.val) (congrFun h 2)).trans (whole p.val)
  | ⟨3, _⟩ => exact (congrArg (· * 512 + 1 * k.val) (congrFun h 3)).trans (part_of s.val k.val)

theorem up_apply (c : Dev nD) (t : Fin (cfgM m hO).N) (e : Fin 8) (s : Fin 14)
    (h : cc0_transform_2 k0_off1_inb numel1_S1 inb_S1_S1_0 (tables m) (grid0.coords t) = ![1, e.val, 0, s.val]) (p : Fin 2048) (k : Fin 512) :
    up m hO c t (ix4 0 0 p k) = upIn m c (ix4 1 e p ⟨s.val * 512 + k.val, by omega⟩) := by
  refine congrArg (upIn m c) (funext fun a => Fin.ext ?_)
  match a with
  | ⟨0, _⟩ => exact (congrArg (· * 1 + 1 * 0) (congrFun h 0)).trans (one 1)
  | ⟨1, _⟩ => exact (congrArg (· * 1 + 1 * 0) (congrFun h 1)).trans (one e.val)
  | ⟨2, _⟩ => exact (congrArg (· * 2048 + 1 * p.val) (congrFun h 2)).trans (whole p.val)
  | ⟨3, _⟩ => exact (congrArg (· * 512 + 1 * k.val) (congrFun h 3)).trans (part_of s.val k.val)

theorem down_apply (c : Dev nD) (t : Fin (cfgM m hO).N) (e : Fin 8) (s : Fin 14)
    (h : cc0_transform_3 k0_off1_inb numel1_S1 inb_S1_S1_0 (tables m) (grid0.coords t) = ![1, e.val, s.val, 0]) (k : Fin 512) (d : Fin 2048) :
    down m hO c t (ix4 0 0 k d) = downIn m c (ix4 1 e ⟨s.val * 512 + k.val, by omega⟩ d) := by
  refine congrArg (downIn m c) (funext fun a => Fin.ext ?_)
  match a with
  | ⟨0, _⟩ => exact (congrArg (· * 1 + 1 * 0) (congrFun h 0)).trans (one 1)
  | ⟨1, _⟩ => exact (congrArg (· * 1 + 1 * 0) (congrFun h 1)).trans (one e.val)
  | ⟨2, _⟩ => exact (congrArg (· * 512 + 1 * k.val) (congrFun h 2)).trans (part_of s.val k.val)
  | ⟨3, _⟩ => exact (congrArg (· * 2048 + 1 * d.val) (congrFun h 3)).trans (whole d.val)

end Cert.MoeIdeal.Windows
end
-- ==== Proof.MoeGather.lean ====
/-  Reading one matrix per entry of an index list out of a table of matrices. -/
module

public import proofs.«01_k».proof.MoeReferenceIdeal
public import Idealize.ShloMosaic.Lib.Pointwise

@[expose] public section

set_option maxRecDepth 16384

noncomputable section

namespace Cert.MoeReferenceIdeal.Gather

open Cert.MoeReferenceIdeal Idealize.ShloMosaic

variable {E A B n : ℕ}

/-- Where the entry `b`, row `p`, column `q` of the result is read: the matrix the `b`th index names, same row and column. -/
theorem source (d : GatherDims ⟨3, ![E, A, B]⟩ ⟨2, ![n, 1]⟩ ⟨3, ![n, A, B]⟩)
    (hod : d.offsetDims = [1, 2]) (hcd : d.collapsedSliceDims = [0]) (hob : d.operandBatchingDims = [])
    (hsm : d.startIndexMap = [0]) (hiv : d.indexVectorDim = 1)
    (idx : IVec ⟨2, ![n, 1]⟩ 32) (b : Fin n) (p : Fin A) (q : Fin B) (e : Fin E)
    (he : (idx (ix2 b 0)).toInt = e.val) :
    d.operandIdx (ix3 b p q) idx = ix3 e p q := by
  have hsl : d.sliceSizes 0 = 1 := d.slice_collapsed 0 (by rw [hcd]; exact List.mem_singleton.2 rfl)
  obtain ⟨od, cd, ob, sb, sm, iv, ss, wf⟩ := d
  dsimp only at hod hcd hob hsm hiv hsl
  subst hod hcd hob hsm hiv
  have hsb : sb = [] := List.eq_nil_of_length_eq_zero (wf.2.2.2.2.2.2.2.2.2.2.2.2.2.1.1).symm
  subst hsb
  funext a
  apply Fin.ext
  match a with
  | ⟨0, _⟩ =>
    show min (idx _).toInt.toNat (E - ss 0) + 0 + 0 = e.val
    have hi : ∀ i : (⟨2, ![n, 1]⟩ : Shape).Idx, (i 0).val = b.val → (idx i).toInt = e.val := fun i h => by
      rw [← he]
      congr 2
      funext a'
      apply Fin.ext
      match a' with
      | ⟨0, _⟩ => exact h
      | ⟨1, _⟩ => exact (Nat.lt_one_iff.1 (i 1).isLt)
    rw [hi _ rfl, hsl]
    have := e.isLt
    omega
  | ⟨1, _⟩ => show 0 + 0 + p.val = p.val; omega
  | ⟨2, _⟩ => show 0 + 0 + q.val = q.val; omega

end Cert.MoeReferenceIdeal.Gather
end
-- ==== Proof.MoeReference.lean ====
/-  The experts' reference, element by element. -/
module

public import proofs.«01_k».proof.Proof.MoeGather
public import proofs.«01_k».proof.Proof.MoeBlock
public import proofs.«01_k».proof.Proof.Gen.MoeReferenceIdeal.Run

@[expose] public section

set_option maxRecDepth 16384

noncomputable section

namespace Cert.MoeReferenceIdeal.Plain

open Cert.MoeReferenceIdeal Cert.MoeReferenceIdeal.Gen Idealize.ShloMosaic Idealize.ShloMosaic.TcCoe
open Cert.MoeIdeal.Block (entry lower upper)

/-- The rows of every block, unpacked. -/
def rows (xs : Vec Ideal S39168x1024 .i32) : FVec Ideal S51x768x2048 .f32 :=
  shapeCast _ (concatenate S39168x2048 1 [⟨S39168x1024, (bitcastToFloat (F := Ideal) .f32 (Host.shli xs (broadcastInDim S39168x1024 ![] bcast_S_S39168x1024 (constantI S_ 32 16#32))))⟩, ⟨S39168x1024, (bitcastToFloat (F := Ideal) .f32 (andi xs (broadcastInDim S39168x1024 ![] bcast_S_S39168x1024 (constantI S_ 32 4294901760#32))))⟩] concatenates_S39168x1024_S39168x1024_S39168x2048_d1) shapeCasts_S39168x2048_S51x768x2048

/-- The experts' numbers as the gathers take them: counted from the end where negative. -/
def picks (be : IVec S51 32) : IVec S51x1 32 :=
  broadcastInDim S51x1 ![0] bcast_S51_S51x1_0 (select (cmpi .slt be (broadcastInDim S51 ![] bcast_S_S51 (constantI S_ 32 0#32))) (addi be (broadcastInDim S51 ![] bcast_S_S51 (constantI S_ 32 8#32))) be)

/-- Each block's expert's matrices, into the hidden units and out of them. -/
def matsIn (be : IVec S51 32) (w : FVec Ideal S2x8x2048x7168 .f32) : FVec Ideal S51x2048x7168 .f32 :=
  Host.gather gather_S8x2048x7168_S51x1_S51x2048x7168_12_0_n_n_0_1_120487168 (shapeCast _ (extractStridedSlice S1x8x2048x7168 ![1, 0, 0, 0] w slices_S2x8x2048x7168_S1x8x2048x7168_1_0_0_0) shapeCasts_S1x8x2048x7168_S8x2048x7168) (picks be)
@[inherit_doc matsIn] def matsOut (be : IVec S51 32) (w : FVec Ideal S2x8x7168x2048 .f32) : FVec Ideal S51x7168x2048 .f32 :=
  Host.gather gather_S8x7168x2048_S51x1_S51x7168x2048_12_0_n_n_0_1_171682048 (shapeCast _ (extractStridedSlice S1x8x7168x2048 ![1, 0, 0, 0] w slices_S2x8x7168x2048_S1x8x7168x2048_1_0_0_0) shapeCasts_S1x8x7168x2048_S8x7168x2048) (picks be)

/-- The rows through a matrix into the hidden units. -/
def proj (x : FVec Ideal S51x768x2048 .f32) (w : FVec Ideal S51x2048x7168 .f32) : FVec Ideal S51x768x7168 .f32 :=
  Host.dotGeneral dot_S51x768x2048_S51x2048x7168_S51x768x7168_2_1_1_2_0_0 none x w

/-- The gated hidden units, from the two projections. -/
def gated (g u : FVec Ideal S51x768x7168 .f32) : FVec Ideal S51x768x7168 .f32 :=
  mulf (mulf g (Host.divf (broadcastInDim S51x768x7168 ![] bcast_S_S51x768x7168 (constant S_ .f32 0x3F800000#32)) (addf (broadcastInDim S51x768x7168 ![] bcast_S_S51x768x7168 (constant S_ .f32 0x3F800000#32)) (Host.exp (Host.negf g))))) u

/-- The hidden units through the last matrix, zero in the blocks past the used ones. -/
def guarded (nu : IVec S1 32) (h : FVec Ideal S51x768x7168 .f32) (w : FVec Ideal S51x7168x2048 .f32) : FVec Ideal S39168x2048 .f32 :=
  shapeCast _ (select (broadcastInDim S51x768x2048 ![0, 1, 2] bcast_S51x1x1_S51x768x2048_0_1_2 (cmpi .slt (broadcastInDim S51x1x1 ![0] bcast_S51_S51x1x1_0 (iotaInDim S51 32 0)) (broadcastInDim S51x1x1 ![] bcast_S_S51x1x1 (shapeCast _ nu shapeCasts_S1_S_)))) (Host.dotGeneral dot_S51x768x7168_S51x7168x2048_S51x768x2048_2_1_1_2_0_0 none h w) (broadcastInDim S51x768x2048 ![] bcast_S_S51x768x2048 (id (constant S_ .f32 0x00000000#32)))) shapeCasts_S51x768x2048_S39168x2048

/-- The whole reference. -/
def experts (be : IVec S51 32) (nu : IVec S1 32) (xs : Vec Ideal S39168x1024 .i32) (wg wu : FVec Ideal S2x8x2048x7168 .f32)
    (wd : FVec Ideal S2x8x7168x2048 .f32) : FVec Ideal S39168x2048 .f32 :=
  guarded nu (gated (proj (rows xs) (matsIn be wg)) (proj (rows xs) (matsIn be wu))) (matsOut be wd)

theorem rows_apply (xs : Vec Ideal S39168x1024 .i32) (b : Fin 51) (r : Fin 768) (c : Fin 2048) :
    rows xs (ix3 b r c) = entry (fun k => xs (ix2 ⟨b.val * 768 + r.val, by omega⟩ k)) c := by
  pointwise [rows, entry, lower, upper]
  rfl

theorem picks_apply (be : IVec S51 32) (b : Fin 51) (h : 0 ≤ (be (ix1 b)).toInt) : picks be (ix2 b 0) = be (ix1 b) := by
  pointwise [picks]
  have : ¬IntOp.cmpi CmpIPredicate.slt (be (ix1 b)) 0#32 = 1 := fun hc => by
    have : (be (ix1 b)).toInt < (0#32 : BitVec 32).toInt := IntOp.cmpi_slt.1 hc
    exact absurd this (not_lt.2 h)
  rw [Scalar.select, if_neg this]

theorem matsIn_apply (be : IVec S51 32) (w : FVec Ideal S2x8x2048x7168 .f32) (b : Fin 51) (e : Fin 8)
    (h : (be (ix1 b)).toInt = e.val) (p : Fin 2048) (q : Fin 7168) : matsIn be w (ix3 b p q) = w (ix4 1 e p q) := by
  unfold matsIn Host.gather
  rw [Gather.source _ rfl rfl rfl rfl rfl _ b p q e (by rw [picks_apply be b (by omega)]; exact h)]
  pointwise []

theorem matsOut_apply (be : IVec S51 32) (w : FVec Ideal S2x8x7168x2048 .f32) (b : Fin 51) (e : Fin 8)
    (h : (be (ix1 b)).toInt = e.val) (p : Fin 7168) (q : Fin 2048) : matsOut be w (ix3 b p q) = w (ix4 1 e p q) := by
  unfold matsOut Host.gather
  rw [Gather.source _ rfl rfl rfl rfl rfl _ b p q e (by rw [picks_apply be b (by omega)]; exact h)]
  pointwise []

theorem proj_apply (x : FVec Ideal S51x768x2048 .f32) (w : FVec Ideal S51x2048x7168 .f32) (b : Fin 51) (r : Fin 768) (k : Fin 7168) :
    proj x w (ix3 b r k) = ∑ c : Fin 2048, x (ix3 b r c) * w (ix3 b c k) := by
  pointwise [proj]

theorem gated_apply (g u : FVec Ideal S51x768x7168 .f32) (b : Fin 51) (r : Fin 768) (k : Fin 7168) :
    gated g u (ix3 b r k)
      = g (ix3 b r k) * Ideal.div 1 (1 + Ideal.exp (-g (ix3 b r k))) * u (ix3 b r k) := by
  pointwise [gated]

theorem guarded_apply (nu : IVec S1 32) (h : FVec Ideal S51x768x7168 .f32) (w : FVec Ideal S51x7168x2048 .f32)
    (b : Fin 51) (r : Fin 768) (d : Fin 2048) :
    guarded nu h w (ix2 ⟨b.val * 768 + r.val, by omega⟩ d)
      = if (b.val : ℤ) < (nu (ix1 0)).toInt then ∑ k : Fin 7168, h (ix3 b r k) * w (ix3 b k d) else 0 := by
  pointwise [guarded]
  have hb : (BitVec.ofNat 32 b.val).toInt = b.val := WordCmp.toInt_ofNat_of_lt (by omega)
  unfold Scalar.select
  by_cases hu : (b.val : ℤ) < (nu (ix1 0)).toInt
  · have : IntOp.cmpi CmpIPredicate.slt (BitVec.ofNat 32 b.val) (nu (ix1 0)) = 1 := IntOp.cmpi_slt.2 (by rw [hb]; exact hu)
    rw [if_pos this, if_pos hu]
  · have : ¬IntOp.cmpi CmpIPredicate.slt (BitVec.ofNat 32 b.val) (nu (ix1 0)) = 1 := fun hc => hu (by
      have := IntOp.cmpi_slt.1 hc
      rwa [hb] at this)
    rw [if_neg this, if_neg hu]
    exact Ideal.ofBits_zero_f32

/-- Hidden unit `k` of row `r` of block `b`, whose expert is `e`. -/
def unit (xs : Vec Ideal S39168x1024 .i32) (wg wu : FVec Ideal S2x8x2048x7168 .f32) (e : Fin 8) (row : Fin 39168) (k : Fin 7168) : EReal :=
  ((∑ c : Fin 2048, entry (fun q => xs (ix2 row q)) c * wg (ix4 1 e c k))
      * Ideal.div 1 (1 + Ideal.exp (-∑ c : Fin 2048, entry (fun q => xs (ix2 row q)) c * wg (ix4 1 e c k))))
    * ∑ c : Fin 2048, entry (fun q => xs (ix2 row q)) c * wu (ix4 1 e c k)

/-- The reference at row `r` of block `b`, column `d`. -/
theorem experts_apply (be : IVec S51 32) (nu : IVec S1 32) (xs : Vec Ideal S39168x1024 .i32) (wg wu : FVec Ideal S2x8x2048x7168 .f32)
    (wd : FVec Ideal S2x8x7168x2048 .f32) (b : Fin 51) (e : Fin 8) (he : (be (ix1 b)).toInt = e.val)
    (u : ℤ) (hu : (nu (ix1 0)).toInt = u) (r : Fin 768) (d : Fin 2048) :
    experts be nu xs wg wu wd (ix2 ⟨b.val * 768 + r.val, by omega⟩ d)
      = if (b.val : ℤ) < u then
          ∑ k : Fin 7168, unit xs wg wu e ⟨b.val * 768 + r.val, by omega⟩ k * wd (ix4 1 e k d) else 0 := by
  subst hu
  rw [experts, guarded_apply]
  refine if_congr Iff.rfl (Finset.sum_congr rfl fun k _ => ?_) rfl
  rw [gated_apply, matsOut_apply be wd b e he]
  simp only [proj_apply, rows_apply, matsIn_apply be _ b e he]
  rfl

end Cert.MoeReferenceIdeal.Plain
end
-- ==== Proof.MoeResult.lean ====
/-  The experts' call: the array the kernel leaves is the reference's. -/
module

public import proofs.«01_k».proof.Proof.MoeWindows
public import proofs.«01_k».proof.Proof.MoeReference
public import Idealize.ShloMosaic.Lib.Pipeline.Covers

@[expose] public section

set_option maxRecDepth 16384

noncomputable section

namespace Cert.MoeIdeal.Result

open Cert.MoeIdeal Cert.MoeIdeal.Gen Cert.MoeIdeal.Block Cert.MoeIdeal.Experts Cert.MoeIdeal.Rows Cert.MoeIdeal.Windows
open Idealize.ShloMosaic Idealize.ShloMosaic.TcCoe Idealize.SL.Sem
open Cert.MoeReferenceIdeal.Plain (experts experts_apply)

variable (m : (ℓ : Loc nD τ sig) → Buf (Elt Ideal) ℓ) (hO : InRange m)

/-- The reference at the launch's arguments. -/
def resultOf (c : Dev nD) : FVec Ideal S39168x2048 .f32 :=
  experts (m ((c : Thread nD τ).loc main_arg0)) (m ((c : Thread nD τ).loc main_arg1)) (rowsIn m c) (gateIn m c) (upIn m c) (downIn m c)

/-- The tables are the launch's arguments. -/
theorem experts_table (c : Dev nD) (b : Fin 51) : (m ((c : Thread nD τ).loc main_arg0) : IVec S51 32) (ix1 b) = expertOf m b := by
  obtain rfl : c = 0 := Subsingleton.elim _ _
  rfl
theorem used_table (c : Dev nD) : (m ((c : Thread nD τ).loc main_arg1) : IVec S1 32) (ix1 0) = usedBlocks m := by
  obtain rfl : c = 0 := Subsingleton.elim _ _
  rfl

/-- Point `s` of row block `b`. -/
def point (b : Fin 51) (s : Fin 14) : Fin (cfgM m hO).N := ⟨14 * b.val + s.val, by rw [points]; omega⟩
theorem point_block (b : Fin 51) (s : Fin 14) : grid0.coords (point m hO b s) 0 = b := by
  have e : ∀ t : Fin grid0.N, (grid0.coords t 0).val = t.val / 14 % 51 := fun t => Pipeline.Grid.coords_val t 0 (by decide) rfl
  apply Fin.ext
  refine (e (point m hO b s)).trans ?_
  show (14 * b.val + s.val) / 14 % 51 = b.val
  omega
theorem point_tile (b : Fin 51) (s : Fin 14) : grid0.coords (point m hO b s) 1 = s := by
  have e : ∀ t : Fin grid0.N, (grid0.coords t 1).val = t.val / 1 % 14 := fun t => Pipeline.Grid.coords_val t 1 (by decide) rfl
  apply Fin.ext
  refine (e (point m hO b s)).trans ?_
  show (14 * b.val + s.val) / 1 % 14 = s.val
  omega

/-- A row block is in use or not at all of its points alike. -/
theorem point_active (b : Fin 51) (s : Fin 14) : Active m (grid0.coords (point m hO b s)) ↔ (b.val : ℤ) < (usedBlocks m).toInt := by
  unfold Active
  rw [point_block]
theorem point_start (b : Fin 51) (s : Fin 14) : start m hO (point m hO b s).val (point m hO b s).isLt = point m hO b 0 := by
  apply Fin.ext
  show 14 * ((14 * b.val + s.val) / 14) = 14 * b.val + 0
  omega

variable (hv : Valid m)

/-- The expert of row block `b`. -/
def expert (b : Fin 51) : Fin 8 := ⟨(expertOf m b).toNat, hv.expert_lt m b⟩
theorem expert_int (b : Fin 51) : (expertOf m b).toInt = (expert m hv b).val := by
  have h := (hv.expert b).1
  have hl := hv.expert_lt m b
  rw [BitVec.toInt_eq_toNat_of_lt (by omega)]
  rfl

include hv in
/-- The unpacked rows of a row block in use. -/
theorem rows_at (c : Dev nD) (b : Fin 51) (s : Fin 14) (hu : (b.val : ℤ) < (usedBlocks m).toInt) (r : Fin 768) (q : Fin 2048) :
    rowsAt m hO c (point m hO b s).val (point m hO b s).isLt (ix2 r q)
      = entry (fun k => rowsIn m c (ix2 ⟨b.val * 768 + r.val, by omega⟩ k)) q := by
  rw [rowsAt, point_start, unpacked_apply]
  obtain ⟨n, -, hn, h⟩ := map0 m hv (grid0.coords (point m hO b 0))
  have e : n = b.val := (hn ((point_active m hO b 0).2 hu)).trans (congrArg Fin.val (point_block m hO b 0))
  rw [e] at h
  exact congrArg (fun f => entry f q) (funext fun k => words_apply m hO c _ b h r k)

/-- The weight blocks of a row block in use: its expert's, the point's tile. -/
theorem maps_at (b : Fin 51) (s : Fin 14) (hu : (b.val : ℤ) < (usedBlocks m).toInt) :
    Experts.tile m (grid0.coords (point m hO b s)) = s.val := by
  rw [Experts.tile, if_pos ((point_active m hO b s).2 hu), point_tile]
theorem gate_at (c : Dev nD) (b : Fin 51) (s : Fin 14) (hu : (b.val : ℤ) < (usedBlocks m).toInt) (p : Fin 2048) (k : Fin 512) :
    gate m hO c (point m hO b s) (ix4 0 0 p k) = gateIn m c (ix4 1 (expert m hv b) p ⟨s.val * 512 + k.val, by omega⟩) :=
  gate_apply m hO c _ (expert m hv b) s (by rw [map1, maps_at m hO b s hu, point_block]; rfl) p k
theorem up_at (c : Dev nD) (b : Fin 51) (s : Fin 14) (hu : (b.val : ℤ) < (usedBlocks m).toInt) (p : Fin 2048) (k : Fin 512) :
    up m hO c (point m hO b s) (ix4 0 0 p k) = upIn m c (ix4 1 (expert m hv b) p ⟨s.val * 512 + k.val, by omega⟩) :=
  up_apply m hO c _ (expert m hv b) s (by rw [map2, maps_at m hO b s hu, point_block]; rfl) p k
theorem down_at (c : Dev nD) (b : Fin 51) (s : Fin 14) (hu : (b.val : ℤ) < (usedBlocks m).toInt) (k : Fin 512) (d : Fin 2048) :
    down m hO c (point m hO b s) (ix4 0 0 k d) = downIn m c (ix4 1 (expert m hv b) ⟨s.val * 512 + k.val, by omega⟩ d) :=
  down_apply m hO c _ (expert m hv b) s (by rw [map3, maps_at m hO b s hu, point_block]; rfl) k d

include hv in
/-- A finished row block holds the reference's rows. -/
theorem block_rows (c : Dev nD) (b : Fin 51) (r : Fin 768) (d : Fin 2048) :
    (after m hO c (point m hO b 13).val (point m hO b 13).isLt).1 (ix2 r d)
      = resultOf m c (ix2 ⟨b.val * 768 + r.val, by omega⟩ d) := by
  have h13 : (point m hO b 13).val % 14 = 13 := by show (14 * b.val + 13) % 14 = 13; omega
  have hd : (14 * b.val + 13) / 14 = b.val := by omega
  rw [last m hO c (point m hO b 13) h13, resultOf,
    experts_apply _ _ _ _ _ _ b (expert m hv b) ((congrArg BitVec.toInt (experts_table m c b)).trans (expert_int m hv b))
      _ (congrArg BitVec.toInt (used_table m c)) r d]
  have e : ∀ s : Fin 14, (⟨14 * ((point m hO b 13).val / 14) + s.val, Pipeline.run_point_lt_of_flush (point m hO b 13) h13 s⟩ : Fin (cfgM m hO).N)
      = point m hO b s := fun s => Fin.ext (congrArg (fun x => 14 * x + s.val) hd)
  simp only [e]
  simp only [added, point_active]
  by_cases hu : (b.val : ℤ) < (usedBlocks m).toInt
  · simp only [if_pos hu]
    refine Fin.sum_mul_add_congr fun s k hl => ?_
    show hiddenUnit _ _ _ r k * down m hO c (point m hO b s) (ix4 0 0 k d) = _
    rw [down_at m hO hv c b s hu, hiddenUnit, Cert.MoeReferenceIdeal.Plain.unit]
    simp only [rows_at m hO hv c b s hu, gate_at m hO hv c b s hu, up_at m hO hv c b s hu]
  · simp only [if_neg hu, Finset.sum_const_zero]

/-- Where each result block lies. -/
theorem map4 (b : Fin 51) (s : Fin 14) : cc0_transform_4 (grid0.coords (point m hO b s)) = ![b.val, 0] := by
  have e : (BitVec.ofNat 32 b.val).toNat = b.val := by rw [BitVec.toNat_ofNat]; omega
  refine Eq.trans (b := (![(BitVec.ofNat 32 (grid0.coords (point m hO b s) 0).val).toNat, 0] : Fin 2 → ℕ)) rfl ?_
  rw [point_block, e]

/-- The result blocks cover the result array. -/
theorem covers : ((cfgM m hO).win 4).Covers :=
  ((cfgM m hO).win 4).covers_of_indexMap_surj rfl (by decide : ∀ a : Fin 2, 0 < S768x2048.size a) fun β =>
    ⟨grid0.coords (point m hO ⟨(β (0 : Fin 2)).val, Nat.lt_of_lt_of_eq (β (0 : Fin 2)).isLt (show (39168 + 768 - 1) / 768 = 51 by decide)⟩ 0), fun a => by
      refine (congrFun (map4 m hO _ 0) a).trans ?_
      match a with
      | ⟨0, _⟩ => rfl
      | ⟨1, _⟩ => exact (Nat.lt_one_iff.1 (Nat.lt_of_lt_of_eq (β (1 : Fin 2)).isLt (show (2048 + 2048 - 1) / 2048 = 1 by decide))).symm⟩

include hv in
/-- The result array. -/
theorem final (c : Dev nD) : (dats m hO 0 c).arrAt 4 (cfgM m hO).N = resultOf m c := by
  refine (dats m hO 0 c).arrAt_eq_of_covers 4 _ (covers m hO) fun t hf y => ?_
  have h13 := (writesBack (adm m hO) t).mp hf
  have hN := lt_of_lt_of_eq t.isLt (points m hO)
  obtain ⟨b, rfl⟩ : ∃ b : Fin 51, t = point m hO b 13 :=
    ⟨⟨t.val / 14, by clear hf; omega⟩, Fin.ext (by show t.val = 14 * (t.val / 14) + 13; clear hf; omega)⟩
  refine (congrFun (after0_4 m hO c (point m hO b 13)) _).trans ?_
  refine (congrArg _ (eq_ix2 (y : S768x2048.Idx))).trans ?_
  refine (block_rows m hO hv c b _ _).trans (congrArg (resultOf m c) (funext fun a => Fin.ext ?_))
  match a with
  | ⟨0, _⟩ =>
    have e : b.val * 768 + 1 * (y (0 : Fin 2)).val = b.val * 768 + (y (0 : Fin 2)).val := by rw [Nat.one_mul]
    exact (e.symm.trans (congrArg (· * 768 + 1 * (y (0 : Fin 2)).val) (congrFun (map4 m hO b 13) 0)).symm)
  | ⟨1, _⟩ =>
    have e : 0 * 2048 + 1 * (y (1 : Fin 2)).val = (y (1 : Fin 2)).val := by rw [Nat.one_mul, Nat.zero_mul, Nat.zero_add]
    exact (e.symm.trans (congrArg (· * 2048 + 1 * (y (1 : Fin 2)).val) (congrFun (map4 m hO b 13) 1)).symm)

end Cert.MoeIdeal.Result
end
-- ==== Proof.MoeClaim.lean ====
/-  The experts' call computes what the plain computation computes, under tables in range. -/
module

public import proofs.«01_k».proof.Defs
public import proofs.«01_k».proof.Proof.MoeFrames
public import proofs.«01_k».proof.Proof.MoeResult

@[expose] public section

set_option maxRecDepth 16384

noncomputable section

namespace Cert.MoeClaim

open Idealize.ShloMosaic Idealize.ShloMosaic.TcCoe Idealize.SL.Sem

theorem equal : Cert.algebraic_MoeIdeal_MoeReferenceIdeal (hMoeIdeal := Cert.MoeIdeal.Gen.facts)
    (hMoeReferenceIdeal := Cert.MoeReferenceIdeal.Gen.facts) (hPre_tables_in_range := Cert.Pre_tables_in_range.Gen.facts) := by
  intro m g m' g' hpre agree
  have hv := MoeIdeal.Experts.valid m hpre
  have hO := MoeIdeal.Experts.Valid.inRange m hv
  refine ⟨fun c => MoeIdeal.Result.resultOf m c, ?_, ?_⟩
  · exact (θ_run _ _ _).mono (fun _ h c => ⟨((h c).1 4).trans (MoeIdeal.Result.final m hO hv c),
      (h c).2 MoeIdeal.main_arg0 (by decide : MoeIdeal.main_arg0 ∈ Pipeline.restRefs MoeIdeal.sig MoeIdeal.spec0),
      (h c).2 MoeIdeal.main_arg1 (by decide : MoeIdeal.main_arg1 ∈ Pipeline.restRefs MoeIdeal.sig MoeIdeal.spec0),
      ((h c).1 0).trans (((MoeIdeal.Experts.dats m hO 0 c).arrAt_in 0 rfl _).trans (MoeIdeal.Experts.A_eq m hO c 0)),
      ((h c).1 1).trans (((MoeIdeal.Experts.dats m hO 0 c).arrAt_in 1 rfl _).trans (MoeIdeal.Experts.A_eq m hO c 1)),
      ((h c).1 2).trans (((MoeIdeal.Experts.dats m hO 0 c).arrAt_in 2 rfl _).trans (MoeIdeal.Experts.A_eq m hO c 2)),
      ((h c).1 3).trans (((MoeIdeal.Experts.dats m hO 0 c).arrAt_in 3 rfl _).trans (MoeIdeal.Experts.A_eq m hO c 3))⟩)
      (MoeIdeal.Experts.run m g hO)
  · refine (θ_run _ _ _).mono (fun _ h c => ⟨(h c).1.trans ?_, (h c).2⟩) (MoeReferenceIdeal.Value.run m' g')
    obtain ⟨e0, e1, e2, e3, e4, e5⟩ := agree c
    unfold MoeReferenceIdeal.Value.res_main_v46
    rw [e0, e1, e2, e3, e4, e5]
    rfl

end Cert.MoeClaim
end
-- ==== Proof.PoolBlock.lean ====
/-  The pooling mixer's block, element by element: the trailing sums that rotations and additions build, and what a group
    of 512 channels adds to the residual. -/
module

public import proofs.«01_k».proof.Proof.Gen.KernelIdeal.Skeleton
public import Idealize.ShloMosaic.Lib.Pointwise
public import Idealize.ShloMosaic.Lib.KernelVsHost

@[expose] public section

set_option maxRecDepth 16384

noncomputable section

namespace Cert.KernelIdeal.Block

open Cert.KernelIdeal Cert.KernelIdeal.Gen Idealize.ShloMosaic Idealize.ShloMosaic.TcCoe

/-! ## Trailing sums -/

/-- Row `a` of `s` is the sum of the `n` rows of `f` that end there, where there are that many. -/
def HasWindow (s : FVec Ideal S528x512 .f32) (f : ℕ → Fin 512 → EReal) (n : ℕ) : Prop :=
  ∀ (a : Fin 528) (j : Fin 512), n ≤ a.val + 1 → s (ix2 a j) = ∑ i ∈ Finset.range n, f (a.val - i) j

/-- The rows added to themselves rotated down by `k`. -/
def doubled (k : BitVec 32) (s : FVec Ideal S528x512 .f32) : FVec Ideal S528x512 .f32 :=
  addf s (dynamicRotate 0 k none s rotates_S528x512_d0)

theorem HasWindow.doubled {s : FVec Ideal S528x512 .f32} {f : ℕ → Fin 512 → EReal} {n : ℕ} (hs : HasWindow s f n)
    (k : BitVec 32) (hk : k.toNat = n) (h0 : 0 < n) : HasWindow (doubled k s) f (n + n) := by
  intro a j ha
  have hlt := a.isLt
  show s (ix2 a j) + dynamicRotate 0 k none s rotates_S528x512_d0 (ix2 a j) = _
  rw [dynamicRotate_apply 0 k s rotates_S528x512_d0 (ix2 a j) (ix2 ⟨a.val - n, by omega⟩ j) (fun b => by
    match b with
    | ⟨0, _⟩ =>
      show a.val - n = (a.val + 528 - k.toNat % 528) % 528
      rw [hk]
      omega
    | ⟨1, _⟩ => rfl), hs a j (by omega), hs ⟨a.val - n, by omega⟩ j (by show n ≤ a.val - n + 1; omega),
    Finset.sum_range_add _ n n]
  congr 1
  refine Finset.sum_congr rfl fun i hi => ?_
  have := Finset.mem_range.1 hi
  show f (a.val - n - i) j = f (a.val - (n + i)) j
  rw [Nat.sub_sub]

theorem hasWindow_one (s : FVec Ideal S528x512 .f32) (f : ℕ → Fin 512 → EReal) (h : ∀ a j, s (ix2 a j) = f a.val j) :
    HasWindow s f 1 := by
  intro a j _
  rw [Finset.sum_range_one]
  exact h a j

/-! ## One group of channels -/

/-- What a group stores: its residual columns plus its product, scaled. -/
def groupBlock (s : FVec Ideal S528x512 .f32) (pos : FVec Ideal S512x1 .f32) (bits : BitVec 32) (xg hg : FVec Ideal S512x512 .f32)
    (w : Vec Ideal S1x512x512 .bf16) (sc : Vec Ideal S1x512 .f32) : FVec Ideal S512x512 .f32 :=
  addf hg (mulf (matmul (F := Ideal) (φ₁ := .bf16) (φ₂ := .bf16) dot_S512x512_S512x512_S512x512_1_0_0_1_n_n none
      (truncf .bf16 (subf (divf (extractStridedSlice S512x512 ![16, 0] s slices_S528x512_o16_0_S512x512)
          (broadcastTo S512x512 (minimumf pos (broadcast S512x1 (Scalar.ofBits .f32 bits))) broadcasts_S512x1_S512x512)) xg) bitsLt_bf16_f32)
      (shapeCast S512x512 w shapeCasts_S1x512x512_S512x512) (constant S512x512 .f32 0x00000000#32))
    (broadcastTo S512x512 (shapeCast S1x512 sc shapeCasts_S1x512_S1x512) broadcasts_S1x512_S512x512))

theorem groupBlock_apply (s : FVec Ideal S528x512 .f32) (pos : FVec Ideal S512x1 .f32) (bits : BitVec 32) (xg hg : FVec Ideal S512x512 .f32)
    (w : Vec Ideal S1x512x512 .bf16) (sc : Vec Ideal S1x512 .f32) (r : Fin 512) (j : Fin 512) :
    groupBlock s pos bits xg hg w sc (ix2 r j)
      = hg (ix2 r j) + (∑ k : Fin 512, (Ideal.div (s (ix2 ⟨16 + r.val, by omega⟩ k)) (min (pos (ix2 r 0)) (Ideal.ofBits .f32 bits))
          - xg (ix2 r k)) * w (ix3 0 k j)) * sc (ix2 0 j) := by
  pointwise [groupBlock]

/-- The columns of group `gi` of a block of `n` rows. -/
theorem group2 (v9 : BitVec 32) (v11 : FVec Ideal S512x2048 .f32) (v13 : FVec Ideal S1x2048 .f32) (v25 : FVec Ideal S512x2048 .f32)
    (v28 : Ideal .f32) (v30 v39 : FVec Ideal S16x2048 .f32) (w : Vec Ideal S1x512x512 .bf16) (sc : Vec Ideal S1x512 .f32) :
    k0_pay10 v9 v11 v13 v25 v28 v30 v39 w sc
      = groupBlock (doubled 1#32 (extractStridedSlice S528x512 ![0, 0] (k0_pay8 v13 v25 v28 v30 v39) slices_S528x2048_o0_0_S528x512))
          (k0_pay9 v9) 0x40000000#32 (extractStridedSlice S512x512 ![0, 0] v25 slices_S512x2048_o0_0_S512x512)
          (extractStridedSlice S512x512 ![0, 0] v11 slices_S512x2048_o0_0_S512x512) w sc := rfl

theorem group4 (v9 : BitVec 32) (v11 : FVec Ideal S512x2048 .f32) (v13 : FVec Ideal S1x2048 .f32) (v25 : FVec Ideal S512x2048 .f32)
    (v28 : Ideal .f32) (v30 v39 : FVec Ideal S16x2048 .f32) (w : Vec Ideal S1x512x512 .bf16) (sc : Vec Ideal S1x512 .f32) :
    k0_pay12 v11 v25 (k0_pay11 v9 v13 v25 v28 v30 v39) w sc
      = groupBlock (doubled 2#32 (doubled 1#32 (extractStridedSlice S528x512 ![0, 512] (k0_pay8 v13 v25 v28 v30 v39) slices_S528x2048_o0_512_S528x512)))
          (k0_pay9 v9) 0x40800000#32 (extractStridedSlice S512x512 ![0, 512] v25 slices_S512x2048_o0_512_S512x512)
          (extractStridedSlice S512x512 ![0, 512] v11 slices_S512x2048_o0_512_S512x512) w sc := rfl

theorem group8 (v11 v25 : FVec Ideal S512x2048 .f32) (v45 : FVec Ideal S528x2048 .f32) (v52 : FVec Ideal S512x1 .f32)
    (w : Vec Ideal S1x512x512 .bf16) (sc : Vec Ideal S1x512 .f32) :
    k0_pay13 v11 v25 v45 v52 w sc
      = groupBlock (doubled 4#32 (doubled 2#32 (doubled 1#32 (extractStridedSlice S528x512 ![0, 1024] v45 slices_S528x2048_o0_1024_S528x512))))
          v52 0x41000000#32 (extractStridedSlice S512x512 ![0, 1024] v25 slices_S512x2048_o0_1024_S512x512)
          (extractStridedSlice S512x512 ![0, 1024] v11 slices_S512x2048_o0_1024_S512x512) w sc := rfl

theorem group16 (v11 v25 : FVec Ideal S512x2048 .f32) (v45 : FVec Ideal S528x2048 .f32) (v52 : FVec Ideal S512x1 .f32)
    (w : Vec Ideal S1x512x512 .bf16) (sc : Vec Ideal S1x512 .f32) :
    k0_pay14 v11 v25 v45 v52 w sc
      = groupBlock (doubled 8#32 (doubled 4#32 (doubled 2#32 (doubled 1#32
            (extractStridedSlice S528x512 ![0, 1536] v45 slices_S528x2048_o0_1536_S528x512)))))
          v52 0x41800000#32 (extractStridedSlice S512x512 ![0, 1536] v25 slices_S512x2048_o0_1536_S512x512)
          (extractStridedSlice S512x512 ![0, 1536] v11 slices_S512x2048_o0_1536_S512x512) w sc := rfl

end Cert.KernelIdeal.Block
end
-- ==== Proof.PoolSums.lean ====
/-  Sums over a trailing window of a sequence: as a difference of two prefix sums, and built by doubling. -/
module

public import Idealize.ShloMosaic.PureOps
public import Mathlib.Data.EReal.Operations
public import Mathlib.Algebra.BigOperators.Intervals

@[expose] public section

noncomputable section

namespace Cert.PoolSums

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {ι : Type} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-- A real number subtracted from a sum it begins. -/
theorem add_sub_self {a b : EReal} (ha : IsReal a) : a + b - a = b := by
  obtain ⟨r, rfl⟩ := ha
  rw [add_comm]
  exact EReal.add_sub_cancel_right

/-- The sum of the first `n` values. -/
def upTo (f : ℕ → EReal) (n : ℕ) : EReal := ∑ i ∈ Finset.range n, f i

/-- The sum of the `n` values that end at position `p`, those before the beginning left out. -/
def behind (f : ℕ → EReal) (p n : ℕ) : EReal := ∑ i ∈ Finset.range n, if i ≤ p then f (p - i) else 0

/-- The trailing sum is what the prefix sum gained since the position the window's length before. -/
theorem upTo_sub (f : ℕ → EReal) (p n : ℕ) (hf : ∀ i, i ≤ p → IsReal (f i)) :
    upTo f (p + 1) - (if n ≤ p then upTo f (p - n + 1) else 0) = behind f p n := by
  unfold upTo behind
  by_cases h : n ≤ p
  · rw [if_pos h]
    obtain ⟨d, rfl⟩ := Nat.exists_eq_add_of_le h
    rw [show n + d - n + 1 = d + 1 by omega, show n + d + 1 = (d + 1) + n by omega, Finset.sum_range_add,
      add_sub_self (IsReal.sum _ _ fun i hi => hf i (by have := Finset.mem_range.mp hi; omega)),
      ← Finset.sum_range_reflect]
    refine Finset.sum_congr rfl fun i hi => ?_
    have := Finset.mem_range.mp hi
    rw [if_pos (by omega)]
    exact congrArg f (by omega)
  · rw [if_neg h, sub_zero]
    obtain ⟨d, rfl⟩ := Nat.exists_eq_add_of_le (show p + 1 ≤ n by omega)
    rw [Finset.sum_range_add (fun i => if i ≤ p then f (p - i) else 0) (p + 1) d,
      Finset.sum_eq_zero (s := Finset.range d) fun i _ => if_neg (by omega), add_zero, ← Finset.sum_range_reflect]
    refine Finset.sum_congr rfl fun i hi => ?_
    have := Finset.mem_range.mp hi
    rw [if_pos (by omega)]
    exact congrArg f (by omega)

end Cert.PoolSums
end
-- ==== Proof.PoolReference.lean ====
/-  The pooling mixer as the plain computation writes it, and its pieces read element by element. -/
module

public import proofs.«01_k».proof.Proof.PoolSums
public import proofs.«01_k».proof.Proof.Gen.ReferenceIdeal
public import Idealize.ShloMosaic.Lib.Pointwise
public import Idealize.ShloMosaic.Lib.Pointwise.IndexVar
public import Idealize.ShloMosaic.Lib.KernelVsHost

@[expose] public section

set_option maxRecDepth 16384

noncomputable section

namespace Cert.ReferenceIdeal.Plain

open Cert.ReferenceIdeal Cert.ReferenceIdeal.Gen Idealize.ShloMosaic Idealize.ShloMosaic.TcCoe
open Cert.PoolSums

/-- The rows divided by their root mean square and scaled by `g`. -/
def normalised (h : FVec Ideal S2x8192x2048 .f32) (g : FVec Ideal S2048 .f32) : FVec Ideal S2x8192x2048 .f32 :=
  mulf (mulf h (broadcastInDim S2x8192x2048 ![0, 1, 2] bcast_S2x8192x1_S2x8192x2048_0_1_2
    (Host.rsqrt (addf (Host.divf (broadcastInDim S2x8192x1 ![0, 1] bcast_S2x8192_S2x8192x1_0_1
        (Host.reduceAdd (mulf h h) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2
      (broadcastInDim S1x1x2048 ![2] bcast_S2048_S1x1x2048_2 g))

/-- The channels in four groups of 512. -/
def grouped (y : FVec Ideal S2x8192x2048 .f32) : FVec Ideal S2x8192x4x512 .f32 :=
  shapeCast _ y shapeCasts_S2x8192x2048_S2x8192x4x512

/-- The running sums along the sequence. -/
def running (y : FVec Ideal S2x8192x4x512 .f32) : FVec Ideal S2x8192x4x512 .f32 :=
  Host.reduceWindowAdd ![1, 8192, 1, 1] ![1, 1, 1, 1] ![0, 8191, 0, 0] ![0, 0, 0, 0] y
    (broadcastInDim S_ ![] bcast_S_S_ (constant S_ .f32 0x00000000#32))
    reduceWindows_S2x8192x4x512_S2x8192x4x512_w1s1p0_0_w8192s1p8191_0_w1s1p0_0_w1s1p0_0 h_S_

/-- One group of the running sums. -/
def groupOf (off : Fin 4 → ℕ) (hs : S2x8192x4x512.Slices off S2x8192x1x512) (c : FVec Ideal S2x8192x4x512 .f32) :
    FVec Ideal S2x8192x512 .f32 :=
  shapeCast _ (extractStridedSlice S2x8192x1x512 off c hs) shapeCasts_S2x8192x1x512_S2x8192x512

/-- The mean over a trailing window of `n` positions, from a group's running sums. -/
def windowMean (n : ℕ) (bits : BitVec 32) (hp : S2x8192x512.Pads ![0, n, 0] ![0, 0, 0] ![0, 0, 0] ⟨3, ![2, 8192 + n, 512]⟩)
    (hc : (⟨3, ![2, 8192 + n, 512]⟩ : Shape).Slices ![0, 0, 0] S2x8192x512) (c : FVec Ideal S2x8192x512 .f32) :
    FVec Ideal S2x8192x1x512 .f32 :=
  broadcastInDim S2x8192x1x512 ![0, 1, 3] bcast_S2x8192x512_S2x8192x1x512_0_1_3
    (Host.divf (subf c (extractStridedSlice S2x8192x512 ![0, 0, 0]
        (pad ⟨3, ![2, 8192 + n, 512]⟩ ![0, n, 0] ![0, 0, 0] ![0, 0, 0] c (sitofp .f32 (constantI S_ 32 0#32)) hp h_S_) hc))
      (broadcastInDim S2x8192x512 ![0, 1, 2] bcast_S1x8192x1_S2x8192x512_0_1_2
        (broadcastInDim S1x8192x1 ![1] bcast_S8192_S1x8192x1_1
          (minimumf (addf (broadcastInDim S8192 ![] bcast_S_S8192 (constant S_ .f32 0x3F800000#32)) (sitofp .f32 (iotaInDim S8192 32 0)))
            (broadcastInDim S8192 ![] bcast_S_S8192 (constant S_ .f32 bits))))))

/-- The four groups' trailing means, less the rows themselves. -/
def deviation (y : FVec Ideal S2x8192x4x512 .f32) : FVec Ideal S2x8192x4x512 .f32 :=
  subf (concatenate S2x8192x4x512 2
    [⟨S2x8192x1x512, windowMean 2 0x40000000#32 pads_S2x8192x512_S2x8194x512_000_200_000 slices_S2x8194x512_S2x8192x512_0_0_0
        (groupOf ![0, 0, 0, 0] slices_S2x8192x4x512_S2x8192x1x512_0_0_0_0 (running y))⟩,
     ⟨S2x8192x1x512, windowMean 4 0x40800000#32 pads_S2x8192x512_S2x8196x512_000_400_000 slices_S2x8196x512_S2x8192x512_0_0_0
        (groupOf ![0, 0, 1, 0] slices_S2x8192x4x512_S2x8192x1x512_0_0_1_0 (running y))⟩,
     ⟨S2x8192x1x512, windowMean 8 0x41000000#32 pads_S2x8192x512_S2x8200x512_000_800_000 slices_S2x8200x512_S2x8192x512_0_0_0
        (groupOf ![0, 0, 2, 0] slices_S2x8192x4x512_S2x8192x1x512_0_0_2_0 (running y))⟩,
     ⟨S2x8192x1x512, windowMean 16 0x41800000#32 pads_S2x8192x512_S2x8208x512_000_1600_000 slices_S2x8208x512_S2x8192x512_0_0_0
        (groupOf ![0, 0, 3, 0] slices_S2x8192x4x512_S2x8192x1x512_0_0_3_0 (running y))⟩]
    concatenates_S2x8192x1x512_S2x8192x1x512_S2x8192x1x512_S2x8192x1x512_S2x8192x4x512_d2) y

/-- The residual plus the mixer. -/
def mixed (h : FVec Ideal S2x8192x2048 .f32) (g : FVec Ideal S2048 .f32) (w : FVec Ideal S4x512x512 .f32)
    (scale : FVec Ideal S2048 .f32) : FVec Ideal S2x8192x2048 .f32 :=
  addf h (mulf (shapeCast _ (transpose S2x8192x4x512 [2, 3, 0, 1]
      (Host.dotGeneral dot_S4x512x512_S2x8192x4x512_S4x512x2x8192_1_3_2_01_0_2 none w (deviation (grouped (normalised h g))))
      transposes_S4x512x2x8192_S2x8192x4x512_2_3_0_1) shapeCasts_S2x8192x4x512_S2x8192x2048)
    (broadcastInDim S2x8192x2048 ![0, 1, 2] bcast_S1x1x2048_S2x8192x2048_0_1_2
      (broadcastInDim S1x1x2048 ![2] bcast_S2048_S1x1x2048_2 scale)))

/-- The first result: the residual plus the mixer, as rows. -/
def mixedRows (h : FVec Ideal S2x8192x2048 .f32) (g : FVec Ideal S2048 .f32) (w : FVec Ideal S4x512x512 .f32)
    (scale : FVec Ideal S2048 .f32) : FVec Ideal S16384x2048 .f32 :=
  shapeCast _ (mixed h g w scale) shapeCasts_S2x8192x2048_S16384x2048

/-- The second result: the first one's rows normalised for the next sub-layer. -/
def nextRows (h : FVec Ideal S2x8192x2048 .f32) (g : FVec Ideal S2048 .f32) (w : FVec Ideal S4x512x512 .f32)
    (scale gffn : FVec Ideal S2048 .f32) : FVec Ideal S16384x2048 .bf16 :=
  truncf .bf16 (shapeCast _ (normalised (mixed h g w scale) gffn) shapeCasts_S2x8192x2048_S16384x2048) bitsLt_bf16_f32

theorem groupOf_apply (gi : Fin 4) (hs : S2x8192x4x512.Slices ![0, 0, gi.val, 0] S2x8192x1x512)
    (c : FVec Ideal S2x8192x4x512 .f32) (b : Fin 2) (p : Fin 8192) (q : Fin 512) :
    groupOf ![0, 0, gi.val, 0] hs c (ix3 b p q) = c (ix4 b p gi q) := by
  pointwise [groupOf]

/-- The sequence of one channel of one group, zero past the end. -/
def channel (y : FVec Ideal S2x8192x4x512 .f32) (b : Fin 2) (gi : Fin 4) (q : Fin 512) (i : ℕ) : EReal :=
  if h : i < 8192 then y (ix4 b ⟨i, h⟩ gi q) else 0

/-- A left fold of additions is the initial value plus the sum. -/
theorem foldl_add {ι : Type} (t : ι → EReal) (l : List ι) (v : EReal) :
    l.foldl (fun r n => r + t n) v = v + (l.map t).sum := by
  induction l generalizing v with
  | nil => simp
  | cons a l ih => rw [List.foldl_cons, ih, List.map_cons, List.sum_cons, add_assoc]

/-- The window's places, one for each step along the sequence. -/
def stepOf : Fin 8192 ≃ (⟨4, ![1, 8192, 1, 1]⟩ : Shape).Idx where
  toFun k := ix4 0 k 0 0
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- A window of `n + 1` steps ending at `p` meets exactly the positions up to `p`. -/
theorem sum_window (f : ℕ → EReal) (n p : ℕ) (hp : p ≤ n) :
    ∑ k ∈ Finset.range (n + 1), (if n ≤ p + k then f (p + k - n) else 0) = upTo f (p + 1) := by
  obtain ⟨m, rfl⟩ := Nat.exists_eq_add_of_le' hp
  rw [Nat.add_assoc m p 1, Finset.sum_range_add _ m (p + 1), Finset.sum_eq_zero fun k hk => if_neg (by
    have := Finset.mem_range.1 hk
    omega), zero_add]
  refine Finset.sum_congr rfl fun i _ => ?_
  rw [if_pos (by omega)]
  congr 1
  omega

/-- The running sum at a position adds up the channel so far. -/
theorem running_apply (y : FVec Ideal S2x8192x4x512 .f32) (b : Fin 2) (p : Fin 8192) (gi : Fin 4) (q : Fin 512) :
    running y (ix4 b p gi q) = upTo (channel y b gi q) (p.val + 1) := by
  have hp := p.isLt
  unfold running
  unfold Host.reduceWindowAdd
  rw [Ideal.hostReduceWindowAdd_def]
  unfold Ideal.hostReduceWindowAdd Host.reduceWindow
  have hz : (broadcastInDim S_ ![] bcast_S_S_ (constant S_ .f32 0x00000000#32) : FVec Ideal S_ .f32) (Shape.Idx.first h_S_) = 0 := by
    show Ideal.ofBits .f32 0x00000000#32 = 0
    exact Ideal.ofBits_zero_f32
  dsimp only
  rw [hz]
  refine (foldl_add _ _ _).trans ?_
  rw [zero_add, ← Fin.sum_univ_def]
  let g : (⟨4, ![1, 8192, 1, 1]⟩ : Shape).Idx → EReal := fun w =>
    if 8191 ≤ p.val + (w 1).val then channel y b gi q (p.val + (w 1).val - 8191) else 0
  have key : ∀ w : (⟨4, ![1, 8192, 1, 1]⟩ : Shape).Idx,
      ∀ inst : Decidable (∀ a : Fin 4, ![0, 8191, 0, 0] a ≤ (ix4 b p gi q a).val * ![1, 1, 1, 1] a + (w a).val ∧
          (ix4 b p gi q a).val * ![1, 1, 1, 1] a + (w a).val - ![0, 8191, 0, 0] a < S2x8192x4x512.size a),
      @dite EReal _ inst
        (fun hin => y fun a => ⟨(ix4 b p gi q a).val * ![1, 1, 1, 1] a + (w a).val - ![0, 8191, 0, 0] a, (hin a).2⟩)
        (fun _ => 0) = g w := by
    intro w inst
    have w0 : (w 0).val = 0 := Nat.lt_one_iff.1 (w 0).isLt
    have w1 : (w 1).val < 8192 := (w 1).isLt
    have w2 : (w 2).val = 0 := Nat.lt_one_iff.1 (w 2).isLt
    have w3 : (w 3).val = 0 := Nat.lt_one_iff.1 (w 3).isLt
    by_cases hk : 8191 ≤ p.val + (w 1).val
    · have hin : ∀ a : Fin 4, ![0, 8191, 0, 0] a ≤ (ix4 b p gi q a).val * ![1, 1, 1, 1] a + (w a).val ∧
          (ix4 b p gi q a).val * ![1, 1, 1, 1] a + (w a).val - ![0, 8191, 0, 0] a < S2x8192x4x512.size a := by
        intro a
        match a with
        | ⟨0, _⟩ => exact ⟨Nat.zero_le _, by show b.val * 1 + (w 0).val - 0 < 2; omega⟩
        | ⟨1, _⟩ =>
          exact ⟨by show 8191 ≤ p.val * 1 + (w 1).val; omega, by show p.val * 1 + (w 1).val - 8191 < 8192; omega⟩
        | ⟨2, _⟩ => exact ⟨Nat.zero_le _, by show gi.val * 1 + (w 2).val - 0 < 4; omega⟩
        | ⟨3, _⟩ => exact ⟨Nat.zero_le _, by show q.val * 1 + (w 3).val - 0 < 512; omega⟩
      rw [dif_pos hin]
      show _ = if 8191 ≤ p.val + (w 1).val then _ else _
      rw [if_pos hk]
      unfold channel
      rw [dif_pos (by omega)]
      refine congrArg y (funext fun a => Fin.ext ?_)
      match a with
      | ⟨0, _⟩ => show b.val * 1 + (w 0).val - 0 = b.val; omega
      | ⟨1, _⟩ => show p.val * 1 + (w 1).val - 8191 = p.val + (w 1).val - 8191; omega
      | ⟨2, _⟩ => show gi.val * 1 + (w 2).val - 0 = gi.val; omega
      | ⟨3, _⟩ => show q.val * 1 + (w 3).val - 0 = q.val; omega
    · rw [dif_neg fun hin => hk (by
        have h1 : 8191 ≤ p.val * 1 + (w 1).val := (hin 1).1
        omega)]
      show _ = if 8191 ≤ p.val + (w 1).val then _ else _
      rw [if_neg hk]
  calc _ = ∑ n, g ((⟨4, ![1, 8192, 1, 1]⟩ : Shape).rowMajor.symm n) := by
        refine Finset.sum_congr rfl fun n _ => ?_
        exact key _ _
    _ = ∑ w, g w := Equiv.sum_comp _ g
    _ = ∑ k : Fin 8192, g (stepOf k) := (Equiv.sum_comp stepOf g).symm
    _ = ∑ k ∈ Finset.range 8192, (if 8191 ≤ p.val + k then channel y b gi q (p.val + k - 8191) else 0) :=
        Fin.sum_univ_eq_sum_range (fun k => if 8191 ≤ p.val + k then channel y b gi q (p.val + k - 8191) else 0) 8192
    _ = _ := sum_window _ 8191 p.val (by omega)

theorem windowMean_apply (n : ℕ) (bits : BitVec 32) (hp : S2x8192x512.Pads ![0, n, 0] ![0, 0, 0] ![0, 0, 0] ⟨3, ![2, 8192 + n, 512]⟩)
    (hc : (⟨3, ![2, 8192 + n, 512]⟩ : Shape).Slices ![0, 0, 0] S2x8192x512) (c : FVec Ideal S2x8192x512 .f32)
    (b : Fin 2) (p : Fin 8192) (q : Fin 512) :
    windowMean n bits hp hc c (ix4 b p 0 q)
      = Ideal.div (c (ix3 b p q) - (if h : n ≤ p.val then c (ix3 b ⟨p.val - n, by omega⟩ q) else 0))
        (min (1 + ((p.val : ℝ) : EReal)) (Ideal.ofBits .f32 bits)) := by
  pointwise [windowMean]
  have h0 : (FloatOps.sitofp FTy.f32 0#32 : Ideal .f32) = 0 := sitofp_zero
  have h1 : (FloatOps.sitofp FTy.f32 (BitVec.ofNat 32 p.val) : Ideal .f32) = ((p.val : ℝ) : EReal) := by
    show (((BitVec.ofNat 32 p.val).toInt : ℝ) : EReal) = _
    have hp := p.isLt
    have hn : (BitVec.ofNat 32 p.val).toNat = p.val := by rw [BitVec.toNat_ofNat]; omega
    rw [BitVec.toInt_eq_toNat_of_lt (by rw [hn]; omega), hn]
    rfl
  rw [h0, h1]
  have hp := p.isLt
  by_cases h : n ≤ p.val
  · rw [dif_pos ⟨h, by omega⟩, dif_pos h]
  · rw [dif_neg fun e => h e.1, dif_neg h]

/-- The window of each group. -/
def window : Fin 4 → ℕ := ![2, 4, 8, 16]

/-- The window of each group as the float the counts are capped at. -/
def cap : Fin 4 → BitVec 32 := ![0x40000000#32, 0x40800000#32, 0x41000000#32, 0x41800000#32]

/-- The mean over the trailing window, for a channel of reals. -/
theorem trailing_apply (n : ℕ) (bits : BitVec 32) (hp : S2x8192x512.Pads ![0, n, 0] ![0, 0, 0] ![0, 0, 0] ⟨3, ![2, 8192 + n, 512]⟩)
    (hc : (⟨3, ![2, 8192 + n, 512]⟩ : Shape).Slices ![0, 0, 0] S2x8192x512) (gi : Fin 4)
    (hs : S2x8192x4x512.Slices ![0, 0, gi.val, 0] S2x8192x1x512) (y : FVec Ideal S2x8192x4x512 .f32)
    (b : Fin 2) (p : Fin 8192) (q : Fin 512) (hy : ∀ i, IsReal (channel y b gi q i)) :
    windowMean n bits hp hc (groupOf ![0, 0, gi.val, 0] hs (running y)) (ix4 b p 0 q)
      = Ideal.div (behind (channel y b gi q) p.val n) (min (1 + ((p.val : ℝ) : EReal)) (Ideal.ofBits .f32 bits)) := by
  rw [windowMean_apply, groupOf_apply, running_apply]
  refine congrArg (Ideal.div · _) (Eq.trans (congrArg (_ - ·) ?_) (upTo_sub _ p.val n fun i _ => hy i))
  by_cases h : n ≤ p.val
  · rw [dif_pos h, if_pos h, groupOf_apply, running_apply]
  · rw [dif_neg h, if_neg h]

theorem deviation_apply (y : FVec Ideal S2x8192x4x512 .f32) (b : Fin 2) (p : Fin 8192) (gi : Fin 4) (q : Fin 512)
    (hy : ∀ i, IsReal (channel y b gi q i)) :
    deviation y (ix4 b p gi q)
      = Ideal.div (behind (channel y b gi q) p.val (window gi)) (min (1 + ((p.val : ℝ) : EReal)) (Ideal.ofBits .f32 (cap gi)))
        - y (ix4 b p gi q) := by
  unfold deviation
  show _ - y (ix4 b p gi q) = _
  congr 1
  match gi with
  | 0 =>
    refine Eq.trans ?_ (trailing_apply 2 0x40000000#32 pads_S2x8192x512_S2x8194x512_000_200_000 slices_S2x8194x512_S2x8192x512_0_0_0 0
      slices_S2x8192x4x512_S2x8192x1x512_0_0_0_0 y b p q hy)
    pointwise
  | 1 =>
    refine Eq.trans ?_ (trailing_apply 4 0x40800000#32 pads_S2x8192x512_S2x8196x512_000_400_000 slices_S2x8196x512_S2x8192x512_0_0_0 1
      slices_S2x8192x4x512_S2x8192x1x512_0_0_1_0 y b p q hy)
    pointwise
  | 2 =>
    refine Eq.trans ?_ (trailing_apply 8 0x41000000#32 pads_S2x8192x512_S2x8200x512_000_800_000 slices_S2x8200x512_S2x8192x512_0_0_0 2
      slices_S2x8192x4x512_S2x8192x1x512_0_0_2_0 y b p q hy)
    pointwise
  | 3 =>
    refine Eq.trans ?_ (trailing_apply 16 0x41800000#32 pads_S2x8192x512_S2x8208x512_000_1600_000 slices_S2x8208x512_S2x8192x512_0_0_0 3
      slices_S2x8192x4x512_S2x8192x1x512_0_0_3_0 y b p q hy)
    pointwise

theorem normalised_apply (h : FVec Ideal S2x8192x2048 .f32) (g : FVec Ideal S2048 .f32) (b : Fin 2) (p : Fin 8192) (c : Fin 2048) :
    normalised h g (ix3 b p c)
      = h (ix3 b p c) * Ideal.rsqrt (Ideal.div (∑ k : Fin 2048, h (ix3 b p k) * h (ix3 b p k)) (Ideal.ofBits .f32 0x45000000#32)
          + Ideal.ofBits .f32 0x358637BD#32) * g (ix1 c) := by
  pointwise [normalised]

/-- The channel `q` of group `gi`. -/
def column (gi : Fin 4) (q : Fin 512) : Fin 2048 := ⟨gi.val * 512 + q.val, by omega⟩

theorem mixed_apply (h : FVec Ideal S2x8192x2048 .f32) (g : FVec Ideal S2048 .f32) (w : FVec Ideal S4x512x512 .f32)
    (scale : FVec Ideal S2048 .f32) (b : Fin 2) (p : Fin 8192) (gi : Fin 4) (q : Fin 512) :
    mixed h g w scale (ix3 b p (column gi q))
      = h (ix3 b p (column gi q))
        + (∑ k : Fin 512, w (ix3 gi k q) * deviation (grouped (normalised h g)) (ix4 b p gi k)) * scale (ix1 (column gi q)) := by
  have e1 : (column gi q).val / 512 = gi.val := by unfold column; dsimp only; omega
  have e2 : (column gi q).val % 512 = q.val := by unfold column; dsimp only; omega
  pointwise [mixed]
  simp only [e1, e2]

theorem grouped_apply (y : FVec Ideal S2x8192x2048 .f32) (b : Fin 2) (p : Fin 8192) (gi : Fin 4) (q : Fin 512) :
    grouped y (ix4 b p gi q) = y (ix3 b p (column gi q)) := by
  pointwise [grouped]
  rfl

end Cert.ReferenceIdeal.Plain
end
-- ==== Proof.PoolFinite.lean ====
/-  Normalised rows of real numbers are real numbers: the mean square is not negative, so with the small constant added
    its root is a positive real. -/
module

public import proofs.«01_k».proof.Proof.PoolReference

@[expose] public section

set_option maxRecDepth 16384

noncomputable section

namespace Cert.ReferenceIdeal.Plain

open Cert.ReferenceIdeal Cert.ReferenceIdeal.Gen Idealize.ShloMosaic Idealize.ShloMosaic.TcCoe
open Cert.PoolSums

theorem width_value : Ideal.ofBits .f32 0x45000000#32 = ((2048 : ℝ) : EReal) := by
  simp [Ideal.ofBits, Ideal.ieee, -EReal.coe_mul]; norm_num

theorem small_value : ∃ e : ℝ, 0 < e ∧ Ideal.ofBits .f32 0x358637BD#32 = (e : EReal) := by
  refine ⟨_, ?_, by simp [Ideal.ofBits, Ideal.ieee, -EReal.coe_mul]; rfl⟩
  norm_num

theorem rsqrt_real {x : ℝ} (h : 0 < x) : IsReal (Ideal.rsqrt (x : EReal)) := by
  refine ⟨(Real.sqrt x)⁻¹, ?_⟩
  show (if x < 0 then ⊥ else if x = 0 then ⊤ else (((Real.sqrt x)⁻¹ : ℝ) : EReal)) = _
  rw [if_neg (not_lt.2 h.le), if_neg h.ne']

/-- A sum of squares of reals is a real that is not negative. -/
theorem squares_real {n : ℕ} (f : Fin n → EReal) (h : ∀ k, IsReal (f k)) :
    ∃ s : ℝ, 0 ≤ s ∧ ∑ k, f k * f k = (s : EReal) := by
  refine Finset.induction_on (motive := fun S : Finset (Fin n) => ∃ s : ℝ, 0 ≤ s ∧ ∑ k ∈ S, f k * f k = (s : EReal))
    Finset.univ ⟨0, le_rfl, by simp⟩ fun k S hk ⟨s, hs, e⟩ => ?_
  obtain ⟨r, hr⟩ := h k
  refine ⟨r * r + s, add_nonneg (mul_self_nonneg r) hs, ?_⟩
  rw [Finset.sum_insert hk, e, hr, EReal.coe_add, EReal.coe_mul]

theorem normalised_real (h : FVec Ideal S2x8192x2048 .f32) (g : FVec Ideal S2048 .f32) (hh : ∀ i, IsReal (h i))
    (hg : ∀ i, IsReal (g i)) (b : Fin 2) (p : Fin 8192) (c : Fin 2048) : IsReal (normalised h g (ix3 b p c)) := by
  rw [normalised_apply]
  obtain ⟨s, hs, e⟩ := squares_real (fun k => h (ix3 b p k)) fun k => hh _
  obtain ⟨ε, hε, e2⟩ := small_value
  refine ((hh _).mul ?_).mul (hg _)
  rw [e, width_value, e2]
  have : Ideal.div (s : EReal) ((2048 : ℝ) : EReal) = ((s * 2048⁻¹ : ℝ) : EReal) := by
    unfold Ideal.div
    rw [if_neg (by exact_mod_cast (by norm_num : (2048 : ℝ) ≠ 0)), EReal.coe_mul, EReal.coe_inv]
  rw [this, ← EReal.coe_add]
  exact rsqrt_real (by positivity)

/-- So every channel the trailing means are taken of is a channel of reals. -/
theorem channel_real (h : FVec Ideal S2x8192x2048 .f32) (g : FVec Ideal S2048 .f32) (hh : ∀ i, IsReal (h i))
    (hg : ∀ i, IsReal (g i)) (b : Fin 2) (gi : Fin 4) (q : Fin 512) (i : ℕ) :
    IsReal (channel (grouped (normalised h g)) b gi q i) := by
  unfold channel
  split
  · rw [grouped_apply]
    exact normalised_real h g hh hg _ _ _
  · exact IsReal.zero

end Cert.ReferenceIdeal.Plain
end
-- ==== Proof.PoolRows.lean ====
/-  The pooling mixer's row block against the plain computation: with the block's rows a stretch of a sequence and the
    sixteen rows before it at hand, what the body stores is the mixer's value there. -/
module

public import proofs.«01_k».proof.Proof.PoolBlock
public import proofs.«01_k».proof.Proof.PoolFinite

@[expose] public section

set_option maxRecDepth 16384

noncomputable section

namespace Cert.KernelIdeal.Rows

open Cert.KernelIdeal Cert.KernelIdeal.Gen Cert.KernelIdeal.Block Idealize.ShloMosaic Idealize.ShloMosaic.TcCoe
open Cert.PoolSums Cert.ReferenceIdeal.Plain

/-- The block's rows, and the sixteen before them, lie in sequence `b` from position `p0` on; `keep` is 0 at the
    beginning of a sequence, where nothing precedes, and 1 elsewhere. -/
structure Lies (h : FVec Ideal Cert.ReferenceIdeal.S2x8192x2048 .f32) (g : FVec Ideal Cert.ReferenceIdeal.S2048 .f32)
    (b : Fin 2) (p0 : ℕ) (x0 : Vec Ideal S512x2048 .f32) (x1 : Vec Ideal S16x2048 .f32) (x2 : Vec Ideal S1x2048 .f32)
    (keep : Ideal .f32) : Prop where
  inside : p0 + 512 ≤ 8192
  rows : ∀ (r : Fin 512) (c : Fin 2048), x0 (ix2 r c) = h (ix3 b ⟨p0 + r.val, by omega⟩ c)
  scale : ∀ c : Fin 2048, x2 (ix2 0 c) = g (ix1 c)
  before : (keep = 0 ∧ p0 = 0) ∨ (keep = 1 ∧ ∃ hp : 16 ≤ p0, ∀ (a : Fin 16) (c : Fin 2048),
    x1 (ix2 a c) = h (ix3 b ⟨p0 + a.val - 16, by omega⟩ c))

variable {h : FVec Ideal Cert.ReferenceIdeal.S2x8192x2048 .f32} {g : FVec Ideal Cert.ReferenceIdeal.S2048 .f32}
variable {b : Fin 2} {p0 : ℕ} {x0 : Vec Ideal S512x2048 .f32} {x1 : Vec Ideal S16x2048 .f32} {x2 : Vec Ideal S1x2048 .f32}
variable {keep : Ideal .f32}

theorem rows_apply (x0 : Vec Ideal S512x2048 .f32) (x2 : Vec Ideal S1x2048 .f32) (r : Fin 512) (c : Fin 2048) :
    k0_pay4 x0 x2 (ix2 r c)
      = x0 (ix2 r c) * Ideal.rsqrt (Ideal.div (∑ k : Fin 2048, x0 (ix2 r k) * x0 (ix2 r k)) (Ideal.ofBits .f32 0x45000000#32)
          + Ideal.ofBits .f32 0x358637BD#32) * x2 (ix2 0 c) := by
  pointwise [k0_pay4, k0_pay2, k0_pay3]

theorem halo_apply (x1 : Vec Ideal S16x2048 .f32) (a : Fin 16) (c : Fin 2048) :
    k0_pay7 (F := Ideal) x1 (ix2 a c)
      = Ideal.rsqrt (Ideal.div (∑ k : Fin 2048, x1 (ix2 a k) * x1 (ix2 a k)) (Ideal.ofBits .f32 0x45000000#32)
          + Ideal.ofBits .f32 0x358637BD#32) := by
  pointwise [k0_pay7, k0_pay6]

theorem extended_apply (v13 : FVec Ideal S1x2048 .f32) (v25 : FVec Ideal S512x2048 .f32) (keep : Ideal .f32)
    (v30 v39 : FVec Ideal S16x2048 .f32) (a : Fin 528) (c : Fin 2048) :
    k0_pay8 v13 v25 keep v30 v39 (ix2 a c)
      = if ha : a.val < 16 then v30 (ix2 ⟨a.val, ha⟩ c) * v39 (ix2 ⟨a.val, ha⟩ c) * v13 (ix2 0 c) * keep
        else v25 (ix2 ⟨a.val - 16, by omega⟩ c) := by
  pointwise [k0_pay8]

theorem Lies.rows_eq (L : Lies h g b p0 x0 x1 x2 keep) (r : Fin 512) (c : Fin 2048) :
    k0_pay4 x0 x2 (ix2 r c) = normalised h g (ix3 b ⟨p0 + r.val, by have := L.inside; omega⟩ c) := by
  rw [rows_apply, normalised_apply]
  simp only [L.rows, L.scale]

/-- The channel's value at row `a` of the extended block, zero before the sequence begins. -/
def extended (h : FVec Ideal Cert.ReferenceIdeal.S2x8192x2048 .f32) (g : FVec Ideal Cert.ReferenceIdeal.S2048 .f32) (b : Fin 2)
    (p0 : ℕ) (gi : Fin 4) (a : ℕ) (q : Fin 512) : EReal :=
  if 16 ≤ p0 + a then channel (grouped (normalised h g)) b gi q (p0 + a - 16) else 0

theorem channel_apply (h : FVec Ideal Cert.ReferenceIdeal.S2x8192x2048 .f32) (g : FVec Ideal Cert.ReferenceIdeal.S2048 .f32) (b : Fin 2)
    (gi : Fin 4) (q : Fin 512) (i : ℕ) (hi : i < 8192) :
    channel (grouped (normalised h g)) b gi q i = normalised h g (ix3 b ⟨i, hi⟩ (column gi q)) := by
  unfold channel
  rw [dif_pos hi, grouped_apply]

theorem Lies.extended_eq (L : Lies h g b p0 x0 x1 x2 keep) (a : Fin 528) (gi : Fin 4) (q : Fin 512) :
    k0_pay8 (k0_pay3 x2) (k0_pay4 x0 x2) keep (k0_pay6 x1) (k0_pay7 x1) (ix2 a (column gi q)) = extended h g b p0 gi a.val q := by
  have hin := L.inside
  rw [extended_apply]
  unfold extended
  by_cases ha : a.val < 16
  · rw [dif_pos ha]
    rcases L.before with ⟨hk, hp⟩ | ⟨hk, hp, hx⟩
    · rw [hk, mul_zero, if_neg (by omega)]
    · rw [hk, mul_one, if_pos (by omega), channel_apply h g b gi q _ (by omega), normalised_apply, halo_apply]
      have e3 : k0_pay3 (F := Ideal) x2 (ix2 0 (column gi q)) = x2 (ix2 0 (column gi q)) := by pointwise [k0_pay3]
      have e6 : ∀ k, k0_pay6 (F := Ideal) x1 (ix2 ⟨a.val, ha⟩ k) = x1 (ix2 ⟨a.val, ha⟩ k) := by intro k; pointwise [k0_pay6]
      rw [e3, e6]
      simp only [hx, L.scale]
  · rw [dif_neg ha, L.rows_eq, if_pos (by omega), channel_apply h g b gi q _ (by omega)]
    refine congrArg (normalised h g) ?_
    congr 1
    exact Fin.ext (by show p0 + (a.val - 16) = p0 + a.val - 16; omega)

/-- The `n` rows of the extended block that end at row `16 + r` are the channel's last `n` positions. -/
theorem window_behind (gi : Fin 4) (q : Fin 512) (r n : ℕ) (hn : n ≤ 16) :
    ∑ i ∈ Finset.range n, extended h g b p0 gi (16 + r - i) q
      = behind (channel (grouped (normalised h g)) b gi q) (p0 + r) n := by
  unfold behind
  refine Finset.sum_congr rfl fun i hi => ?_
  have := Finset.mem_range.1 hi
  unfold extended
  by_cases hc : i ≤ p0 + r
  · rw [if_pos hc, if_pos (by omega)]
    exact congrArg _ (by omega)
  · rw [if_neg hc, if_neg (by omega)]

theorem window_le : ∀ gi : Fin 4, window gi ≤ 16 := by decide

/-- What a group stores, from the extended block's trailing sums. -/
theorem group_value (hh : ∀ i, IsReal (h i)) (hg : ∀ i, IsReal (g i)) (W : FVec Ideal Cert.ReferenceIdeal.S4x512x512 .f32)
    (scale : FVec Ideal Cert.ReferenceIdeal.S2048 .f32) (hp : p0 + 512 ≤ 8192) (gi : Fin 4)
    (s : FVec Ideal S528x512 .f32) (hs : HasWindow s (extended h g b p0 gi) (window gi)) (pos : FVec Ideal S512x1 .f32)
    (r q : Fin 512) (hpos : pos (ix2 r 0) = 1 + (((p0 + r.val : ℕ) : ℝ) : EReal)) (xg hgr : FVec Ideal S512x512 .f32)
    (hx : ∀ k, xg (ix2 r k) = normalised h g (ix3 b ⟨p0 + r.val, by omega⟩ (column gi k)))
    (hr : hgr (ix2 r q) = h (ix3 b ⟨p0 + r.val, by omega⟩ (column gi q))) (w : Vec Ideal S1x512x512 .bf16)
    (sc : Vec Ideal S1x512 .f32) (hw : ∀ k, w (ix3 0 k q) = W (ix3 gi k q)) (hsc : sc (ix2 0 q) = scale (ix1 (column gi q))) :
    groupBlock s pos (cap gi) xg hgr w sc (ix2 r q) = mixed h g W scale (ix3 b ⟨p0 + r.val, by omega⟩ (column gi q)) := by
  have hn := window_le gi
  rw [groupBlock_apply, mixed_apply, hr, hsc]
  congr 2
  refine Finset.sum_congr rfl fun k _ => ?_
  rw [hw, mul_comm, deviation_apply _ _ _ _ _ (channel_real h g hh hg b gi k), hx, hpos, hs _ _ (by show window gi ≤ 16 + r.val + 1; omega),
    window_behind gi k r.val (window gi) hn, grouped_apply]

end Cert.KernelIdeal.Rows
end
-- ==== Proof.PoolResult.lean ====
/-  The pooling mixer: both result arrays are the plain computation's terms, for finite activations and scale. -/
module

public import proofs.«01_k».proof.Proof.PoolRows
public import proofs.«01_k».proof.Proof.Gen.KernelIdeal.Value
public import Idealize.ShloMosaic.Lib.Pipeline.ValueKit

@[expose] public section

set_option maxRecDepth 16384

noncomputable section

namespace Cert.KernelIdeal.Result

open Cert.KernelIdeal Cert.KernelIdeal.Gen Cert.KernelIdeal.Block Cert.KernelIdeal.Rows
open Idealize.ShloMosaic Idealize.ShloMosaic.TcCoe Idealize.SL.Sem
open Idealize.ShloMosaic.Pipeline (Dat)
open Cert.PoolSums
open Cert.ReferenceIdeal.Plain (mixed mixedRows nextRows normalised column)

variable (m : (ℓ : Loc nD τ sig) → Buf (Elt Ideal) ℓ)

/-- Which block each window hands a grid point: 512 rows, and the sixteen before them. -/
theorem idx : ∀ t : Fin cfg0.N, win0_0.index t = ![t.val, 0] ∧ win0_1.index t = ![t.val * 32 - 1, 0]
    ∧ win0_2.index t = ![0, 0] ∧ win0_3.index t = ![0, 0, 0] ∧ win0_4.index t = ![0, 0]
    ∧ win0_5.index t = ![0, 0] ∧ win0_6.index t = ![t.val, 0] ∧ win0_7.index t = ![t.val, 0] :=
  (by decide +kernel : ∀ t : Fin grid0.N, _)

/-- The place of a grid point's block within its sequence, as the body computes it. -/
def tile (n : ℕ) : BitVec 32 :=
  Scalar.select
    (Scalar.andi
      (Scalar.xori (Scalar.cmpi CmpIPredicate.slt (Scalar.remsi (BitVec.ofNat 32 n) 16#32) 0#32) 0#1)
      (Scalar.cmpi CmpIPredicate.ne (Scalar.remsi (BitVec.ofNat 32 n) 16#32) 0#32))
    (Scalar.addi (Scalar.remsi (BitVec.ofNat 32 n) 16#32) 16#32)
    (Scalar.remsi (BitVec.ofNat 32 n) 16#32)

theorem tile_eq : ∀ n : Fin 32, tile n.val = BitVec.ofNat 32 (n.val % 16) := by decide +kernel

theorem coords_val (t : Fin cfg0.N) : (grid0.coords t 0).val = t.val := by
  revert t
  exact (by decide +kernel : ∀ t : Fin grid0.N, (grid0.coords t 0).val = t.val)

/-- Whether anything precedes a grid point's block in its sequence, as the body computes it. -/
def keepWord (n : ℕ) : BitVec 32 :=
  let v0 : BitVec 1 := Scalar.cmpi .eq 16#32 0#32
  let v1 : BitVec 32 := Scalar.select v0 1#32 16#32
  let v2 : BitVec 32 := Scalar.remsi (BitVec.ofNat 32 n) v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v26 : BitVec 1 := Scalar.cmpi .sgt v9 0#32
  Scalar.extui v26

theorem keepWord_eq : ∀ n : Fin 32, keepWord n.val = if n.val % 16 = 0 then 0#32 else 1#32 := by decide +kernel

/-- Nothing precedes the first block of a sequence. -/
theorem keep_eq (t : Fin cfg0.N) : k0_pay5 (F := Ideal) (grid0.coords t) = if t.val % 16 = 0 then 0 else 1 := by
  have hN : t.val < 32 := lt_of_lt_of_eq t.isLt N_0
  have e : k0_pay5 (F := Ideal) (grid0.coords t) = Scalar.sitofp .f32 (keepWord (grid0.coords t 0).val) := by
    unfold k0_pay5 keepWord
    rfl
  rw [e, coords_val, keepWord_eq ⟨t.val, hN⟩]
  dsimp only
  by_cases h : t.val % 16 = 0
  · rw [if_pos h, if_pos h]
    exact sitofp_zero
  · rw [if_neg h, if_neg h]
    show (((1#32 : BitVec 32).toInt : ℝ) : EReal) = 1
    have : (1#32 : BitVec 32).toInt = 1 := by decide
    rw [this]
    norm_num

/-- The position of row `r` counted from one. -/
theorem pos_eq (t : Fin cfg0.N) (r : Fin 512) :
    k0_pay9 (F := Ideal) (tile (grid0.coords t 0).val) (ix2 r 0) = 1 + (((t.val % 16 * 512 + r.val : ℕ) : ℝ) : EReal) := by
  have hN : t.val < 32 := lt_of_lt_of_eq t.isLt N_0
  rw [coords_val, tile_eq ⟨t.val, hN⟩]
  pointwise [k0_pay9]
  have e : IntOp.addi (IntOp.addi (Scalar.muli (BitVec.ofNat 32 (t.val % 16)) 512#32) (BitVec.ofNat 32 r.val)) 1#32
      = BitVec.ofNat 32 (1 + (t.val % 16 * 512 + r.val)) := by
    apply BitVec.eq_of_toNat_eq
    show (BitVec.ofNat 32 (t.val % 16) * 512#32 + BitVec.ofNat 32 r.val + 1#32).toNat = _
    simp only [BitVec.toNat_add, BitVec.toNat_mul, BitVec.toNat_ofNat]
    omega
  rw [e]
  show (((BitVec.ofNat 32 (1 + (t.val % 16 * 512 + r.val))).toInt : ℝ) : EReal) = _
  have hn : (BitVec.ofNat 32 (1 + (t.val % 16 * 512 + r.val))).toNat = 1 + (t.val % 16 * 512 + r.val) := by
    rw [BitVec.toNat_ofNat]; omega
  rw [BitVec.toInt_eq_toNat_of_lt (by rw [hn]; omega), hn]
  push_cast
  rfl

variable (c : Dev nD)

abbrev hOf : FVec Ideal Cert.ReferenceIdeal.S2x8192x2048 .f32 := m ((c : Thread nD τ).loc main_arg0)
abbrev gOf : FVec Ideal Cert.ReferenceIdeal.S2048 .f32 := m ((c : Thread nD τ).loc main_arg1)
abbrev wOf : FVec Ideal Cert.ReferenceIdeal.S4x512x512 .f32 := m ((c : Thread nD τ).loc main_arg2)
abbrev scaleOf : FVec Ideal Cert.ReferenceIdeal.S2048 .f32 := m ((c : Thread nD τ).loc main_arg3)
abbrev nextOf : FVec Ideal Cert.ReferenceIdeal.S2048 .f32 := m ((c : Thread nD τ).loc main_arg4)

/-- A grid point's rows lie in sequence `t / 16` from position `t % 16 * 512` on. -/
theorem lies (t : Fin cfg0.N) : Lies (hOf m c) (gOf m c) ⟨t.val / 16, by have := lt_of_lt_of_eq t.isLt N_0; omega⟩
    (t.val % 16 * 512) (iblk m c 0 t) (iblk m c 1 t) (iblk m c 2 t) (k0_pay5 (F := Ideal) (grid0.coords t)) where
  inside := by omega
  rows r d := by
    blk_ext! [iblk, V, idx t]
  scale d := by
    blk_ext! [iblk, V, idx t]
  before := by
    rw [keep_eq]
    by_cases h0 : t.val % 16 = 0
    · exact .inl ⟨if_pos h0, by omega⟩
    · refine .inr ⟨if_neg h0, by omega, fun a d => ?_⟩
      blk_ext! [iblk, V, idx t]

/-- The scale as its window hands it to a grid point. -/
theorem scale_read (t : Fin cfg0.N) (d : Fin 2048) : iblk m c 4 t (ix2 0 d) = scaleOf m c (ix1 d) := by
  blk_ext! [iblk, V, idx t]

/-- A block of the scale's columns, loaded. -/
theorem scale_load (t : Fin cfg0.N) (gi : Fin 4) (q : Fin 512) (j : S1x2048.Idx) (h1 : (j 1).val = gi.val * 512 + q.val) :
    iblk m c 4 t j = scaleOf m c (ix1 (column gi q)) := by
  refine (congrArg (iblk m c 4 t) (funext fun k => Fin.ext ?_)).trans (scale_read m c t (column gi q))
  match k with
  | ⟨0, _⟩ => exact Nat.lt_one_iff.mp (j 0).isLt
  | ⟨1, _⟩ => exact h1

/-- The columns of a group, cut out of a block of rows. -/
theorem columns_apply {n : ℕ} (gi : Fin 4) (v : FVec Ideal ⟨2, ![n, 2048]⟩ .f32)
    (hs : (⟨2, ![n, 2048]⟩ : Shape).Slices ![0, gi.val * 512] ⟨2, ![n, 512]⟩) (a : Fin n) (q : Fin 512) :
    extractStridedSlice ⟨2, ![n, 512]⟩ ![0, gi.val * 512] v hs (ix2 a q) = v (ix2 a (column gi q)) := by
  refine congrArg v (funext fun k => Fin.ext ?_)
  match k with
  | ⟨0, _⟩ => exact Nat.zero_add _
  | ⟨1, _⟩ => rfl

variable (t : Fin cfg0.N)

/-- The place in its sequence of row `r` of a grid point's block. -/
def place (r : ℕ) (h : r < 512) : Fin 8192 := ⟨t.val % 16 * 512 + r, by omega⟩

/-- The sequence of a grid point's block. -/
def sequence : Fin 2 := ⟨t.val / 16, by have := lt_of_lt_of_eq t.isLt N_0; omega⟩

/-- The rows of a grid point's block with the sixteen before them, normalised. -/
abbrev extendedRows : FVec Ideal S528x2048 .f32 :=
  k0_pay8 (k0_pay3 (iblk m c 2 t)) (k0_pay4 (iblk m c 0 t) (iblk m c 2 t)) (k0_pay5 (grid0.coords t))
    (k0_pay6 (iblk m c 1 t)) (k0_pay7 (iblk m c 1 t))

/-- A group's columns of the extended rows, each its own sum of one. -/
theorem base (gi : Fin 4) (hs : S528x2048.Slices ![0, gi.val * 512] S528x512) :
    HasWindow (extractStridedSlice S528x512 ![0, gi.val * 512] (extendedRows m c t) hs)
      (extended (hOf m c) (gOf m c) (sequence t) (t.val % 16 * 512) gi) 1 :=
  hasWindow_one _ _ fun a q => (columns_apply gi _ hs a q).trans ((lies m c t).extended_eq a gi q)

/-- One group's stored columns are the plain computation's. -/
theorem group (hh : ∀ i, IsReal (hOf m c i)) (hg : ∀ i, IsReal (gOf m c i)) (gi : Fin 4) (s : FVec Ideal S528x512 .f32)
    (hs : HasWindow s (extended (hOf m c) (gOf m c) (sequence t) (t.val % 16 * 512) gi) (Cert.ReferenceIdeal.Plain.window gi))
    (hsl : S512x2048.Slices ![0, gi.val * 512] S512x512) (w : Vec Ideal S1x512x512 .bf16) (sc : Vec Ideal S1x512 .f32)
    (hw : ∀ k q, w (ix3 0 k q) = wOf m c (ix3 gi k q)) (hsc : ∀ q, sc (ix2 0 q) = scaleOf m c (ix1 (column gi q)))
    (x : S512x512.Idx) (y : S512x2048.Idx) (h0 : (y 0).val = (x 0).val) (h1 : (y 1).val = gi.val * 512 + (x 1).val) :
    groupBlock s (k0_pay9 (tile (grid0.coords t 0).val)) (Cert.ReferenceIdeal.Plain.cap gi)
        (extractStridedSlice S512x512 ![0, gi.val * 512] (k0_pay4 (iblk m c 0 t) (iblk m c 2 t)) hsl)
        (extractStridedSlice S512x512 ![0, gi.val * 512] (k0_pay2 (iblk m c 0 t)) hsl) w sc x
      = mixed (hOf m c) (gOf m c) (wOf m c) (scaleOf m c) (ix3 (sequence t) (place t (y 0).val (y 0).isLt) (y 1)) := by
  have L := lies m c t
  rw [eq_ix2 x, group_value hh hg (wOf m c) (scaleOf m c) L.inside gi s hs _ (x 0) (x 1) (pos_eq t (x 0)) _ _
    (fun k => (columns_apply gi _ hsl (x 0) k).trans (L.rows_eq (x 0) (column gi k)))
    ((columns_apply gi _ hsl (x 0) (x 1)).trans ?_) w sc (fun k => hw k (x 1)) (hsc (x 1))]
  · have e1 : y 1 = column gi (x 1) := Fin.ext h1
    have e0 : place t (y 0).val (y 0).isLt = ⟨t.val % 16 * 512 + (x 0).val, by have := (x 0).isLt; have e : S512x512.size 0 = 512 := rfl; omega⟩ :=
      Fin.ext (by show t.val % 16 * 512 + (y 0).val = _; rw [h0])
    rw [e1, e0]
  · refine Eq.trans ?_ (L.rows (x 0) (column gi (x 1)))
    pointwise [k0_pay2]

/-- A finished row block holds the plain computation's rows. -/
theorem rows (hh : ∀ i, IsReal (hOf m c i)) (hg : ∀ i, IsReal (gOf m c i)) (y : S512x2048.Idx) :
    (outsAt0 m c t).1 y = mixed (hOf m c) (gOf m c) (wOf m c) (scaleOf m c) (ix3 (sequence t) (place t (y 0).val (y 0).isLt) (y 1)) := by
  unfold outsAt0
  frame_out
  canon_tiles x h
  · refine (congrFun (group16 _ _ _ _ _ _) x).trans (group m c t hh hg 3 _
      ((((base m c t 3 _).doubled 1#32 rfl (by decide)).doubled 2#32 rfl (by decide)).doubled 4#32 rfl (by decide) |>.doubled 8#32 rfl (by decide))
      _ _ _ (fun k q => ?_) (fun q => ?_) x y h0 h1)
    · blk_ext! [iblk, V, idx t]
    · exact scale_load m c t _ q _ (by show 1536 + 1 * q.val = 3 * 512 + q.val; omega)
  · refine (congrFun (group8 _ _ _ _ _ _) x).trans (group m c t hh hg 2 _
      ((((base m c t 2 _).doubled 1#32 rfl (by decide)).doubled 2#32 rfl (by decide)).doubled 4#32 rfl (by decide))
      _ _ _ (fun k q => ?_) (fun q => ?_) x y h0 h1)
    · blk_ext! [iblk, V, idx t]
    · exact scale_load m c t _ q _ (by show 1024 + 1 * q.val = 2 * 512 + q.val; omega)
  · refine (congrFun (group4 _ _ _ _ _ _ _ _ _) x).trans (group m c t hh hg 1 _
      (((base m c t 1 _).doubled 1#32 rfl (by decide)).doubled 2#32 rfl (by decide))
      _ _ _ (fun k q => ?_) (fun q => ?_) x y h0 h1)
    · blk_ext! [iblk, V, idx t]
    · exact scale_load m c t _ q _ (by show 512 + 1 * q.val = 1 * 512 + q.val; omega)
  · refine (congrFun (group2 _ _ _ _ _ _ _ _ _) x).trans (group m c t hh hg 0 _
      ((base m c t 0 _).doubled 1#32 rfl (by decide))
      _ _ _ (fun k q => ?_) (fun q => ?_) x y h0 (h1.trans (Nat.zero_add _).symm))
    · blk_ext! [iblk, V, idx t]
    · exact scale_load m c t _ q _ (by show 0 + 1 * q.val = 0 * 512 + q.val; omega)

/-- The first result's rows by sequence and position. -/
theorem mixedRows_apply (R : Fin 16384) (d : Fin 2048) : mixedRows (hOf m c) (gOf m c) (wOf m c) (scaleOf m c) (ix2 R d)
    = mixed (hOf m c) (gOf m c) (wOf m c) (scaleOf m c) (ix3 ⟨R.val / 8192, by omega⟩ ⟨R.val % 8192, by omega⟩ d) := by
  pointwise [mixedRows]

/-- The second result's rows by sequence and position. -/
theorem nextRows_apply (R : Fin 16384) (d : Fin 2048) :
    nextRows (hOf m c) (gOf m c) (wOf m c) (scaleOf m c) (nextOf m c) (ix2 R d)
    = normalised (mixed (hOf m c) (gOf m c) (wOf m c) (scaleOf m c)) (nextOf m c)
        (ix3 ⟨R.val / 8192, by omega⟩ ⟨R.val % 8192, by omega⟩ d) := by
  pointwise [nextRows]

/-- Where row `r` of a grid point's block lies in the result. -/
def rowOf (r : Fin 512) : Fin 16384 := ⟨t.val * 512 + r.val, by have := lt_of_lt_of_eq t.isLt N_0; omega⟩

/-- A row of the result, by sequence and position. -/
theorem rowOf_eq (r : Fin 512) (d : Fin 2048) :
    (ix3 ⟨(rowOf t r).val / 8192, by omega⟩ ⟨(rowOf t r).val % 8192, by omega⟩ d : Cert.ReferenceIdeal.S2x8192x2048.Idx)
      = ix3 (sequence t) (place t r.val r.isLt) d := by
  have e0 : (⟨(rowOf t r).val / 8192, by omega⟩ : Fin 2) = sequence t :=
    Fin.ext (by show (t.val * 512 + r.val) / 8192 = t.val / 16; omega)
  have e1 : (⟨(rowOf t r).val % 8192, by omega⟩ : Fin 8192) = place t r.val r.isLt :=
    Fin.ext (by show (t.val * 512 + r.val) % 8192 = t.val % 16 * 512 + r.val; omega)
  rw [e0, e1]

/-- The first result array. -/
theorem final6 (hh : ∀ i, IsReal (hOf m c i)) (hg : ∀ i, IsReal (gOf m c i)) :
    (dats m 0 c).arrAt 6 cfg0.N = mixedRows (hOf m c) (gOf m c) (wOf m c) (scaleOf m c) := by
  refine (dats m 0 c).arrAt_eq_of_covers 6 _ (by decide +kernel) fun t hf y => ?_
  blk_simp
  rw [after0_6]
  have e := (mixedRows_apply m c (rowOf t (y 0)) (y 1)).trans (congrArg _ (rowOf_eq t (y 0) (y 1)))
  refine (rows m c t hh hg y).trans (e.symm.trans ?_)
  unfold rowOf
  blk_ext [idx t]

theorem whole_idx (inb : ∀ a, (![0, 0] : Fin 2 → ℕ) a + (![512, 2048] : Fin 2 → ℕ) a ≤ S512x2048.size a) (j : S512x2048.Idx) :
    (Rect.unit (s := S512x2048) ![0, 0] ![512, 2048] inb).toLoadRect.idx j = j := by
  funext k
  refine Fin.ext ?_
  match k with
  | ⟨0, _⟩ => show 0 + 1 * (j 0).val = (j 0).val; omega
  | ⟨1, _⟩ => show 0 + 1 * (j 1).val = (j 1).val; omega

/-- A finished row block's second result, from its first. -/
theorem normed : (outsAt0 m c t).2
    = k0_pay1 (F := Ideal) (k0_pay15 (outsAt0 m c t).1) (k0_pay16 (iblk m c 5 t)) (k0_pay17 (outsAt0 m c t).1) := by
  unfold outsAt0
  frame_out
  refine congrArg₂ (fun a b => k0_pay1 (F := Ideal) (k0_pay15 a) (k0_pay16 (iblk m c 5 t)) (k0_pay17 b)) ?_ ?_
  all_goals exact (View.readCov_eq_canon' _ _ _).trans (funext fun j => congrArg (View.canon _) (whole_idx _ j))

/-- A block's normalised rows. -/
theorem normed_apply (x : Vec Ideal S512x2048 .f32) (g : Vec Ideal S1x2048 .f32) (r : Fin 512) (d : Fin 2048) :
    k0_pay1 (F := Ideal) (k0_pay15 x) (k0_pay16 g) (k0_pay17 x) (ix2 r d)
      = x (ix2 r d) * Ideal.rsqrt (Ideal.div (∑ k : Fin 2048, x (ix2 r k) * x (ix2 r k)) (Ideal.ofBits .f32 0x45000000#32)
          + Ideal.ofBits .f32 0x358637BD#32) * g (ix2 0 d) := by
  pointwise [k0_pay1, k0_pay15, k0_pay16, k0_pay17]

/-- The next sub-layer's scale as its window hands it to a grid point. -/
theorem next_read (d : Fin 2048) : iblk m c 5 t (ix2 0 d) = nextOf m c (ix1 d) := by
  blk_ext! [iblk, V, idx t]

/-- A finished row block's second result holds the plain computation's rows. -/
theorem nextBlock (hh : ∀ i, IsReal (hOf m c i)) (hg : ∀ i, IsReal (gOf m c i)) (r : Fin 512) (d : Fin 2048) :
    (outsAt0 m c t).2 (ix2 r d) = normalised (mixed (hOf m c) (gOf m c) (wOf m c) (scaleOf m c)) (nextOf m c)
      (ix3 (sequence t) (place t r.val r.isLt) d) := by
  have hr : ∀ k, (outsAt0 m c t).1 (ix2 r k)
      = mixed (hOf m c) (gOf m c) (wOf m c) (scaleOf m c) (ix3 (sequence t) (place t r.val r.isLt) k) :=
    fun k => rows m c t hh hg (ix2 r k)
  refine (congrFun (normed m c t) _).trans ?_
  refine (normed_apply _ _ r d).trans ?_
  rw [Cert.ReferenceIdeal.Plain.normalised_apply]
  have hn := next_read m c t d
  rw [hn]
  simp only [hr]

/-- The second result array. -/
theorem final7 (hh : ∀ i, IsReal (hOf m c i)) (hg : ∀ i, IsReal (gOf m c i)) :
    (dats m 0 c).arrAt 7 cfg0.N = nextRows (hOf m c) (gOf m c) (wOf m c) (scaleOf m c) (nextOf m c) := by
  refine (dats m 0 c).arrAt_eq_of_covers 7 _ (by decide +kernel) fun t hf y => ?_
  blk_simp
  rw [after0_7]
  have e := (nextRows_apply m c (rowOf t (y 0)) (y 1)).trans (congrArg _ (rowOf_eq t (y 0) (y 1)))
  refine (congrArg _ (eq_ix2 y)).trans ((nextBlock m c t hh hg (y 0) (y 1)).trans (e.symm.trans ?_))
  unfold rowOf
  blk_ext [idx t]

end Cert.KernelIdeal.Result
end
-- ==== Proof.PoolClaim.lean ====
/-  The pooling mixer computes what the plain computation computes, for finite activations and scale. -/
module

public import Idealize.ShloMosaic.Lib.WordCmp
public import Idealize.ShloMosaic.Lib.ReduceAll
public import Idealize.ShloMosaic.Lib.Pipeline.ValueKit
public import proofs.«01_k».proof.Defs
public import proofs.«01_k».proof.Proof.PoolResult
public import proofs.«01_k».proof.Proof.Gen.Kernel.Frame
public import proofs.«01_k».proof.Proof.Gen.ReferenceIdeal.Run
public import proofs.«01_k».proof.Proof.Gen.Pre_inputs_finite

@[expose] public section

set_option maxRecDepth 16384

noncomputable section

namespace Cert.PoolClaim

open Idealize.ShloMosaic Idealize.ShloMosaic.TcCoe Idealize.SL.Sem
open Cert.PoolSums

/-- A number whose absolute value is below infinity is a real. -/
theorem real_of_lt (x : EReal) (h : FloatOps.cmpf (F := Ideal) (φ := .f32) .olt (FloatOps.absf (F := Ideal) (φ := .f32) x)
    (FloatOps.ofBits (F := Ideal) .f32 0x7F800000#32) = 1#1) : IsReal x := by
  have h1 : max x (-x) < Ideal.ofBits .f32 0x7F800000#32 := by
    by_contra hn
    have : FloatOps.cmpf (F := Ideal) (φ := .f32) .olt (max x (-x)) (Ideal.ofBits .f32 0x7F800000#32) = 0#1 := by
      show BitVec.ofBool (decide _) = 0#1
      rw [decide_eq_false hn]; rfl
    exact absurd (this.symm.trans h) (by decide)
  have ht : Ideal.ofBits .f32 0x7F800000#32 = ⊤ := by simp [Ideal.ofBits, Ideal.ieee]
  rw [ht] at h1
  obtain ⟨a, b⟩ := max_lt_iff.mp h1
  refine ⟨x.toReal, (EReal.coe_toReal a.ne fun hb => ?_).symm⟩
  rw [hb] at b
  exact absurd b (by simp)

/-- The precondition's word is one: activations and scale are real numbers. -/
theorem finite [Cert.Pre_inputs_finite.Facts] (h : FVec Ideal Cert.Pre_inputs_finite.S2x8192x2048 .f32)
    (g : FVec Ideal Cert.Pre_inputs_finite.S2048 .f32) (w : FVec Ideal Cert.Pre_inputs_finite.S4x512x512 .f32)
    (scale gffn : FVec Ideal Cert.Pre_inputs_finite.S2048 .f32)
    (hp : Cert.Pre_inputs_finite.fn h g w scale gffn = (fun _ => 1#1)) : (∀ i, IsReal (h i)) ∧ (∀ i, IsReal (g i)) := by
  have h0 := congrFun hp (fun a => a.elim0)
  dsimp only [Cert.Pre_inputs_finite.fn] at h0
  obtain ⟨hh, hg⟩ := IntOp.andi_eq_one.mp h0
  constructor
  · intro i
    exact real_of_lt _ (@Host.reduce_andi_all _ _ _ _ ⟨fun a b => funext fun x => x.elim0⟩ _ _ _ _ _ hh i)
  · intro i
    exact real_of_lt _ (@Host.reduce_andi_all _ _ _ _ ⟨fun a b => funext fun x => x.elim0⟩ _ _ _ _ _ hg i)

theorem equal : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.Gen.facts) := by
  intro m g m' g' pre agree
  have real := fun c => finite _ _ _ _ _ (pre c)
  refine ⟨fun c => ReferenceIdeal.Plain.mixedRows (KernelIdeal.Result.hOf m c) (KernelIdeal.Result.gOf m c)
      (KernelIdeal.Result.wOf m c) (KernelIdeal.Result.scaleOf m c),
    fun c => ReferenceIdeal.Plain.nextRows (KernelIdeal.Result.hOf m c) (KernelIdeal.Result.gOf m c)
      (KernelIdeal.Result.wOf m c) (KernelIdeal.Result.scaleOf m c) (KernelIdeal.Result.nextOf m c), ?_, ?_⟩
  · exact (θ_run _ _ _).mono (fun _ h c => ⟨(h c).1.trans (KernelIdeal.Result.final6 m c (real c).1 (real c).2),
      (h c).2.1.trans (KernelIdeal.Result.final7 m c (real c).1 (real c).2), (h c).2.2⟩) (KernelIdeal.Value.run_blocks m g)
  · refine (θ_run _ _ _).mono (fun _ h c => ⟨(h c).1.trans ?_, (h c).2.1.trans ?_, (h c).2.2⟩)
      (ReferenceIdeal.Value.run m' g')
    · obtain ⟨e0, e1, e2, e3, e4⟩ := agree c
      have e : ReferenceIdeal.Value.res_main_v71 m' c = ReferenceIdeal.Plain.mixedRows
          (m' ((c.tc : Thread ReferenceIdeal.nD ReferenceIdeal.τ).loc ReferenceIdeal.main_arg0))
          (m' ((c.tc : Thread ReferenceIdeal.nD ReferenceIdeal.τ).loc ReferenceIdeal.main_arg1))
          (m' ((c.tc : Thread ReferenceIdeal.nD ReferenceIdeal.τ).loc ReferenceIdeal.main_arg2))
          (m' ((c.tc : Thread ReferenceIdeal.nD ReferenceIdeal.τ).loc ReferenceIdeal.main_arg3)) := rfl
      rw [e, e0, e1, e2, e3]
    · obtain ⟨e0, e1, e2, e3, e4⟩ := agree c
      have e : ReferenceIdeal.Value.res_main_v86 m' c = ReferenceIdeal.Plain.nextRows
          (m' ((c.tc : Thread ReferenceIdeal.nD ReferenceIdeal.τ).loc ReferenceIdeal.main_arg0))
          (m' ((c.tc : Thread ReferenceIdeal.nD ReferenceIdeal.τ).loc ReferenceIdeal.main_arg1))
          (m' ((c.tc : Thread ReferenceIdeal.nD ReferenceIdeal.τ).loc ReferenceIdeal.main_arg2))
          (m' ((c.tc : Thread ReferenceIdeal.nD ReferenceIdeal.τ).loc ReferenceIdeal.main_arg3))
          (m' ((c.tc : Thread ReferenceIdeal.nD ReferenceIdeal.τ).loc ReferenceIdeal.main_arg4)) := rfl
      rw [e, e0, e1, e2, e3, e4]

end Cert.PoolClaim
end
-- ==== Proof.References.lean ====
/-  The plain computations terminate, leave their arguments unchanged and every counter at zero. -/
module

public import proofs.«01_k».proof.Defs
public import proofs.«01_k».proof.Proof.Gen.ReferenceIdeal.Run
public import proofs.«01_k».proof.Proof.Gen.FfnReferenceIdeal.Run
public import Idealize.ShloMosaic.Lib.Quiescent

@[expose] public section

set_option maxRecDepth 16384

noncomputable section

namespace Cert.References

open Idealize.ShloMosaic Idealize.ShloMosaic.TcCoe Idealize.SL.Sem

theorem pool : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (ReferenceIdeal.Value.run m g)

theorem ffn : Cert.quiescent_FfnReferenceIdeal (hFfnReferenceIdeal := Cert.FfnReferenceIdeal.Gen.facts) := fun m g _ =>
  (θ_run _ _ _).mono (fun r h => ⟨fun c => (h c).2.2, sem_eq_zero_of_no_sems (by decide) r.2⟩)
    (FfnReferenceIdeal.Value.run m g)

end Cert.References
end
-- ==== Proof.ProjBlocks.lean ====
/-  What one visit of the projections' kernel body stores: the mixtures, the low-rank activations and the seven result blocks. -/
module

public import proofs.«01_k».proof.Proof.Gen.ProjIdeal.Frame.Runs
public import Idealize.ShloMosaic.Lib.Pipeline.FrameBody
public import Idealize.ShloMosaic.Lib.Pipeline.ValueKit.Acc
public import Idealize.ShloMosaic.Lib.VecWindow
public import Idealize.ShloMosaic.Lib.Ring

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row block's number, as the body reads it off the grid. -/
abbrev rowWord (i : grid0.Coords) : BitVec 32 := BitVec.ofNat 32 (i 0).val

/-- A row of the mixing coefficients (or of the eight rows before the block), and a slab of the six mixtures. -/
abbrev row0 (x : Vec F S8x2048 .f32) : Vec F S1x2048 .f32 := View.ld x (Rect.unit (s := S8x2048) ![0, 0] S1x2048.size inb_S8x2048_S1x2048_0_0)
abbrev row1 (x : Vec F S8x2048 .f32) : Vec F S1x2048 .f32 := View.ld x (Rect.unit (s := S8x2048) ![1, 0] S1x2048.size inb_S8x2048_S1x2048_1_0)
abbrev row2 (x : Vec F S8x2048 .f32) : Vec F S1x2048 .f32 := View.ld x (Rect.unit (s := S8x2048) ![2, 0] S1x2048.size inb_S8x2048_S1x2048_2_0)
abbrev row3 (x : Vec F S8x2048 .f32) : Vec F S1x2048 .f32 := View.ld x (Rect.unit (s := S8x2048) ![3, 0] S1x2048.size inb_S8x2048_S1x2048_3_0)
abbrev row4 (x : Vec F S8x2048 .f32) : Vec F S1x2048 .f32 := View.ld x (Rect.unit (s := S8x2048) ![4, 0] S1x2048.size inb_S8x2048_S1x2048_4_0)
abbrev row5 (x : Vec F S8x2048 .f32) : Vec F S1x2048 .f32 := View.ld x (Rect.unit (s := S8x2048) ![5, 0] S1x2048.size inb_S8x2048_S1x2048_5_0)
abbrev row7 (x : Vec F S8x2048 .f32) : Vec F S1x2048 .f32 := View.ld x (Rect.unit (s := S8x2048) ![7, 0] S1x2048.size inb_S8x2048_S1x2048_7_0)
abbrev slab0 (s : Vec F S6x512x2048 .bf16) : Vec F S1x512x2048 .bf16 := View.ld s (Rect.unit (s := S6x512x2048) ![0, 0, 0] S1x512x2048.size inb_S6x512x2048_S1x512x2048_0_0_0)
abbrev slab1 (s : Vec F S6x512x2048 .bf16) : Vec F S1x512x2048 .bf16 := View.ld s (Rect.unit (s := S6x512x2048) ![1, 0, 0] S1x512x2048.size inb_S6x512x2048_S1x512x2048_1_0_0)
abbrev slab2 (s : Vec F S6x512x2048 .bf16) : Vec F S1x512x2048 .bf16 := View.ld s (Rect.unit (s := S6x512x2048) ![2, 0, 0] S1x512x2048.size inb_S6x512x2048_S1x512x2048_2_0_0)
abbrev slab3 (s : Vec F S6x512x2048 .bf16) : Vec F S1x512x2048 .bf16 := View.ld s (Rect.unit (s := S6x512x2048) ![3, 0, 0] S1x512x2048.size inb_S6x512x2048_S1x512x2048_3_0_0)
abbrev slab4 (s : Vec F S6x512x2048 .bf16) : Vec F S1x512x2048 .bf16 := View.ld s (Rect.unit (s := S6x512x2048) ![4, 0, 0] S1x512x2048.size inb_S6x512x2048_S1x512x2048_4_0_0)
abbrev slab5 (s : Vec F S6x512x2048 .bf16) : Vec F S1x512x2048 .bf16 := View.ld s (Rect.unit (s := S6x512x2048) ![5, 0, 0] S1x512x2048.size inb_S6x512x2048_S1x512x2048_5_0_0)

/-- The six mixtures of a row block and its shifted rows, as the body stores them (the last first). -/
abbrev mixtures (i : grid0.Coords) (x0 : Vec F S512x2048 .f32) (x1 x2 : Vec F S8x2048 .f32) : List (View.Piece (Elt F) S6x512x2048 .bf16) :=
  [⟨Rect.unit (s := S6x512x2048) ![5, 0, 0] S1x512x2048.size inb_S6x512x2048_S1x512x2048_5_0_0, k0_pay11 (k0_pay4 x0) (k0_pay5 (rowWord i) x0 (row7 x1)) (row5 x2)⟩,
    ⟨Rect.unit (s := S6x512x2048) ![4, 0, 0] S1x512x2048.size inb_S6x512x2048_S1x512x2048_4_0_0, k0_pay10 (k0_pay4 x0) (k0_pay5 (rowWord i) x0 (row7 x1)) (row4 x2)⟩,
    ⟨Rect.unit (s := S6x512x2048) ![3, 0, 0] S1x512x2048.size inb_S6x512x2048_S1x512x2048_3_0_0, k0_pay9 (k0_pay4 x0) (k0_pay5 (rowWord i) x0 (row7 x1)) (row3 x2)⟩,
    ⟨Rect.unit (s := S6x512x2048) ![2, 0, 0] S1x512x2048.size inb_S6x512x2048_S1x512x2048_2_0_0, k0_pay8 (k0_pay4 x0) (k0_pay5 (rowWord i) x0 (row7 x1)) (row2 x2)⟩,
    ⟨Rect.unit (s := S6x512x2048) ![1, 0, 0] S1x512x2048.size inb_S6x512x2048_S1x512x2048_1_0_0, k0_pay7 (k0_pay4 x0) (k0_pay5 (rowWord i) x0 (row7 x1)) (row1 x2)⟩,
    ⟨Rect.unit (s := S6x512x2048) ![0, 0, 0] S1x512x2048.size inb_S6x512x2048_S1x512x2048_0_0_0, k0_pay6 (rowWord i) x0 (row7 x1) (row0 x2)⟩]
def mixed (i : grid0.Coords) (x0 : Vec F S512x2048 .f32) (x1 x2 : Vec F S8x2048 .f32) : Vec F S6x512x2048 .bf16 := View.canon (mixtures i x0 x1 x2)

theorem mixtures_cover (i : grid0.Coords) (x0 : Vec F S512x2048 .f32) (x1 x2 : Vec F S8x2048 .f32) (y : S6x512x2048.Idx) :
    ∃ pc ∈ mixtures i x0 x1 x2, y ∈ pc.1.set :=
  View.cover_of_tiledL (mixtures i x0 x1 x2) S1x512x2048.size (by sl_kernel_rfl) y
theorem read_mixtures (v : View sig .tc .vmem S6x512x2048 .bf16) (f : v.ty.Contents (Elt F)) (i : grid0.Coords) (x0 : Vec F S512x2048 .f32) (x1 x2 : Vec F S8x2048 .f32) :
    v.read (Elt F) (v.writes (Elt F) f (mixtures i x0 x1 x2)) = mixed i x0 x1 x2 :=
  (View.read_writes_of_cover v f v v.junk _ (mixtures_cover i x0 x1 x2)).trans (View.read_writes_junk_eq_canon _ _)
theorem readCov_mixtures (v : View sig .tc .vmem S6x512x2048 .bf16) (i : grid0.Coords) (x0 : Vec F S512x2048 .f32) (x1 x2 : Vec F S8x2048 .f32) (r : Rect S6x512x2048) :
    v.readCov (mixtures i x0 x1 x2) r = View.ld (mixed i x0 x1 x2) r :=
  View.readCov_eq_canon_ld v _ _ (mixtures_cover i x0 x1 x2)

/-- The three low-rank activations of a row block, off its mixtures. -/
def decayAct (s0 : Vec F S6x512x2048 .bf16) (x6 : Vec F S2048x128 .bf16) : Vec F S512x128 .bf16 := k0_pay12 (slab1 s0) x6
def rateAct (s0 : Vec F S6x512x2048 .bf16) (x7 : Vec F S2048x128 .bf16) : Vec F S512x128 .bf16 := k0_pay13 (slab4 s0) x7
def gateAct (s0 : Vec F S6x512x2048 .bf16) (x8 : Vec F S2048x256 .bf16) : Vec F S512x256 .bf16 := k0_pay15 (k0_pay14 (slab5 s0) x8)

/-- The seven blocks a visit stores, off the scratch buffers and the weights' blocks. -/
def rBlock (s0 : Vec F S6x512x2048 .bf16) (x3 : Vec F S2048x512 .bf16) : Vec F S512x512 .bf16 := k0_pay3 (slab0 s0) x3
def dBlock (s1 : Vec F S512x128 .bf16) (x9 : Vec F S128x512 .bf16) (x12 : Vec F S1x512 .f32) : Vec F S512x512 .f32 := k0_pay16 s1 x9 x12
def rate (s2 : Vec F S512x128 .bf16) (x10 : Vec F S128x512 .bf16) (x13 : Vec F S1x512 .f32) : Vec F S512x512 .f32 := k0_pay18 s2 (k0_pay17 x10) x13
def kBlock (s0 : Vec F S6x512x2048 .bf16) (s2 : Vec F S512x128 .bf16) (x4 : Vec F S2048x512 .bf16) (x10 : Vec F S128x512 .bf16) (x13 x15 : Vec F S1x512 .f32) : Vec F S512x512 .bf16 :=
  k0_pay31 (rate s2 x10 x13) (k0_pay19 (slab2 s0) x4) x15
def vBlock (s0 : Vec F S6x512x2048 .bf16) (x5 : Vec F S2048x512 .bf16) : Vec F S512x512 .bf16 := k0_pay1 (slab3 s0) x5
abbrev keySquares (s0 : Vec F S6x512x2048 .bf16) (x4 : Vec F S2048x512 .bf16) (x14 : Vec F S1x512 .f32) : Vec F S512x512 .f32 := k0_pay21 (slab2 s0) x4 x14
def nBlock (s0 : Vec F S6x512x2048 .bf16) (x4 : Vec F S2048x512 .bf16) (x14 : Vec F S1x512 .f32) : Vec F S512x512 .bf16 :=
  k0_pay32 (k0_pay20 (slab2 s0) x4 x14) (keySquares s0 x4 x14) (k0_pay25 k0_pay22 k0_pay23 k0_pay24) (k0_pay26 (keySquares s0 x4 x14) k0_pay22 k0_pay23 k0_pay24)
    (k0_pay28 (keySquares s0 x4 x14)) (k0_pay29 (keySquares s0 x4 x14)) (constant S512x128 .f32 0x00000000#32)
def bBlock (s0 : Vec F S6x512x2048 .bf16) (s2 : Vec F S512x128 .bf16) (x4 : Vec F S2048x512 .bf16) (x10 : Vec F S128x512 .bf16) (x13 x14 : Vec F S1x512 .f32) : Vec F S512x512 .bf16 :=
  k0_pay33 (rate s2 x10 x13) (k0_pay20 (slab2 s0) x4 x14) (keySquares s0 x4 x14) (k0_pay25 k0_pay22 k0_pay23 k0_pay24) (k0_pay26 (keySquares s0 x4 x14) k0_pay22 k0_pay23 k0_pay24)
    (k0_pay28 (keySquares s0 x4 x14)) (k0_pay29 (keySquares s0 x4 x14)) (constant S512x128 .f32 0x00000000#32)
def gBlock (s3 : Vec F S512x256 .bf16) (x11 : Vec F S256x512 .bf16) : Vec F S512x512 .bf16 := k0_pay2 s3 x11

end Cert.ProjIdeal.Projections
end
-- ==== Proof.ProjData.lean ====
/-  The projections' pipeline: what the scratch and the result blocks hold after each point, and the proof data of one run. -/
module

public import proofs.«01_k».proof.Proof.ProjBlocks
public import Idealize.ShloMosaic.Lib.Pipeline.FrameBody

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The mixtures of a point's row block, and the scratch buffers as a row block's first point leaves them. -/
abbrev mixedAt (c : Dev nD) (t : Fin cfg0.N) : Vec F S6x512x2048 .bf16 := mixed (grid0.coords t) (iblk m c 0 t) (iblk m c 1 t) (iblk m c 2 t)
def opening (c : Dev nD) (t : Fin cfg0.N) : Vec F S6x512x2048 .bf16 × Vec F S512x128 .bf16 × Vec F S512x128 .bf16 × Vec F S512x256 .bf16 :=
  (mixedAt m c t, decayAct (mixedAt m c t) (iblk m c 6 t), rateAct (mixedAt m c t) (iblk m c 7 t), gateAct (mixedAt m c t) (iblk m c 8 t))

/-- The scratch buffers after each point: computed at the first of a row block's four points, left alone at the others. -/
def held (c : Dev nD) : (n : ℕ) → n < cfg0.N → Vec F S6x512x2048 .bf16 × Vec F S512x128 .bf16 × Vec F S512x128 .bf16 × Vec F S512x256 .bf16
  | 0, hn => opening m c ⟨0, hn⟩
  | n + 1, hn => if (n + 1) % 4 = 0 then opening m c ⟨n + 1, hn⟩ else held c n (Nat.lt_of_succ_lt hn)

theorem pred_lt (t : Fin cfg0.N) : t.val - 1 < cfg0.N := Nat.lt_of_le_of_lt (Nat.sub_le _ _) t.isLt
theorem held_first (c : Dev nD) (t : Fin cfg0.N) (h : t.val % 4 = 0) : held m c t.val t.isLt = opening m c t := by
  obtain ⟨n, hn⟩ := t
  cases n with
  | zero => rfl
  | succ n => exact if_pos h
theorem held_later (c : Dev nD) (t : Fin cfg0.N) (h : ¬t.val % 4 = 0) : held m c t.val t.isLt = held m c (t.val - 1) (pred_lt t) := by
  obtain ⟨n, hn⟩ := t
  cases n with
  | zero => exact absurd (Nat.zero_mod _) h
  | succ n => exact if_neg h
theorem held_eq (c : Dev nD) : ∀ (n : ℕ) (hn : n < cfg0.N), held m c n hn = opening m c ⟨n / 4 * 4, by omega⟩
  | 0, hn => rfl
  | n + 1, hn => by
    by_cases h : (n + 1) % 4 = 0
    · rw [held_first m c ⟨n + 1, hn⟩ h]
      exact congrArg (opening m c) (Fin.ext (by show n + 1 = (n + 1) / 4 * 4; omega))
    · rw [held_later m c ⟨n + 1, hn⟩ h]
      refine (held_eq c n (Nat.lt_of_succ_lt hn)).trans ?_
      exact congrArg (opening m c) (Fin.ext (by show n / 4 * 4 = (n + 1) / 4 * 4; omega))

/-- The scratch buffers held at given contents, and between points. -/
def scratchAt (c : Dev nD) (s : Vec F S6x512x2048 .bf16 × Vec F S512x128 .bf16 × Vec F S512x128 .bf16 × Vec F S512x256 .bf16) : sProp 𝕄 :=
  iprop(iprop(owns (c : Thread nD τ) scM0_0 fullShare s.1 ∗ owns (c : Thread nD τ) scM0_1 fullShare s.2.1
    ∗ owns (c : Thread nD τ) scM0_2 fullShare s.2.2.1 ∗ owns (c : Thread nD τ) scM0_3 fullShare s.2.2.2) ∗ (∃ r, prngReg c r))
def between (c : Dev nD) : (n : ℕ) → n ≤ cfg0.N → sProp 𝕄
  | 0, _ => Pipeline.ΦA spec0 c
  | n + 1, hn => scratchAt c (held m c n hn)
theorem between_pos (c : Dev nD) (n : ℕ) (h : n ≤ cfg0.N) (hz : n ≠ 0) : between m c n h = scratchAt c (held m c (n - 1) (by omega)) := by
  cases n with
  | zero => exact absurd rfl hz
  | succ n => rfl
/-- At any point the scratch buffers hold something. -/
theorem between_any (c : Dev nD) (n : ℕ) (h : n ≤ cfg0.N) : between m c n h ⊢ Pipeline.ΦA spec0 c := by
  by_cases hz : n = 0
  · subst hz; exact Idealize.SL.BI.Entails.refl _
  · rw [between_pos m c n h hz, PhiA0_eq]
    unfold scratchAt
    iintro ⟨⟨HS0, HS1, HS2, HS3⟩, Hg⟩
    isplitl [HS0 HS1 HS2 HS3]
    · isplitl [HS0]
      · iexists _; iexact HS0
      isplitl [HS1]
      · iexists _; iexact HS1
      isplitl [HS2]
      · iexists _; iexact HS2
      iexists _; iexact HS3
    iexact Hg

/-- The seven result blocks after a point. -/
def rAt (c : Dev nD) (t : Fin cfg0.N) : Vec F S512x512 .bf16 := rBlock (held m c t.val t.isLt).1 (iblk m c 3 t)
def dAt (c : Dev nD) (t : Fin cfg0.N) : Vec F S512x512 .f32 := dBlock (held m c t.val t.isLt).2.1 (iblk m c 9 t) (iblk m c 12 t)
def kAt (c : Dev nD) (t : Fin cfg0.N) : Vec F S512x512 .bf16 := kBlock (held m c t.val t.isLt).1 (held m c t.val t.isLt).2.2.1 (iblk m c 4 t) (iblk m c 10 t) (iblk m c 13 t) (iblk m c 15 t)
def vAt (c : Dev nD) (t : Fin cfg0.N) : Vec F S512x512 .bf16 := vBlock (held m c t.val t.isLt).1 (iblk m c 5 t)
def nAt (c : Dev nD) (t : Fin cfg0.N) : Vec F S512x512 .bf16 := nBlock (held m c t.val t.isLt).1 (iblk m c 4 t) (iblk m c 14 t)
def bAt (c : Dev nD) (t : Fin cfg0.N) : Vec F S512x512 .bf16 := bBlock (held m c t.val t.isLt).1 (held m c t.val t.isLt).2.2.1 (iblk m c 4 t) (iblk m c 10 t) (iblk m c 13 t) (iblk m c 14 t)
def gAt (c : Dev nD) (t : Fin cfg0.N) : Vec F S512x512 .bf16 := gBlock (held m c t.val t.isLt).2.2.2 (iblk m c 11 t)

/-- The proof data: every input block left in place, the results as stored, the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => rAt m c t
    | ⟨17, _⟩ => dAt m c t
    | ⟨18, _⟩ => kAt m c t
    | ⟨19, _⟩ => vAt m c t
    | ⟨20, _⟩ => nAt m c t
    | ⟨21, _⟩ => bAt m c t
    | ⟨22, _⟩ => gAt m c t
    | ⟨_ + 23, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem start_eq (c : Dev nD) (t : Fin cfg0.N) : (dats m 0 c).Φ t.castSucc = between m c t.val (Nat.le_of_lt t.isLt) := by
  dsimp only [dats]; exact Pipeline.Dat.Φ_castSucc (between m c) t
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = iblk m c 7 t := by dsimp only [dats]; try rfl
theorem after0_8 (c : Dev nD) (t : Fin cfg0.N) : (dats m 0 c).after 8 t = iblk m c 8 t := by dsimp only [dats]; try rfl
theorem after0_9 (c : Dev nD) (t : Fin cfg0.N) : (dats m 0 c).after 9 t = iblk m c 9 t := by dsimp only [dats]; try rfl
theorem after0_10 (c : Dev nD) (t : Fin cfg0.N) : (dats m 0 c).after 10 t = iblk m c 10 t := by dsimp only [dats]; try rfl
theorem after0_11 (c : Dev nD) (t : Fin cfg0.N) : (dats m 0 c).after 11 t = iblk m c 11 t := by dsimp only [dats]; try rfl
theorem after0_12 (c : Dev nD) (t : Fin cfg0.N) : (dats m 0 c).after 12 t = iblk m c 12 t := by dsimp only [dats]; try rfl
theorem after0_13 (c : Dev nD) (t : Fin cfg0.N) : (dats m 0 c).after 13 t = iblk m c 13 t := by dsimp only [dats]; try rfl
theorem after0_14 (c : Dev nD) (t : Fin cfg0.N) : (dats m 0 c).after 14 t = iblk m c 14 t := by dsimp only [dats]; try rfl
theorem after0_15 (c : Dev nD) (t : Fin cfg0.N) : (dats m 0 c).after 15 t = iblk m c 15 t := by dsimp only [dats]; try rfl
theorem after0_16 (c : Dev nD) (t : Fin cfg0.N) : (dats m 0 c).after 16 t = rAt m c t := by dsimp only [dats]; try rfl
theorem after0_17 (c : Dev nD) (t : Fin cfg0.N) : (dats m 0 c).after 17 t = dAt m c t := by dsimp only [dats]; try rfl
theorem after0_18 (c : Dev nD) (t : Fin cfg0.N) : (dats m 0 c).after 18 t = kAt m c t := by dsimp only [dats]; try rfl
theorem after0_19 (c : Dev nD) (t : Fin cfg0.N) : (dats m 0 c).after 19 t = vAt m c t := by dsimp only [dats]; try rfl
theorem after0_20 (c : Dev nD) (t : Fin cfg0.N) : (dats m 0 c).after 20 t = nAt m c t := by dsimp only [dats]; try rfl
theorem after0_21 (c : Dev nD) (t : Fin cfg0.N) : (dats m 0 c).after 21 t = bAt m c t := by dsimp only [dats]; try rfl
theorem after0_22 (c : Dev nD) (t : Fin cfg0.N) : (dats m 0 c).after 22 t = gAt m c t := by dsimp only [dats]; try rfl

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

end Cert.ProjIdeal.Projections
end
-- ==== Proof.ProjLater.lean ====
/-  One visit of the projections' kernel body: what it leaves in the seven result blocks and in the four scratch buffers. -/
module

public import proofs.«01_k».proof.Proof.ProjBlocks
public import Idealize.ShloMosaic.Lib.Pipeline.FrameBody
public import Idealize.ShloMosaic.Lib.Pipeline.ValueKit.Acc
public import Idealize.ShloMosaic.Lib.VecWindow
public import Idealize.ShloMosaic.Lib.Ring

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- A later column block of a row block: the scratch is found as the first left it. -/
theorem body_later (c : Dev nD) (i : grid0.Coords) (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S6x512x2048 .bf16) (harg25 : arg25.IsWhole) (arg26 : Memref sig .tc .vmem S512x128 .bf16) (harg26 : arg26.IsWhole) (arg27 : Memref sig .tc .vmem S512x128 .bf16) (harg27 : arg27.IsWhole) (arg28 : Memref sig .tc .vmem S512x256 .bf16) (harg28 : arg28.IsWhole)
    (x0 : Vec F S512x2048 .f32) (x1 : Vec F S8x2048 .f32) (x2 : Vec F S8x2048 .f32) (x3 : Vec F S2048x512 .bf16) (x4 : Vec F S2048x512 .bf16) (x5 : Vec F S2048x512 .bf16) (x6 : Vec F S2048x128 .bf16) (x7 : Vec F S2048x128 .bf16) (x8 : Vec F S2048x256 .bf16) (x9 : Vec F S128x512 .bf16) (x10 : Vec F S128x512 .bf16) (x11 : Vec F S256x512 .bf16) (x12 : Vec F S1x512 .f32) (x13 : Vec F S1x512 .f32) (x14 : Vec F S1x512 .f32) (x15 : Vec F S1x512 .f32) (s0 : Vec F S6x512x2048 .bf16) (s1 : Vec F S512x128 .bf16) (s2 : Vec F S512x128 .bf16) (s3 : Vec F S512x256 .bf16) (hc : ¬cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare s0 ∗ owns (c : Thread nD τ) arg26 fullShare s1 ∗ owns (c : Thread nD τ) arg27 fullShare s2 ∗ owns (c : Thread nD τ) arg28 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (rBlock s0 x3) ∗ owns (c : Thread nD τ) arg19 fullShare (dBlock s1 x9 x12) ∗ owns (c : Thread nD τ) arg20 fullShare (kBlock s0 s2 x4 x10 x13 x15) ∗ owns (c : Thread nD τ) arg21 fullShare (vBlock s0 x5) ∗ owns (c : Thread nD τ) arg22 fullShare (nBlock s0 x4 x14) ∗ owns (c : Thread nD τ) arg23 fullShare (bBlock s0 s2 x4 x10 x13 x14) ∗ owns (c : Thread nD τ) arg24 fullShare (gBlock s3 x11) ∗ owns (c : Thread nD τ) arg25 fullShare s0 ∗ owns (c : Thread nD τ) arg26 fullShare s1 ∗ owns (c : Thread nD τ) arg27 fullShare s2 ∗ owns (c : Thread nD τ) arg28 fullShare s3) -∗ K ⟨⟩))
      ⊢ wp frame (wpE (defs₀ (F := F)) Variants.none c none) E (cc0_rwkv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_rwkv_proj_eq_skeleton]; unfold cc0_rwkv_proj_skel
  simp only [k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg25.eq_unread hfs0; obtain rfl := harg26.eq_unread hfs1; obtain rfl := harg27.eq_unread hfs2; obtain rfl := harg28.eq_unread hfs3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; swap
    · iexact H16
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [H17]
  · iexists _; isplitr; swap
    · iexact H17
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [H18]
  · iexists _; isplitr; swap
    · iexact H18
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [H19]
  · iexists _; isplitr; swap
    · iexact H19
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [H20]
  · iexists _; isplitr; swap
    · iexact H20
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [H21]
  · iexists _; isplitr; swap
    · iexact H21
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [H22]
  · iexists _; isplitr; swap
    · iexact H22
    ipureintro
    rw [View.read_writes_full]
    try unfold body_later.sl.r_12
    try unfold body_later.sl.r_11
    try unfold body_later.sl.r_10
    try unfold body_later.sl.r_9
    try unfold body_later.sl.r_8
    try unfold body_later.sl.r_7
    try unfold body_later.sl.r_6
    try unfold body_later.sl.r_5
    try unfold body_later.sl.r_4
    try unfold body_later.sl.r_3
    try unfold body_later.sl.r_2
    try unfold body_later.sl.r_1
    try unfold body_later.sl.r
    try unfold body_later.sl.cst_46
    simp (disch := decide) only [View.ld_unit_lit', View.readAt_eq_ld, Memref.IsWhole.read_unread, View.readCov_unit_lit', readCov_mixtures]
    try rfl
  isplitl [HS0]
  · iexists _; isplitr; · ipureintro; exact harg25.read_unread _
    iexact HS0
  isplitl [HS1]
  · iexists _; isplitr; · ipureintro; exact harg26.read_unread _
    iexact HS1
  isplitl [HS2]
  · iexists _; isplitr; · ipureintro; exact harg27.read_unread _
    iexact HS2
  iexists _; isplitr; · ipureintro; exact harg28.read_unread _
  iexact HS3

end Cert.ProjIdeal.Projections
end
-- ==== Proof.ProjVisit.lean ====
/-  The projections' kernel body at the first column block of a row block is a first part, followed by the body at any other column block. -/
module

public import proofs.«01_k».proof.Proof.ProjLater
public import Idealize.ShloMosaic.Lib.Pipeline.FrameBody
public import Idealize.ShloMosaic.Lib.Pipeline.ValueKit.Acc
public import Idealize.ShloMosaic.Lib.VecWindow
public import Idealize.ShloMosaic.Lib.Ring

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 65536 in
/-- What only the first column block's visit does. -/
def start (i : grid0.Coords) (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S6x512x2048 .bf16) (harg25 : arg25.IsWhole) (arg26 : Memref sig .tc .vmem S512x128 .bf16) (harg26 : arg26.IsWhole) (arg27 : Memref sig .tc .vmem S512x128 .bf16) (harg27 : arg27.IsWhole) (arg28 : Memref sig .tc .vmem S512x256 .bf16) (harg28 : arg28.IsWhole) :
    Prog (TpuEff nD τ sig (Elt F) Λ₀ .tc) PUnit := do
  let arg0 : BitVec 32 := BitVec.ofNat 32 (i 0).val
  let ⟨v186, v213, v223⟩ : Σ' (v186 : FVec F S512x2048 .f32) (v213 : FVec F S512x2048 .f32), Vec F S1x2048 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0
  let v259 : Vec F S1x2048 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v186 v213 v223
  let v291 : FVec F S512x256 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v186 v213 v259
  let v300 : Vec F S512x256 .bf16 ← Prog.lift (.load arg28 (Rect.unit (s := S512x256) ![0, 0] S512x256.size inb_S512x256_S512x256_0_0).toLoadRect (View.loadsAt_vmem h_S512x256))
  Prog.lift (.store arg28 (Rect.unit (s := S512x256) ![0, 0] S512x256.size inb_S512x256_S512x256_0_0) (k0_pay15 v291) Finset.univ (View.stores_vmem h_S512x256 (harg28.storeExact_slice rfl _ packedbf16_S512x256_S512x256_0_0) (fun _ => rfl)) (.inl rfl))
  pure ⟨⟩

set_option maxHeartbeats 1600000 in
set_option maxRecDepth 65536 in
/-- A first visit is that, then a later visit. -/
theorem start_then (i i' : grid0.Coords) (hc : cond0_0 i) (hc' : ¬cond0_0 i') (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S6x512x2048 .bf16) (harg25 : arg25.IsWhole) (arg26 : Memref sig .tc .vmem S512x128 .bf16) (harg26 : arg26.IsWhole) (arg27 : Memref sig .tc .vmem S512x128 .bf16) (harg27 : arg27.IsWhole) (arg28 : Memref sig .tc .vmem S512x256 .bf16) (harg28 : arg28.IsWhole) :
    cc0_rwkv_proj (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 = start i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 >>= fun _ => cc0_rwkv_proj (F := F) i' arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 := by
  simp only [cc0_rwkv_proj_eq_skeleton]; unfold cc0_rwkv_proj_skel
  simp only [k0_part4_eq_skeleton]; unfold k0_part4_skel start
  have h : Scalar.cmpi .ne (Scalar.extui (Scalar.cmpi .eq (BitVec.ofNat 32 (i 1).val) 0#32) : BitVec 32) 0#32 = 1#1 := hc
  have h' : ¬Scalar.cmpi .ne (Scalar.extui (Scalar.cmpi .eq (BitVec.ofNat 32 (i' 1).val) 0#32) : BitVec 32) 0#32 = 1#1 := hc'
  simp only [dif_pos h, dif_neg h', bind_assoc, pure_bind]
  rfl

end Cert.ProjIdeal.Projections
end
-- ==== Proof.ProjStart.lean ====
/-  The first part of the projections' kernel body at the first column block of a row block: what it leaves in the scratch. -/
module

public import proofs.«01_k».proof.Proof.ProjVisit
public import Idealize.ShloMosaic.Lib.Pipeline.FrameBody
public import Idealize.ShloMosaic.Lib.Pipeline.ValueKit.Acc
public import Idealize.ShloMosaic.Lib.VecWindow
public import Idealize.ShloMosaic.Lib.Ring

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- It leaves the mixtures and the activations in the scratch, whatever that held. -/
theorem start_spec (c : Dev nD) (i : grid0.Coords) (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S6x512x2048 .bf16) (harg25 : arg25.IsWhole) (arg26 : Memref sig .tc .vmem S512x128 .bf16) (harg26 : arg26.IsWhole) (arg27 : Memref sig .tc .vmem S512x128 .bf16) (harg27 : arg27.IsWhole) (arg28 : Memref sig .tc .vmem S512x256 .bf16) (harg28 : arg28.IsWhole)
    (x0 : Vec F S512x2048 .f32) (x1 : Vec F S8x2048 .f32) (x2 : Vec F S8x2048 .f32) (x6 : Vec F S2048x128 .bf16) (x7 : Vec F S2048x128 .bf16) (x8 : Vec F S2048x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg8 fullShare x6 ∗ owns (c : Thread nD τ) arg9 fullShare x7 ∗ owns (c : Thread nD τ) arg10 fullShare x8 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg2 fullShare x0 ∗ owns (c : Thread nD τ) arg3 fullShare x1 ∗ owns (c : Thread nD τ) arg4 fullShare x2 ∗ owns (c : Thread nD τ) arg8 fullShare x6 ∗ owns (c : Thread nD τ) arg9 fullShare x7 ∗ owns (c : Thread nD τ) arg10 fullShare x8 ∗ owns (c : Thread nD τ) arg25 fullShare (mixed i x0 x1 x2) ∗ owns (c : Thread nD τ) arg26 fullShare (decayAct (mixed i x0 x1 x2) x6) ∗ owns (c : Thread nD τ) arg27 fullShare (rateAct (mixed i x0 x1 x2) x7) ∗ owns (c : Thread nD τ) arg28 fullShare (gateAct (mixed i x0 x1 x2) x8)) -∗ K ⟨⟩))
      ⊢ wp frame (wpE (defs₀ (F := F)) Variants.none c none) E (start i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  unfold start
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg8.eq_unread hf6; obtain rfl := harg9.eq_unread hf7; obtain rfl := harg10.eq_unread hf8
  sl_exec
  sl_step
  have hm : start_spec.sl.HS0_6 c i arg2 harg2 arg3 harg3 arg4 harg4 x0 x1 x2 = mixtures i x0 x1 x2 := by
    unfold start_spec.sl.HS0_6 start_spec.sl.r_3 start_spec.sl.r_2 start_spec.sl.r_1 start_spec.sl.r
    simp (disch := decide) only [View.readAt_eq_ld, Memref.IsWhole.read_unread, View.ld_unit_lit']
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap
    · iexact HS0
    ipureintro
    rw [hm]
    exact read_mixtures _ _ _ _ _ _
  isplitl [HS1]
  · iexists _; isplitr; swap
    · iexact HS1
    ipureintro
    rw [View.read_writes_full]
    unfold start_spec.sl.v268
    rw [hm, readCov_mixtures]
    simp (disch := decide) only [View.readAt_eq_ld, Memref.IsWhole.read_unread, View.ld_unit_lit']
    rfl
  isplitl [HS2]
  · iexists _; isplitr; swap
    · iexact HS2
    ipureintro
    rw [View.read_writes_full]
    unfold start_spec.sl.v278
    rw [hm, readCov_mixtures]
    simp (disch := decide) only [View.readAt_eq_ld, Memref.IsWhole.read_unread, View.ld_unit_lit']
    rfl
  iexists _; isplitr; swap
  · iexact HS3
  ipureintro
  rw [View.read_writes_full]
  unfold start_spec.sl.r_4 start_spec.sl.v287
  rw [hm, readCov_mixtures]
  simp (disch := decide) only [View.readAt_eq_ld, Memref.IsWhole.read_unread, View.ld_unit_lit']
  rfl

end Cert.ProjIdeal.Projections
end
-- ==== Proof.ProjFirst.lean ====
/-  The projections' kernel body at the first column block of a row block: it fills the scratch, then goes on as at any other. -/
module

public import proofs.«01_k».proof.Proof.ProjStart
public import Idealize.ShloMosaic.Lib.Pipeline.FrameBody
public import Idealize.ShloMosaic.Lib.Pipeline.ValueKit.Acc
public import Idealize.ShloMosaic.Lib.VecWindow
public import Idealize.ShloMosaic.Lib.Ring

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first column block of a row block: the mixtures and the activations are computed into the scratch, whatever it held. -/
theorem body_first (c : Dev nD) (i : grid0.Coords) (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S6x512x2048 .bf16) (harg25 : arg25.IsWhole) (arg26 : Memref sig .tc .vmem S512x128 .bf16) (harg26 : arg26.IsWhole) (arg27 : Memref sig .tc .vmem S512x128 .bf16) (harg27 : arg27.IsWhole) (arg28 : Memref sig .tc .vmem S512x256 .bf16) (harg28 : arg28.IsWhole)
    (x0 : Vec F S512x2048 .f32) (x1 : Vec F S8x2048 .f32) (x2 : Vec F S8x2048 .f32) (x3 : Vec F S2048x512 .bf16) (x4 : Vec F S2048x512 .bf16) (x5 : Vec F S2048x512 .bf16) (x6 : Vec F S2048x128 .bf16) (x7 : Vec F S2048x128 .bf16) (x8 : Vec F S2048x256 .bf16) (x9 : Vec F S128x512 .bf16) (x10 : Vec F S128x512 .bf16) (x11 : Vec F S256x512 .bf16) (x12 : Vec F S1x512 .f32) (x13 : Vec F S1x512 .f32) (x14 : Vec F S1x512 .f32) (x15 : Vec F S1x512 .f32) (hc : cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (rBlock (mixed i x0 x1 x2) x3) ∗ owns (c : Thread nD τ) arg19 fullShare (dBlock (decayAct (mixed i x0 x1 x2) x6) x9 x12) ∗ owns (c : Thread nD τ) arg20 fullShare (kBlock (mixed i x0 x1 x2) (rateAct (mixed i x0 x1 x2) x7) x4 x10 x13 x15) ∗ owns (c : Thread nD τ) arg21 fullShare (vBlock (mixed i x0 x1 x2) x5) ∗ owns (c : Thread nD τ) arg22 fullShare (nBlock (mixed i x0 x1 x2) x4 x14) ∗ owns (c : Thread nD τ) arg23 fullShare (bBlock (mixed i x0 x1 x2) (rateAct (mixed i x0 x1 x2) x7) x4 x10 x13 x14) ∗ owns (c : Thread nD τ) arg24 fullShare (gBlock (gateAct (mixed i x0 x1 x2) x8) x11) ∗ owns (c : Thread nD τ) arg25 fullShare (mixed i x0 x1 x2) ∗ owns (c : Thread nD τ) arg26 fullShare (decayAct (mixed i x0 x1 x2) x6) ∗ owns (c : Thread nD τ) arg27 fullShare (rateAct (mixed i x0 x1 x2) x7) ∗ owns (c : Thread nD τ) arg28 fullShare (gateAct (mixed i x0 x1 x2) x8)) -∗ K ⟨⟩))
      ⊢ wp frame (wpE (defs₀ (F := F)) Variants.none c none) E (cc0_rwkv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  obtain ⟨i', hc'⟩ : ∃ i' : grid0.Coords, ¬cond0_0 i' :=
    ⟨grid0.coords ⟨1, by decide⟩, fun h => absurd ((hcond0_0 ⟨1, by decide⟩).mp h) (by decide)⟩
  rw [start_then i i' hc hc', wp_bind]
  iintro ⟨H0, H1, H2, H3, H4, H5, H6, H7, H8, H9, H10, H11, H12, H13, H14, H15, H16, H17, H18, H19, H20, H21, H22, HS0, HS1, HS2, HS3, Hk⟩
  iapply (start_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x6 x7 x8 E _)
  isplitl [H0]
  · iexact H0
  isplitl [H1]
  · iexact H1
  isplitl [H2]
  · iexact H2
  isplitl [H6]
  · iexact H6
  isplitl [H7]
  · iexact H7
  isplitl [H8]
  · iexact H8
  isplitl [HS0]
  · iexact HS0
  isplitl [HS1]
  · iexact HS1
  isplitl [HS2]
  · iexact HS2
  isplitl [HS3]
  · iexact HS3
  iintro ⟨H0, H1, H2, H6, H7, H8, HS0, HS1, HS2, HS3⟩
  iapply (body_later c i' arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 _ _ _ _ hc' E K)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [HS0]
  · iexact HS0
  isplitl [HS1]
  · iexact HS1
  isplitl [HS2]
  · iexact HS2
  isplitl [HS3]
  · iexact HS3
  iexact Hk

end Cert.ProjIdeal.Projections
end
-- ==== Proof.ProjRun.lean ====
/-  The run of the projections' kernel: the body at every point, the launch, the seven result arrays, and the arguments unchanged at the end. -/
module

public import Idealize.ShloMosaic.Lib.Claim
public import proofs.«01_k».proof.Proof.ProjData
public import proofs.«01_k».proof.Proof.ProjFirst

@[expose] public section

set_option maxRecDepth 16384

noncomputable section

namespace Cert.ProjIdeal.Projections

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 12800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = scratchAt c (held m c t.val t.isLt) from rfl, start_eq]
  unfold rAt dAt kAt vAt nAt bAt gAt scratchAt
  by_cases h0 : t.val % 4 = 0
  · rw [held_first m c t h0]
    unfold opening
    dsimp only
    refine (sep_mono (between_any m c _ _) .rfl).trans ?_
    rw [PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (body_first c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · have hz : t.val ≠ 0 := fun h => h0 (by rw [h])
    rw [held_later m c t h0, between_pos m c _ _ hz]
    unfold scratchAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (body_later c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _ _ _ (fun h => h0 ((hcond0_0 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

theorem body_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl]
  exact between_any m c _ _

set_option backward.isDefEq.respectTransparency.types false in
/-- The launch: every array of the pipeline as the proof data says, every other buffer as launched, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
theorem run : θ_run defs (onTc (τ := τ) (main (F := F))) (s₀ m ρ) (Pipeline.FramePost cfgs (dats m) 0 (V m)) :=
  (θ_run defs _ _).mono (fun _ h => h.1) (run_quiescent m ρ)

/-- The frame: every argument ends as it was, with every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run m ρ)) ((θ_run defs _ _).mono (fun _ h => h.2) (run_quiescent m ρ))

/-- The seven result arrays are what the proof data's blocks assemble to. -/
theorem results_run : θ_run defs (onTc (τ := τ) (main (F := F))) ⟨m, fun _ => 0, ρ⟩ (fun r => ∀ c : Dev nD,
      r.2.mem ((c.tc : Thread nD τ).loc main_v19_0) = (dats m 0 c).arrAt 16 cfg0.N
      ∧ r.2.mem ((c.tc : Thread nD τ).loc main_v19_1) = (dats m 0 c).arrAt 17 cfg0.N
      ∧ r.2.mem ((c.tc : Thread nD τ).loc main_v19_2) = (dats m 0 c).arrAt 18 cfg0.N
      ∧ r.2.mem ((c.tc : Thread nD τ).loc main_v19_3) = (dats m 0 c).arrAt 19 cfg0.N
      ∧ r.2.mem ((c.tc : Thread nD τ).loc main_v19_4) = (dats m 0 c).arrAt 20 cfg0.N
      ∧ r.2.mem ((c.tc : Thread nD τ).loc main_v19_5) = (dats m 0 c).arrAt 21 cfg0.N
      ∧ r.2.mem ((c.tc : Thread nD τ).loc main_v19_6) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h.1 c).1 16, (h.1 c).1 17, (h.1 c).1 18, (h.1 c).1 19, (h.1 c).1 20, (h.1 c).1 21, (h.1 c).1 22, h.2 c⟩)
    (θ_run_and (run m ρ) (frame_of m ρ (dats m) (A_eq m) (run m ρ)))

end Cert.ProjIdeal.Projections
end
-- ==== Proof.ProjFrames.lean ====
/-  The projections' call and its plain computation terminate, leave their arguments unchanged and every counter at zero. -/
module

public import proofs.«01_k».proof.Defs
public import proofs.«01_k».proof.Proof.ProjRun
public import proofs.«01_k».proof.Proof.Gen.Proj
public import proofs.«01_k».proof.Proof.Gen.Pre_keys_finite
public import proofs.«01_k».proof.Proof.Gen.ProjReferenceIdeal.Run
public import Idealize.ShloMosaic.Lib.Quiescent

@[expose] public section

set_option maxRecDepth 16384

noncomputable section

namespace Cert.ProjFrames

open Idealize.ShloMosaic Idealize.ShloMosaic.TcCoe Idealize.SL.Sem
open Cert.ProjIdeal.Projections

local instance : Cert.ProjIdeal.Facts := Cert.ProjIdeal.Gen.facts

/-- Over the machine's floats, the frame claim of the text that is otherwise read at the reals. -/
def Quiet : Prop :=
  ∀ (m : (ℓ : Loc Cert.ProjIdeal.nD Cert.ProjIdeal.τ Cert.ProjIdeal.sig) → Buf (Elt Bits) ℓ) (g : Dev Cert.ProjIdeal.nD → PrngReg), True →
    θ_run (Cert.ProjIdeal.defs (F := Bits)) (onTc (τ := Cert.ProjIdeal.τ) (Cert.ProjIdeal.main (F := Bits))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

/-- The two texts are the same program, so the two claims are one. -/
theorem same : Cert.quiescent_Proj (hProj := Cert.Proj.Gen.facts) = Quiet := by
  sl_kernel_rfl
theorem bits : Cert.quiescent_Proj (hProj := Cert.Proj.Gen.facts) :=
  same.mpr fun m g _ => frame_run (F := Bits) m g

/-- Over the reals. -/
theorem ideal : Cert.quiescent_ProjIdeal (hProjIdeal := Cert.ProjIdeal.Gen.facts) := fun m g _ => frame_run m g
theorem ideal_finite : Cert.quiescent_ProjIdeal_pre_keys_finite (hProjIdeal := Cert.ProjIdeal.Gen.facts) (hPre_keys_finite := Cert.Pre_keys_finite.Gen.facts) := fun m g _ =>
  frame_run m g
theorem reference : Cert.quiescent_ProjReferenceIdeal (hProjReferenceIdeal := Cert.ProjReferenceIdeal.Gen.facts) := fun m g _ =>
  (θ_run _ _ _).mono (fun r h => ⟨fun c => (h c).2.2.2.2.2.2.2, sem_eq_zero_of_no_sems (by decide) r.2⟩) (ProjReferenceIdeal.Value.run m g)
theorem reference_finite : Cert.quiescent_ProjReferenceIdeal_pre_keys_finite (hProjReferenceIdeal := Cert.ProjReferenceIdeal.Gen.facts)
    (hPre_keys_finite := Cert.Pre_keys_finite.Gen.facts) := fun m g _ => reference m g trivial

end Cert.ProjFrames
end
-- ==== Proof.ProjReference.lean ====
/-  The projections as the plain computation writes them, and each of the seven results read element by element. -/
module

public import proofs.«01_k».proof.Proof.Gen.ProjReferenceIdeal
public import Idealize.ShloMosaic.Lib.Pointwise
public import Idealize.ShloMosaic.Lib.Pointwise.IndexVar
public import Idealize.ShloMosaic.Lib.KernelVsHost

@[expose] public section

set_option maxRecDepth 16384

noncomputable section

namespace Cert.ProjReferenceIdeal.Plain

open Cert.ProjReferenceIdeal Cert.ProjReferenceIdeal.Gen Idealize.ShloMosaic Idealize.ShloMosaic.TcCoe

/-- The rows one position earlier, zero before a sequence begins. -/
def shifted (h : FVec Ideal S2x8192x2048 .f32) : FVec Ideal S2x8192x2048 .f32 :=
  extractStridedSlice S2x8192x2048 ![0, 0, 0] (pad S2x8193x2048 ![0, 1, 0] ![0, 0, 0] ![0, 0, 0] h (sitofp .f32 (constantI S_ 32 0#32))
    pads_S2x8192x2048_S2x8193x2048_000_100_000 h_S_) slices_S2x8193x2048_S2x8192x2048_0_0_0

/-- A channel vector at every position. -/
def everyRow (v : FVec Ideal S2048 .f32) : FVec Ideal S2x8192x2048 .f32 :=
  broadcastInDim S2x8192x2048 ![0, 1, 2] bcast_S1x1x2048_S2x8192x2048_0_1_2 (broadcastInDim S1x1x2048 ![2] bcast_S2048_S1x1x2048_2 v)

/-- A row blended with the row before it, by one row of coefficients. -/
def mixture (off : Fin 2 → ℕ) (hs : S6x2048.Slices off S1x2048) (h : FVec Ideal S2x8192x2048 .f32) (mu : FVec Ideal S6x2048 .f32) :
    FVec Ideal S2x8192x2048 .f32 :=
  addf h (mulf (subf (shifted h) h) (everyRow (shapeCast _ (extractStridedSlice S1x2048 off mu hs) shapeCasts_S1x2048_S2048)))

variable (h : FVec Ideal S2x8192x2048 .f32) (mu : FVec Ideal S6x2048 .f32)

abbrev mixR : FVec Ideal S2x8192x2048 .f32 := mixture ![0, 0] slices_S6x2048_S1x2048_0_0 h mu
abbrev mixW : FVec Ideal S2x8192x2048 .f32 := mixture ![1, 0] slices_S6x2048_S1x2048_1_0 h mu
abbrev mixK : FVec Ideal S2x8192x2048 .f32 := mixture ![2, 0] slices_S6x2048_S1x2048_2_0 h mu
abbrev mixV : FVec Ideal S2x8192x2048 .f32 := mixture ![3, 0] slices_S6x2048_S1x2048_3_0 h mu
abbrev mixA : FVec Ideal S2x8192x2048 .f32 := mixture ![4, 0] slices_S6x2048_S1x2048_4_0 h mu
abbrev mixG : FVec Ideal S2x8192x2048 .f32 := mixture ![5, 0] slices_S6x2048_S1x2048_5_0 h mu

/-- A row of 2048 channels through a square weight. -/
def product (x : FVec Ideal S2x8192x2048 .f32) (w : FVec Ideal S2048x2048 .f32) : FVec Ideal S2x8192x2048 .f32 :=
  Host.dotGeneral dot_S2x8192x2048_S2048x2048_S2x8192x2048_2_0_01_1_n_n none x w

def ones : FVec Ideal S2x8192x2048 .f32 := broadcastInDim S2x8192x2048 ![] bcast_S_S2x8192x2048 (constant S_ .f32 0x3F800000#32)
def zeros : FVec Ideal S2x8192x2048 .f32 := broadcastInDim S2x8192x2048 ![] bcast_S_S2x8192x2048 (constant S_ .f32 0x00000000#32)

/-- The in-context learning rate. -/
def learning (a0 : FVec Ideal S2048 .f32) (a1 : FVec Ideal S2048x96 .f32) (a2 : FVec Ideal S96x2048 .f32) : FVec Ideal S2x8192x2048 .f32 :=
  Host.divf ones (addf ones (Host.exp (Host.negf (addf (everyRow a0)
    (Host.dotGeneral dot_S2x8192x96_S96x2048_S2x8192x2048_2_0_01_1_n_n none
      (Host.dotGeneral dot_S2x8192x2048_S2048x96_S2x8192x96_2_0_01_1_n_n none (mixA h mu) a1) a2)))))

/-- The decay's argument, and its softplus. -/
def decayArg (w0 : FVec Ideal S2048 .f32) (w1 : FVec Ideal S2048x96 .f32) (w2 : FVec Ideal S96x2048 .f32) : FVec Ideal S2x8192x2048 .f32 :=
  Host.negf (addf (everyRow w0)
    (Host.dotGeneral dot_S2x8192x96_S96x2048_S2x8192x2048_2_0_01_1_n_n none
      (Host.tanh (Host.dotGeneral dot_S2x8192x2048_S2048x96_S2x8192x96_2_0_01_1_n_n none (mixW h mu) w1)) w2))
def softplus (z : FVec Ideal S2x8192x2048 .f32) : FVec Ideal S2x8192x2048 .f32 :=
  select (cmpf .une (subf z zeros) (subf z zeros)) (addf z zeros)
    (addf (maximumf z zeros) (Host.log1p (Host.exp (Host.negf (Host.absf (subf z zeros))))))

/-- The key of each head divided by its length. -/
def headKeys (wk : FVec Ideal S2048x2048 .f32) (kk : FVec Ideal S2048 .f32) : FVec Ideal S2x8192x32x64 .f32 :=
  shapeCast _ (mulf (product (mixK h mu) wk) (everyRow kk)) shapeCasts_S2x8192x2048_S2x8192x32x64
def unitKeys (x : FVec Ideal S2x8192x32x64 .f32) : FVec Ideal S2x8192x32x64 .f32 :=
  Host.divf x (broadcastInDim S2x8192x32x64 ![0, 1, 2, 3] bcast_S2x8192x32x1_S2x8192x32x64_0_1_2_3
    (maximumf (Host.sqrt (broadcastInDim S2x8192x32x1 ![0, 1, 2] bcast_S2x8192x32_S2x8192x32x1_0_1_2
      (Host.reduceAdd (mulf x x) (constant S_ .f32 0x00000000#32) reducesTo_S2x8192x32x64_S2x8192x32_d3 h_S_)))
      (broadcastInDim S2x8192x32x1 ![] bcast_S_S2x8192x32x1 (constant S_ .f32 0x2B8CBCCC#32))))

/-- The seven results, one row per position. -/
def receptances (wr : FVec Ideal S2048x2048 .f32) : FVec Ideal S16384x2048 .bf16 :=
  truncf .bf16 (shapeCast _ (product (mixR h mu) wr) shapeCasts_S2x8192x2048_S16384x2048) bitsLt_bf16_f32
def decays (w0 : FVec Ideal S2048 .f32) (w1 : FVec Ideal S2048x96 .f32) (w2 : FVec Ideal S96x2048 .f32) : FVec Ideal S16384x2048 .f32 :=
  shapeCast _ (Host.negf (Host.exp (subf (Host.negf (softplus (decayArg h mu w0 w1 w2)))
    (broadcastInDim S2x8192x2048 ![] bcast_S_S2x8192x2048 (constant S_ .f32 0x3F000000#32))))) shapeCasts_S2x8192x2048_S16384x2048
def keys (wk : FVec Ideal S2048x2048 .f32) (a0 : FVec Ideal S2048 .f32) (a1 : FVec Ideal S2048x96 .f32) (a2 : FVec Ideal S96x2048 .f32)
    (ka : FVec Ideal S2048 .f32) : FVec Ideal S16384x2048 .bf16 :=
  truncf .bf16 (shapeCast _ (mulf (product (mixK h mu) wk) (addf ones (mulf (subf (learning h mu a0 a1 a2) ones) (everyRow ka))))
    shapeCasts_S2x8192x2048_S16384x2048) bitsLt_bf16_f32
def values (wv : FVec Ideal S2048x2048 .f32) : FVec Ideal S16384x2048 .bf16 :=
  truncf .bf16 (shapeCast _ (product (mixV h mu) wv) shapeCasts_S2x8192x2048_S16384x2048) bitsLt_bf16_f32
def removals (wk : FVec Ideal S2048x2048 .f32) (kk : FVec Ideal S2048 .f32) : FVec Ideal S16384x2048 .bf16 :=
  truncf .bf16 (shapeCast _ (Host.negf (unitKeys (headKeys h mu wk kk))) shapeCasts_S2x8192x32x64_S16384x2048) bitsLt_bf16_f32
def insertions (wk : FVec Ideal S2048x2048 .f32) (kk a0 : FVec Ideal S2048 .f32) (a1 : FVec Ideal S2048x96 .f32) (a2 : FVec Ideal S96x2048 .f32) :
    FVec Ideal S16384x2048 .bf16 :=
  truncf .bf16 (shapeCast _ (mulf (unitKeys (headKeys h mu wk kk))
    (shapeCast _ (learning h mu a0 a1 a2) shapeCasts_S2x8192x2048_S2x8192x32x64)) shapeCasts_S2x8192x32x64_S16384x2048) bitsLt_bf16_f32
def gates (g1 : FVec Ideal S2048x256 .f32) (g2 : FVec Ideal S256x2048 .f32) : FVec Ideal S16384x2048 .bf16 :=
  truncf .bf16 (shapeCast _ (Host.dotGeneral dot_S2x8192x256_S256x2048_S2x8192x2048_2_0_01_1_n_n none
    (Host.divf (broadcastInDim S2x8192x256 ![] bcast_S_S2x8192x256 (constant S_ .f32 0x3F800000#32))
      (addf (broadcastInDim S2x8192x256 ![] bcast_S_S2x8192x256 (constant S_ .f32 0x3F800000#32))
        (Host.exp (Host.negf (Host.dotGeneral dot_S2x8192x2048_S2048x256_S2x8192x256_2_0_01_1_n_n none (mixG h mu) g1))))) g2)
    shapeCasts_S2x8192x2048_S16384x2048) bitsLt_bf16_f32

/-- The logistic function. -/
def logistic (y : EReal) : EReal := Ideal.div 1 (1 + Ideal.exp (-y))
/-- The decay's logarithm off its argument. -/
def decayOf (y : EReal) : EReal :=
  -Ideal.exp (-(max (-y) 0 + Ideal.log (1 + Ideal.exp (-(max (-y) (- -y))))) - Ideal.ofBits .f32 0x3F000000#32)

theorem shifted_apply (b : Fin 2) (p : Fin 8192) (c : Fin 2048) :
    shifted h (ix3 b p c) = if hp : 1 ≤ p.val then h (ix3 b ⟨p.val - 1, by omega⟩ c) else 0 := by
  pointwise [shifted]
  have h0 : (FloatOps.sitofp FTy.f32 0#32 : Ideal .f32) = 0 := sitofp_zero
  rw [h0]
  have hp := p.isLt
  by_cases h : 1 ≤ p.val
  · rw [dif_pos ⟨h, by omega⟩, dif_pos h]
  · rw [dif_neg fun e => h e.1, dif_neg h]

theorem mixture_apply (k : Fin 6) (hs : S6x2048.Slices ![k.val, 0] S1x2048) (b : Fin 2) (p : Fin 8192) (c : Fin 2048) :
    mixture ![k.val, 0] hs h mu (ix3 b p c)
      = h (ix3 b p c) + (shifted h (ix3 b p c) - h (ix3 b p c)) * mu (ix2 k c) := by
  pointwise [mixture, everyRow]

/-- Where a row of the results lies: its sequence, and its place in it. -/
def seqOf (R : Fin 16384) : Fin 2 := ⟨R.val / 8192, by omega⟩
def posOf (R : Fin 16384) : Fin 8192 := ⟨R.val % 8192, by omega⟩

variable (R : Fin 16384) (d : Fin 2048)

theorem product_apply (x : FVec Ideal S2x8192x2048 .f32) (w : FVec Ideal S2048x2048 .f32) (b : Fin 2) (p : Fin 8192) :
    product x w (ix3 b p d) = ∑ c : Fin 2048, x (ix3 b p c) * w (ix2 c d) := by
  pointwise [product]

theorem receptances_apply (wr : FVec Ideal S2048x2048 .f32) :
    receptances h mu wr (ix2 R d) = ∑ c : Fin 2048, mixR h mu (ix3 (seqOf R) (posOf R) c) * wr (ix2 c d) := by
  rw [← product_apply]
  pointwise [receptances, seqOf, posOf]

theorem values_apply (wv : FVec Ideal S2048x2048 .f32) :
    values h mu wv (ix2 R d) = ∑ c : Fin 2048, mixV h mu (ix3 (seqOf R) (posOf R) c) * wv (ix2 c d) := by
  rw [← product_apply]
  pointwise [values, seqOf, posOf]

theorem learning_apply (a0 : FVec Ideal S2048 .f32) (a1 : FVec Ideal S2048x96 .f32) (a2 : FVec Ideal S96x2048 .f32) (b : Fin 2) (p : Fin 8192) :
    learning h mu a0 a1 a2 (ix3 b p d)
      = logistic (a0 (ix1 d) + ∑ k : Fin 96, (∑ c : Fin 2048, mixA h mu (ix3 b p c) * a1 (ix2 c k)) * a2 (ix2 k d)) := by
  pointwise [learning, everyRow, ones, logistic]

theorem decays_apply (w0 : FVec Ideal S2048 .f32) (w1 : FVec Ideal S2048x96 .f32) (w2 : FVec Ideal S96x2048 .f32) :
    decays h mu w0 w1 w2 (ix2 R d)
      = decayOf (w0 (ix1 d) + ∑ k : Fin 96, Ideal.tanh (∑ c : Fin 2048, mixW h mu (ix3 (seqOf R) (posOf R) c) * w1 (ix2 c k)) * w2 (ix2 k d)) := by
  pointwise [decays, softplus, decayArg, everyRow, zeros, decayOf, seqOf, posOf]
  rw [if_neg (fun e => e rfl)]
  rfl

theorem keys_apply (wk : FVec Ideal S2048x2048 .f32) (a0 : FVec Ideal S2048 .f32) (a1 : FVec Ideal S2048x96 .f32) (a2 : FVec Ideal S96x2048 .f32)
    (ka : FVec Ideal S2048 .f32) :
    keys h mu wk a0 a1 a2 ka (ix2 R d)
      = (∑ c : Fin 2048, mixK h mu (ix3 (seqOf R) (posOf R) c) * wk (ix2 c d))
        * (1 + (learning h mu a0 a1 a2 (ix3 (seqOf R) (posOf R) d) - 1) * ka (ix1 d)) := by
  rw [← product_apply]
  pointwise [keys, everyRow, ones, seqOf, posOf]

theorem gates_apply (g1 : FVec Ideal S2048x256 .f32) (g2 : FVec Ideal S256x2048 .f32) :
    gates h mu g1 g2 (ix2 R d)
      = ∑ k : Fin 256, logistic (∑ c : Fin 2048, mixG h mu (ix3 (seqOf R) (posOf R) c) * g1 (ix2 c k)) * g2 (ix2 k d) := by
  pointwise [gates, logistic, seqOf, posOf]

/-- A key before its length is divided out. -/
def keyAt (wk : FVec Ideal S2048x2048 .f32) (kk : FVec Ideal S2048 .f32) : EReal :=
  (∑ c : Fin 2048, mixK h mu (ix3 (seqOf R) (posOf R) c) * wk (ix2 c d)) * kk (ix1 d)
/-- The channels of the head a channel lies in. -/
def headChannel (e : Fin 64) : Fin 2048 := ⟨d.val / 64 * 64 + e.val, by omega⟩
/-- A key divided by its head's length. -/
def unitKeyAt (wk : FVec Ideal S2048x2048 .f32) (kk : FVec Ideal S2048 .f32) : EReal :=
  Ideal.div (keyAt h mu R d wk kk) (max (Ideal.sqrt (∑ e : Fin 64, keyAt h mu R (headChannel d e) wk kk * keyAt h mu R (headChannel d e) wk kk))
    (Ideal.ofBits .f32 0x2B8CBCCC#32))

theorem headKeys_apply (wk : FVec Ideal S2048x2048 .f32) (kk : FVec Ideal S2048 .f32) (n : Fin 32) (e : Fin 64) :
    headKeys h mu wk kk (ix4 (seqOf R) (posOf R) n e) = keyAt h mu R ⟨n.val * 64 + e.val, by omega⟩ wk kk := by
  unfold keyAt
  rw [← product_apply]
  pointwise [headKeys, everyRow]

theorem unitKeys_apply (wk : FVec Ideal S2048x2048 .f32) (kk : FVec Ideal S2048 .f32) :
    unitKeys (headKeys h mu wk kk) (ix4 (seqOf R) (posOf R) ⟨d.val / 64, by omega⟩ ⟨d.val % 64, by omega⟩) = unitKeyAt h mu R d wk kk := by
  unfold unitKeyAt
  pointwise [unitKeys]
  simp only [headKeys_apply]
  have e : (⟨d.val / 64 * 64 + d.val % 64, by omega⟩ : Fin 2048) = d := Fin.ext (by show d.val / 64 * 64 + d.val % 64 = d.val; omega)
  rw [e]
  rfl

theorem removals_apply (wk : FVec Ideal S2048x2048 .f32) (kk : FVec Ideal S2048 .f32) :
    removals h mu wk kk (ix2 R d) = -unitKeyAt h mu R d wk kk := by
  rw [← unitKeys_apply]
  pointwise [removals, seqOf, posOf]

theorem insertions_apply (wk : FVec Ideal S2048x2048 .f32) (kk a0 : FVec Ideal S2048 .f32) (a1 : FVec Ideal S2048x96 .f32) (a2 : FVec Ideal S96x2048 .f32) :
    insertions h mu wk kk a0 a1 a2 (ix2 R d) = unitKeyAt h mu R d wk kk * learning h mu a0 a1 a2 (ix3 (seqOf R) (posOf R) d) := by
  rw [← unitKeys_apply]
  pointwise [insertions, seqOf, posOf]

end Cert.ProjReferenceIdeal.Plain
end
-- ==== Proof.ProjValues.lean ====
/-  The projections' stored blocks, element by element. -/
module

public import proofs.«01_k».proof.Proof.ProjBlocks
public import proofs.«01_k».proof.Proof.ProjReference
public import proofs.«01_k».proof.Proof.PoolSums

@[expose] public section

set_option maxRecDepth 16384

noncomputable section

namespace Cert.ProjIdeal.Values

open Cert.ProjIdeal Cert.ProjIdeal.Gen Cert.ProjIdeal.Projections Idealize.ShloMosaic Idealize.ShloMosaic.TcCoe
open Cert.PoolSums
open Cert.ProjReferenceIdeal.Plain (decayOf)

variable (s0 : Vec Ideal S6x512x2048 .bf16) (s1 s2 : Vec Ideal S512x128 .bf16) (s3 : Vec Ideal S512x256 .bf16)

/-- Reading a slab. -/
theorem slab_idx (k : Fin 6) (inb : ∀ a, (![k.val, 0, 0] : Fin 3 → ℕ) a + S1x512x2048.size a ≤ S6x512x2048.size a) (r : Fin 512) (c : Fin 2048) :
    (Rect.unit (s := S6x512x2048) ![k.val, 0, 0] S1x512x2048.size inb).toLoadRect.idx (ix3 0 r c) = ix3 k r c := by
  funext a
  refine Fin.ext ?_
  match a with
  | ⟨0, _⟩ => rfl
  | ⟨1, _⟩ => show 0 + 1 * r.val = r.val; omega
  | ⟨2, _⟩ => show 0 + 1 * c.val = c.val; omega
theorem slab0_apply (r : Fin 512) (c : Fin 2048) : slab0 s0 (ix3 0 r c) = s0 (ix3 0 r c) := congrArg s0 (slab_idx 0 inb_S6x512x2048_S1x512x2048_0_0_0 r c)
theorem slab1_apply (r : Fin 512) (c : Fin 2048) : slab1 s0 (ix3 0 r c) = s0 (ix3 1 r c) := congrArg s0 (slab_idx 1 inb_S6x512x2048_S1x512x2048_1_0_0 r c)
theorem slab2_apply (r : Fin 512) (c : Fin 2048) : slab2 s0 (ix3 0 r c) = s0 (ix3 2 r c) := congrArg s0 (slab_idx 2 inb_S6x512x2048_S1x512x2048_2_0_0 r c)
theorem slab3_apply (r : Fin 512) (c : Fin 2048) : slab3 s0 (ix3 0 r c) = s0 (ix3 3 r c) := congrArg s0 (slab_idx 3 inb_S6x512x2048_S1x512x2048_3_0_0 r c)
theorem slab4_apply (r : Fin 512) (c : Fin 2048) : slab4 s0 (ix3 0 r c) = s0 (ix3 4 r c) := congrArg s0 (slab_idx 4 inb_S6x512x2048_S1x512x2048_4_0_0 r c)
theorem slab5_apply (r : Fin 512) (c : Fin 2048) : slab5 s0 (ix3 0 r c) = s0 (ix3 5 r c) := congrArg s0 (slab_idx 5 inb_S6x512x2048_S1x512x2048_5_0_0 r c)

variable (r : Fin 512) (d : Fin 512)

theorem product_value (x : Vec Ideal S1x512x2048 .bf16) (w : Vec Ideal S2048x512 .bf16) :
    k0_pay19 x w (ix2 r d) = ∑ c : Fin 2048, x (ix3 0 r c) * w (ix2 c d) := by
  pointwise [k0_pay19]
theorem receptance_value (x : Vec Ideal S1x512x2048 .bf16) (w : Vec Ideal S2048x512 .bf16) :
    k0_pay3 x w (ix2 r d) = ∑ c : Fin 2048, x (ix3 0 r c) * w (ix2 c d) := by
  pointwise [k0_pay3]
theorem value_value (x : Vec Ideal S1x512x2048 .bf16) (w : Vec Ideal S2048x512 .bf16) :
    k0_pay1 x w (ix2 r d) = ∑ c : Fin 2048, x (ix3 0 r c) * w (ix2 c d) := by
  pointwise [k0_pay1]
theorem decayAct_value (x : Vec Ideal S1x512x2048 .bf16) (w : Vec Ideal S2048x128 .bf16) (k : Fin 128) :
    k0_pay12 x w (ix2 r k) = Ideal.tanh (∑ c : Fin 2048, x (ix3 0 r c) * w (ix2 c k)) := by
  pointwise [k0_pay12]
theorem rateAct_value (x : Vec Ideal S1x512x2048 .bf16) (w : Vec Ideal S2048x128 .bf16) (k : Fin 128) :
    k0_pay13 x w (ix2 r k) = ∑ c : Fin 2048, x (ix3 0 r c) * w (ix2 c k) := by
  pointwise [k0_pay13]
theorem gateAct_value (x : Vec Ideal S1x512x2048 .bf16) (w : Vec Ideal S2048x256 .bf16) (k : Fin 256) :
    k0_pay15 (k0_pay14 x w) (ix2 r k) = Cert.ProjReferenceIdeal.Plain.logistic (∑ c : Fin 2048, x (ix3 0 r c) * w (ix2 c k)) := by
  pointwise [k0_pay15, k0_pay14]
  unfold Cert.ProjReferenceIdeal.Plain.logistic
  rw [zero_sub]
theorem gate_value (x : Vec Ideal S512x256 .bf16) (w : Vec Ideal S256x512 .bf16) :
    k0_pay2 x w (ix2 r d) = ∑ k : Fin 256, x (ix2 r k) * w (ix2 k d) := by
  pointwise [k0_pay2]
theorem decay_value (x : Vec Ideal S512x128 .bf16) (w : Vec Ideal S128x512 .bf16) (v : Vec Ideal S1x512 .f32) :
    k0_pay16 x w v (ix2 r d) = decayOf (v (ix2 0 d) + ∑ k : Fin 128, x (ix2 r k) * w (ix2 k d)) := by
  pointwise [k0_pay16]
  unfold decayOf
  simp only [zero_sub]
  rfl
theorem rate_value (x : Vec Ideal S512x128 .bf16) (w : Vec Ideal S128x512 .bf16) (v : Vec Ideal S1x512 .f32) :
    rate x w v (ix2 r d) = Cert.ProjReferenceIdeal.Plain.logistic (v (ix2 0 d) + ∑ k : Fin 128, x (ix2 r k) * w (ix2 k d)) := by
  pointwise [rate, k0_pay18, k0_pay17]
  unfold Cert.ProjReferenceIdeal.Plain.logistic
  rw [zero_sub]
theorem key_value (a k : FVec Ideal S512x512 .f32) (v : Vec Ideal S1x512 .f32) :
    k0_pay31 a k v (ix2 r d) = k (ix2 r d) * (1 + (a (ix2 r d) - 1) * v (ix2 0 d)) := by
  pointwise [k0_pay31]
theorem scaledKey_value (x : Vec Ideal S1x512x2048 .bf16) (w : Vec Ideal S2048x512 .bf16) (v : Vec Ideal S1x512 .f32) :
    k0_pay20 x w v (ix2 r d) = (∑ c : Fin 2048, x (ix3 0 r c) * w (ix2 c d)) * v (ix2 0 d) := by
  rw [← product_value]
  pointwise [k0_pay20]
theorem square_value (x : Vec Ideal S1x512x2048 .bf16) (w : Vec Ideal S2048x512 .bf16) (v : Vec Ideal S1x512 .f32) :
    k0_pay21 x w v (ix2 r d) = k0_pay20 x w v (ix2 r d) * k0_pay20 x w v (ix2 r d) := by
  pointwise [k0_pay21]

/-- The head a column lies in, as the body computes it. -/
def headWord (n : ℕ) : BitVec 32 :=
  let w : BitVec 32 := BitVec.ofNat 32 n
  Scalar.select (Scalar.andi
      (Scalar.cmpi .ne (Scalar.subi (Scalar.extui (Scalar.cmpi .sgt w 0#32) : BitVec 32) (Scalar.extui (Scalar.cmpi .slt w 0#32)))
        (Scalar.subi (Scalar.extui (Scalar.cmpi .sgt 64#32 0#32) : BitVec 32) (Scalar.extui (Scalar.cmpi .slt 64#32 0#32))))
      (Scalar.cmpi .ne (Scalar.remsi w 64#32) 0#32))
    (Scalar.subi (Scalar.divsi w 64#32) 1#32) (Scalar.divsi w 64#32)
theorem headWord_eq : ∀ n : Fin 128, headWord n.val = BitVec.ofNat 32 (n.val / 64) := by decide +kernel
theorem sameHead : ∀ a b : Fin 2, (Scalar.extui (Scalar.cmpi .eq (BitVec.ofNat 32 a.val) (BitVec.ofNat 32 b.val)) : BitVec 32)
    = if a.val = b.val then 1#32 else 0#32 := by decide +kernel

/-- Whether two columns lie in the same head. -/
theorem heads_apply (j l : Fin 128) : k0_pay25 (F := Ideal) k0_pay22 k0_pay23 k0_pay24 (ix2 j l) = if j.val / 64 = l.val / 64 then 1 else 0 := by
  have e : k0_pay25 (F := Ideal) k0_pay22 k0_pay23 k0_pay24 (ix2 j l) = (Scalar.sitofp .f32 (Scalar.extui (Scalar.cmpi .eq (headWord j.val) (headWord l.val)) : BitVec 32) : Ideal .f32) := by
    unfold headWord
    pointwise [k0_pay25, k0_pay22, k0_pay23, k0_pay24]
    rfl
  rw [e, headWord_eq, headWord_eq, sameHead ⟨j.val / 64, by omega⟩ ⟨l.val / 64, by omega⟩]
  dsimp only
  by_cases h : j.val / 64 = l.val / 64
  · rw [if_pos h, if_pos h]
    show (((1#32 : BitVec 32).toInt : ℝ) : EReal) = 1
    have : (1#32 : BitVec 32).toInt = 1 := by decide
    rw [this]
    norm_num
  · rw [if_neg h, if_neg h]
    exact sitofp_zero

/-- The columns of one head, picked out of two. -/
theorem sum_head (f : Fin 128 → EReal) (n : ℕ) (hn : n < 2) :
    ∑ j : Fin 128, f j * (if j.val / 64 = n then 1 else 0) = ∑ e : Fin 64, f ⟨n * 64 + e.val, by omega⟩ := by
  refine (Fin.sum_univ_add (a := 64) (b := 64) fun j => f j * (if j.val / 64 = n then 1 else 0)).trans ?_
  match n, hn with
  | 0, _ =>
    rw [Finset.sum_eq_zero (s := Finset.univ) (f := fun i : Fin 64 => f (Fin.natAdd 64 i) * _) fun i _ => by
      rw [if_neg (by show ¬(64 + i.val) / 64 = 0; omega), mul_zero], add_zero]
    refine Finset.sum_congr rfl fun i _ => ?_
    rw [if_pos (by show i.val / 64 = 0; omega), mul_one]
    exact congrArg f (Fin.ext (by show i.val = 0 * 64 + i.val; omega))
  | 1, _ =>
    rw [Finset.sum_eq_zero (s := Finset.univ) (f := fun i : Fin 64 => f (Fin.castAdd 64 i) * _) fun i _ => by
      rw [if_neg (by show ¬i.val / 64 = 1; omega), mul_zero], zero_add]
    refine Finset.sum_congr rfl fun i _ => ?_
    rw [if_pos (by show (64 + i.val) / 64 = 1; omega), mul_one]
    exact congrArg f (Fin.ext (by show 64 + i.val = 1 * 64 + i.val; omega))

theorem IsReal.sub_self {x : EReal} (hx : IsReal x) : x - x = 0 := by
  obtain ⟨a, rfl⟩ := hx
  rw [← EReal.coe_sub, _root_.sub_self, EReal.coe_zero]

/-- The sum over a head, the squares in two parts: themselves, and what a rounding would have left (nothing). -/
theorem two_parts (f : Fin 128 → EReal) (hf : ∀ j, IsReal (f j)) (l : Fin 128) :
    ∑ j : Fin 128, f j * (if j.val / 64 = l.val / 64 then 1 else 0) + ∑ j : Fin 128, (f j - f j) * (if j.val / 64 = l.val / 64 then 1 else 0)
      = ∑ e : Fin 64, f ⟨l.val / 64 * 64 + e.val, by omega⟩ := by
  rw [Finset.sum_eq_zero (s := Finset.univ) (f := fun j : Fin 128 => (f j - f j) * _) fun j _ => by
    rw [IsReal.sub_self (hf j), zero_mul], add_zero]
  exact sum_head f _ (by omega)

/-- The same over one of the four stretches of 128 columns. -/
theorem stretch (g : Fin 512 → EReal) (hg : ∀ j, IsReal (g j)) (d : Fin 512) (o : ℕ) (ho : o ≤ d.val) (hd : d.val - o < 128) (h4 : o % 64 = 0)
    (h5 : o + 128 ≤ 512) :
    ∑ j : Fin 128, g ⟨o + j.val, by omega⟩ * (if j.val / 64 = (d.val - o) / 64 then 1 else 0)
        + ∑ j : Fin 128, (g ⟨o + j.val, by omega⟩ - g ⟨o + j.val, by omega⟩) * (if j.val / 64 = (d.val - o) / 64 then 1 else 0)
      = ∑ e : Fin 64, g ⟨d.val / 64 * 64 + e.val, by omega⟩ := by
  refine (two_parts (fun j => g ⟨o + j.val, by omega⟩) (fun j => hg _) ⟨d.val - o, hd⟩).trans ?_
  refine Finset.sum_congr rfl fun e _ => congrArg g (Fin.ext ?_)
  show o + ((d.val - o) / 64 * 64 + e.val) = d.val / 64 * 64 + e.val
  omega

/-- A key divided by its head's length, as the body computes it. -/
def unit (kx sq : FVec Ideal S512x512 .f32) : FVec Ideal S512x512 .f32 :=
  k0_pay30 kx sq (k0_pay25 k0_pay22 k0_pay23 k0_pay24) (k0_pay26 sq k0_pay22 k0_pay23 k0_pay24) (k0_pay28 sq) (k0_pay29 sq)
    (constant S512x128 .f32 0x00000000#32)

theorem unit_apply (kx sq : FVec Ideal S512x512 .f32) (hq : ∀ d, IsReal (sq (ix2 r d))) :
    unit kx sq (ix2 r d) = Ideal.div (kx (ix2 r d)) (max (Ideal.sqrt (∑ e : Fin 64, sq (ix2 r ⟨d.val / 64 * 64 + e.val, by omega⟩)))
      (Ideal.ofBits .f32 0x2B8CBCCC#32)) := by
  unfold unit
  pointwise [k0_pay30, k0_pay26, k0_pay27, k0_pay28, k0_pay29]
  simp only [heads_apply]
  refine congrArg (fun z => Ideal.div (kx (ix2 r d)) (max (Ideal.sqrt z) (Ideal.ofBits .f32 0x2B8CBCCC#32))) ?_
  have hlt := d.isLt
  by_cases c0 : d.val < 128
  · rw [dif_pos c0]
    refine Eq.trans ?_ (stretch (fun d => sq (ix2 r d)) hq d 0 (by omega) (by omega) (by decide) (by decide))
    simp only [Nat.zero_add, Nat.sub_zero]
  rw [dif_neg c0]
  by_cases c1 : d.val - 128 < 128
  · rw [dif_pos c1]
    exact stretch (fun d => sq (ix2 r d)) hq d 128 (by omega) (by omega) (by decide) (by decide)
  rw [dif_neg c1]
  by_cases c2 : d.val - 128 - 128 < 128
  · rw [dif_pos c2]
    refine Eq.trans ?_ (stretch (fun d => sq (ix2 r d)) hq d 256 (by omega) (by omega) (by decide) (by decide))
    simp only [Nat.sub_sub, Nat.reduceAdd]
  · rw [dif_neg c2]
    refine Eq.trans ?_ (stretch (fun d => sq (ix2 r d)) hq d 384 (by omega) (by omega) (by decide) (by decide))
    simp only [Nat.sub_sub, Nat.reduceAdd]

theorem removal_value (kx sq : FVec Ideal S512x512 .f32) :
    k0_pay32 kx sq (k0_pay25 k0_pay22 k0_pay23 k0_pay24) (k0_pay26 sq k0_pay22 k0_pay23 k0_pay24) (k0_pay28 sq) (k0_pay29 sq)
      (constant S512x128 .f32 0x00000000#32) (ix2 r d) = -unit kx sq (ix2 r d) := by
  unfold unit
  pointwise [k0_pay32]
  rw [zero_sub]
theorem insertion_value (a kx sq : FVec Ideal S512x512 .f32) :
    k0_pay33 a kx sq (k0_pay25 k0_pay22 k0_pay23 k0_pay24) (k0_pay26 sq k0_pay22 k0_pay23 k0_pay24) (k0_pay28 sq) (k0_pay29 sq)
      (constant S512x128 .f32 0x00000000#32) (ix2 r d) = unit kx sq (ix2 r d) * a (ix2 r d) := by
  unfold unit
  pointwise [k0_pay33]

/-- A sum whose last thirty-two terms vanish. -/
theorem padded_sum (f : Fin 128 → EReal) (hz : ∀ k : Fin 128, 96 ≤ k.val → f k = 0) :
    ∑ k : Fin 128, f k = ∑ k : Fin 96, f ⟨k.val, by omega⟩ := by
  refine (Fin.sum_univ_add (a := 96) (b := 32) f).trans ?_
  rw [Finset.sum_eq_zero (s := Finset.univ) (f := fun i : Fin 32 => f (Fin.natAdd 96 i)) fun i _ =>
    hz _ (by show 96 ≤ 96 + i.val; omega), add_zero]
  rfl

end Cert.ProjIdeal.Values
end
-- ==== Proof.ProjRows.lean ====
/-  The projections' mixtures: with a block's rows a stretch of a sequence and the row before it at hand, each slab of the
    scratch holds the plain computation's mixture there. -/
module

public import proofs.«01_k».proof.Proof.ProjBlocks
public import proofs.«01_k».proof.Proof.ProjReference
public import Idealize.ShloMosaic.Lib.Pipeline.ValueKit

@[expose] public section

set_option maxRecDepth 16384

noncomputable section

namespace Cert.ProjIdeal.Rows

open Cert.ProjIdeal Cert.ProjIdeal.Gen Cert.ProjIdeal.Projections Idealize.ShloMosaic Idealize.ShloMosaic.TcCoe
open Cert.ProjReferenceIdeal.Plain (mixture shifted mixture_apply shifted_apply)

/-- Whether anything precedes a row block in its sequence, as the body computes it from the block's number. -/
def keepWord (w : BitVec 32) : BitVec 32 :=
  let v187 : BitVec 1 := Scalar.cmpi .eq 16#32 0#32
  let v188 : BitVec 32 := Scalar.select v187 1#32 16#32
  let v189 : BitVec 32 := Scalar.remsi w v188
  let v190 : BitVec 1 := Scalar.cmpi .ne v189 0#32
  let v191 : BitVec 1 := Scalar.cmpi .slt v189 0#32
  let v192 : BitVec 1 := Scalar.cmpi .slt v188 0#32
  let v193 : BitVec 1 := Scalar.xori v191 v192
  let v194 : BitVec 1 := Scalar.andi v193 v190
  let v195 : BitVec 32 := Scalar.addi v189 v188
  let v196 : BitVec 32 := Scalar.select v194 v195 v189
  let v197 : BitVec 1 := Scalar.cmpi .sgt v196 0#32
  Scalar.extui v197
def keep (w : BitVec 32) : Ideal .f32 := Scalar.sitofp .f32 (keepWord w)

theorem keepWord_eq : ∀ n : Fin 32, keepWord (BitVec.ofNat 32 n.val) = if n.val % 16 = 0 then 0#32 else 1#32 := by decide +kernel
theorem keep_eq (n : ℕ) (hn : n < 32) : keep (BitVec.ofNat 32 n) = if n % 16 = 0 then 0 else 1 := by
  unfold keep
  rw [keepWord_eq ⟨n, hn⟩]
  dsimp only
  by_cases h : n % 16 = 0
  · rw [if_pos h, if_pos h]
    exact sitofp_zero
  · rw [if_neg h, if_neg h]
    show (((1#32 : BitVec 32).toInt : ℝ) : EReal) = 1
    have : (1#32 : BitVec 32).toInt = 1 := by decide
    rw [this]
    norm_num

/-- The rows rotated down by one. -/
theorem rotated_apply (x0 : Vec Ideal S512x2048 .f32) (r : Fin 512) (c : Fin 2048) (hr : 1 ≤ r.val) :
    dynamicRotate 0 1#32 none (k0_pay4 x0) rotates_S512x2048_d0 (ix2 r c) = x0 (ix2 ⟨r.val - 1, by omega⟩ c) := by
  have hlt := r.isLt
  rw [dynamicRotate_apply 0 1#32 (k0_pay4 x0) rotates_S512x2048_d0 (ix2 r c) (ix2 ⟨r.val - 1, by omega⟩ c) (fun b => by
    match b with
    | ⟨0, _⟩ =>
      show r.val - 1 = (r.val + 512 - (1#32 : BitVec 32).toNat % 512) % 512
      have : (1#32 : BitVec 32).toNat = 1 := by decide
      rw [this]
      omega
    | ⟨1, _⟩ => rfl)]
  pointwise [k0_pay4]

/-- The shifted rows less the rows themselves. -/
theorem shift_apply (w : BitVec 32) (x0 : Vec Ideal S512x2048 .f32) (row : Vec Ideal S1x2048 .f32) (r : Fin 512) (c : Fin 2048) :
    k0_pay5 w x0 row (ix2 r c)
      = (if hr : 1 ≤ r.val then x0 (ix2 ⟨r.val - 1, by omega⟩ c) else row (ix2 0 c) * keep w) - x0 (ix2 r c) := by
  have e : k0_pay5 w x0 row (ix2 r c)
      = Scalar.select (IntOp.cmpi .eq (BitVec.ofNat 32 r.val) 0#32) (row (ix2 0 c) * keep w)
          (dynamicRotate 0 1#32 none (k0_pay4 x0) rotates_S512x2048_d0 (ix2 r c)) - x0 (ix2 r c) := by
    unfold keep keepWord
    pointwise [k0_pay5]
    pointwise [k0_pay4]
  rw [e]
  have hlt := r.isLt
  by_cases hr : 1 ≤ r.val
  · rw [dif_pos hr, rotated_apply x0 r c hr]
    have h0 : IntOp.cmpi .eq (BitVec.ofNat 32 r.val) 0#32 = 0#1 := by
      have : BitVec.ofNat 32 r.val ≠ 0#32 := fun h => by
        have := congrArg BitVec.toNat h
        rw [BitVec.toNat_ofNat, BitVec.toNat_ofNat] at this
        omega
      show BitVec.ofBool (BitVec.ofNat 32 r.val == 0#32) = 0#1
      rw [beq_eq_false_iff_ne.mpr this]
      rfl
    rw [h0]
    rfl
  · rw [dif_neg hr]
    have h0 : r.val = 0 := by omega
    rw [h0]
    rfl

/-- A slab of the scratch as stored. -/
theorem mixed_apply (i : grid0.Coords) (x0 : Vec Ideal S512x2048 .f32) (x1 x2 : Vec Ideal S8x2048 .f32) (k : Fin 6) (r : Fin 512) (c : Fin 2048) :
    mixed i x0 x1 x2 (ix3 k r c)
      = x0 (ix2 r c) + k0_pay5 (rowWord i) x0 (row7 x1) (ix2 r c) * x2 (ix2 ⟨k.val, by omega⟩ c) := by
  unfold mixed
  canon_tiles x h
  all_goals pointwise [k0_pay6, k0_pay7, k0_pay8, k0_pay9, k0_pay10, k0_pay11, k0_pay4, h0, h1, h2]
  all_goals
    have e1 : x 1 = r := Fin.ext h1.symm
    have e2 : x 2 = c := Fin.ext h2.symm
    rw [e1, e2]
    refine congrArg (fun z : EReal => x0 (ix2 r c) + k0_pay5 (rowWord i) x0 (row7 x1) (ix2 r c) * z) (congrArg x2 (funext fun a => Fin.ext ?_))
    match a with
    | ⟨0, _⟩ =>
      refine Eq.trans ?_ h0.symm
      have hx : (x 0).val = 0 := by omega
      rw [hx]
      rfl
    | ⟨1, _⟩ => show 0 + 1 * c.val = c.val; omega

/-- The block's rows, and the row before them, lie in sequence `b` from position `p0` on. -/
structure Lies (h : FVec Ideal Cert.ProjReferenceIdeal.S2x8192x2048 .f32) (mu : FVec Ideal Cert.ProjReferenceIdeal.S6x2048 .f32)
    (b : Fin 2) (p0 : ℕ) (x0 : Vec Ideal S512x2048 .f32) (x1 x2 : Vec Ideal S8x2048 .f32) (w : BitVec 32) : Prop where
  inside : p0 + 512 ≤ 8192
  rows : ∀ (r : Fin 512) (c : Fin 2048), x0 (ix2 r c) = h (ix3 b ⟨p0 + r.val, by omega⟩ c)
  coefficients : ∀ (k : Fin 6) (c : Fin 2048), x2 (ix2 ⟨k.val, by omega⟩ c) = mu (ix2 k c)
  before : (keep w = 0 ∧ p0 = 0) ∨ (keep w = 1 ∧ ∃ hp : 1 ≤ p0, ∀ c : Fin 2048, x1 (ix2 7 c) = h (ix3 b ⟨p0 - 1, by omega⟩ c))

variable {h : FVec Ideal Cert.ProjReferenceIdeal.S2x8192x2048 .f32} {mu : FVec Ideal Cert.ProjReferenceIdeal.S6x2048 .f32}
variable {b : Fin 2} {p0 : ℕ} {x0 : Vec Ideal S512x2048 .f32} {x1 x2 : Vec Ideal S8x2048 .f32} {i : grid0.Coords}

theorem row7_apply (x1 : Vec Ideal S8x2048 .f32) (c : Fin 2048) : row7 x1 (ix2 0 c) = x1 (ix2 7 c) :=
  congrArg x1 (funext fun k => Fin.ext (by
    match k with
    | ⟨0, _⟩ => rfl
    | ⟨1, _⟩ => show 0 + 1 * c.val = c.val; omega))

/-- Each slab holds the plain computation's mixture. -/
theorem Lies.mixed_eq (L : Lies h mu b p0 x0 x1 x2 (rowWord i)) (k : Fin 6) (hs : Cert.ProjReferenceIdeal.S6x2048.Slices ![k.val, 0] Cert.ProjReferenceIdeal.S1x2048)
    (r : Fin 512) (c : Fin 2048) :
    mixed i x0 x1 x2 (ix3 k r c) = mixture ![k.val, 0] hs h mu (ix3 b ⟨p0 + r.val, by have := L.inside; omega⟩ c) := by
  have hin := L.inside
  rw [mixed_apply, mixture_apply, shift_apply, shifted_apply, L.rows, L.coefficients, row7_apply]
  refine congrArg (fun z : EReal => h (ix3 b ⟨p0 + r.val, by omega⟩ c) + (z - h (ix3 b ⟨p0 + r.val, by omega⟩ c)) * mu (ix2 k c)) ?_
  by_cases hr : 1 ≤ r.val
  · rw [dif_pos hr, dif_pos (by show 1 ≤ p0 + r.val; omega), L.rows]
    exact congrArg (fun p => h (ix3 b p c)) (Fin.ext (by show p0 + (r.val - 1) = p0 + r.val - 1; omega))
  · rw [dif_neg hr]
    rcases L.before with ⟨hk, hp⟩ | ⟨hk, hp, hx⟩
    · rw [hk, mul_zero, dif_neg (by show ¬1 ≤ p0 + r.val; omega)]
    · rw [hk, mul_one, hx, dif_pos (by show 1 ≤ p0 + r.val; omega)]
      exact congrArg (fun p => h (ix3 b p c)) (Fin.ext (by show p0 - 1 = p0 + r.val - 1; omega))

end Cert.ProjIdeal.Rows
end
-- ==== Proof.ProjEntry.lean ====
/-  The projections: the arrays the launch's windows read, in terms of the program's arguments. -/
module

public import proofs.«01_k».proof.Proof.ProjData
public import proofs.«01_k».proof.Proof.ProjRows
public import Idealize.ShloMosaic.Lib.Pipeline.ValueKit

@[expose] public section

set_option maxRecDepth 16384

noncomputable section

namespace Cert.ProjIdeal.Entry

open Cert.ProjIdeal Cert.ProjIdeal.Gen Cert.ProjIdeal.Projections
open Idealize.ShloMosaic Idealize.ShloMosaic.TcCoe Idealize.SL.Sem
open Idealize.ShloMosaic.Pipeline (Dat)

variable (m : (ℓ : Loc nD τ sig) → Buf (Elt Ideal) ℓ) (c : Dev nD)

abbrev rowsOf : FVec Ideal Cert.ProjReferenceIdeal.S2x8192x2048 .f32 := m ((c : Thread nD τ).loc main_arg0)
abbrev muOf : FVec Ideal Cert.ProjReferenceIdeal.S6x2048 .f32 := m ((c : Thread nD τ).loc main_arg1)
abbrev w0Of : FVec Ideal Cert.ProjReferenceIdeal.S2048 .f32 := m ((c : Thread nD τ).loc main_arg2)
abbrev w1Of : FVec Ideal Cert.ProjReferenceIdeal.S2048x96 .f32 := m ((c : Thread nD τ).loc main_arg3)
abbrev w2Of : FVec Ideal Cert.ProjReferenceIdeal.S96x2048 .f32 := m ((c : Thread nD τ).loc main_arg4)
abbrev a0Of : FVec Ideal Cert.ProjReferenceIdeal.S2048 .f32 := m ((c : Thread nD τ).loc main_arg5)
abbrev a1Of : FVec Ideal Cert.ProjReferenceIdeal.S2048x96 .f32 := m ((c : Thread nD τ).loc main_arg6)
abbrev a2Of : FVec Ideal Cert.ProjReferenceIdeal.S96x2048 .f32 := m ((c : Thread nD τ).loc main_arg7)
abbrev g1Of : FVec Ideal Cert.ProjReferenceIdeal.S2048x256 .f32 := m ((c : Thread nD τ).loc main_arg8)
abbrev g2Of : FVec Ideal Cert.ProjReferenceIdeal.S256x2048 .f32 := m ((c : Thread nD τ).loc main_arg9)
abbrev kkOf : FVec Ideal Cert.ProjReferenceIdeal.S2048 .f32 := m ((c : Thread nD τ).loc main_arg10)
abbrev kaOf : FVec Ideal Cert.ProjReferenceIdeal.S2048 .f32 := m ((c : Thread nD τ).loc main_arg11)
abbrev wrOf : FVec Ideal Cert.ProjReferenceIdeal.S2048x2048 .f32 := m ((c : Thread nD τ).loc main_arg12)
abbrev wkOf : FVec Ideal Cert.ProjReferenceIdeal.S2048x2048 .f32 := m ((c : Thread nD τ).loc main_arg13)
abbrev wvOf : FVec Ideal Cert.ProjReferenceIdeal.S2048x2048 .f32 := m ((c : Thread nD τ).loc main_arg14)

/-! The arrays the launch hands the windows, off its arguments. -/

set_option maxHeartbeats 4000000 in
theorem v0 : (V m c main_v0 : FVec Ideal S8x2048 .f32) = pad S8x2048 ![0, 0] ![2, 0] ![0, 0] (muOf m c) (sitofp .f32 (constantI S_ 32 0#32)) pads_S6x2048_S8x2048_020_000 h_S_ := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v1 : (V m c main_v1 : FVec Ideal S2048x2048 .bf16) = wrOf m c := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v2 : (V m c main_v2 : FVec Ideal S2048x2048 .bf16) = wkOf m c := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v3 : (V m c main_v3 : FVec Ideal S2048x2048 .bf16) = wvOf m c := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v5 : (V m c main_v5 : FVec Ideal S2048x128 .bf16) = truncf .bf16 (pad S2048x128 ![0, 0] ![0, 32] ![0, 0] (w1Of m c) (sitofp .f32 (constantI S_ 32 0#32)) pads_S2048x96_S2048x128_000_0320 h_S_) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v9 : (V m c main_v9 : FVec Ideal S2048x128 .bf16) = truncf .bf16 (pad S2048x128 ![0, 0] ![0, 32] ![0, 0] (a1Of m c) (sitofp .f32 (constantI S_ 32 0#32)) pads_S2048x96_S2048x128_000_0320 h_S_) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v7 : (V m c main_v7 : FVec Ideal S128x2048 .bf16) = truncf .bf16 (pad S128x2048 ![0, 0] ![32, 0] ![0, 0] (w2Of m c) (sitofp .f32 (constantI S_ 32 0#32)) pads_S96x2048_S128x2048_0320_000 h_S_) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v11 : (V m c main_v11 : FVec Ideal S128x2048 .bf16) = truncf .bf16 (pad S128x2048 ![0, 0] ![32, 0] ![0, 0] (a2Of m c) (sitofp .f32 (constantI S_ 32 0#32)) pads_S96x2048_S128x2048_0320_000 h_S_) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v12 : (V m c main_v12 : FVec Ideal S2048x256 .bf16) = g1Of m c := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v13 : (V m c main_v13 : FVec Ideal S256x2048 .bf16) = g2Of m c := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v14 : (V m c main_v14 : FVec Ideal S1x2048 .f32) = shapeCast S1x2048 (w0Of m c) shapeCasts_S2048_S1x2048 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v15 : (V m c main_v15 : FVec Ideal S1x2048 .f32) = shapeCast S1x2048 (a0Of m c) shapeCasts_S2048_S1x2048 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v16 : (V m c main_v16 : FVec Ideal S1x2048 .f32) = shapeCast S1x2048 (kkOf m c) shapeCasts_S2048_S1x2048 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v17 : (V m c main_v17 : FVec Ideal S1x2048 .f32) = shapeCast S1x2048 (kaOf m c) shapeCasts_S2048_S1x2048 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl
set_option maxHeartbeats 4000000 in
theorem v18 : (V m c main_v18 : FVec Ideal S16384x2048 .f32) = shapeCast S16384x2048 (rowsOf m c) shapeCasts_S2x8192x2048_S16384x2048 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

end Cert.ProjIdeal.Entry
end
-- ==== Proof.ProjWindows.lean ====
/-  The projections: what each window hands a grid point, in terms of the launch's arguments. -/
module

public import proofs.«01_k».proof.Proof.ProjData
public import proofs.«01_k».proof.Proof.ProjEntry
public import Idealize.ShloMosaic.Lib.KernelVsHost
public import Idealize.ShloMosaic.Lib.Pipeline.ValueKit

@[expose] public section

set_option maxRecDepth 16384

noncomputable section

namespace Cert.ProjIdeal.Windows

open Cert.ProjIdeal Cert.ProjIdeal.Gen Cert.ProjIdeal.Projections Cert.ProjIdeal.Rows Cert.ProjIdeal.Entry
open Idealize.ShloMosaic Idealize.ShloMosaic.TcCoe Idealize.SL.Sem
open Idealize.ShloMosaic.Pipeline (Dat)

variable (m : (ℓ : Loc nD τ sig) → Buf (Elt Ideal) ℓ) (c : Dev nD)

/-- Which block each window hands a grid point: row blocks by `t / 4`, column blocks by `t % 4`. -/
theorem idx : ∀ t : Fin cfg0.N, win0_0.index t = ![t.val / 4, 0] ∧ win0_1.index t = ![t.val / 4 * 64 - 1, 0]
    ∧ win0_2.index t = ![0, 0] ∧ win0_3.index t = ![0, t.val % 4] ∧ win0_4.index t = ![0, t.val % 4] ∧ win0_5.index t = ![0, t.val % 4]
    ∧ win0_6.index t = ![0, 0] ∧ win0_7.index t = ![0, 0] ∧ win0_8.index t = ![0, 0]
    ∧ win0_9.index t = ![0, t.val % 4] ∧ win0_10.index t = ![0, t.val % 4] ∧ win0_11.index t = ![0, t.val % 4]
    ∧ win0_12.index t = ![0, t.val % 4] ∧ win0_13.index t = ![0, t.val % 4] ∧ win0_14.index t = ![0, t.val % 4] ∧ win0_15.index t = ![0, t.val % 4]
    ∧ win0_16.index t = ![t.val / 4, t.val % 4] ∧ win0_17.index t = ![t.val / 4, t.val % 4] ∧ win0_18.index t = ![t.val / 4, t.val % 4]
    ∧ win0_19.index t = ![t.val / 4, t.val % 4] ∧ win0_20.index t = ![t.val / 4, t.val % 4] ∧ win0_21.index t = ![t.val / 4, t.val % 4]
    ∧ win0_22.index t = ![t.val / 4, t.val % 4] :=
  (by decide +kernel : ∀ t : Fin grid0.N, _)

theorem coords_val (t : Fin cfg0.N) : (grid0.coords t 0).val = t.val / 4 := by
  revert t
  exact (by decide +kernel : ∀ t : Fin grid0.N, (grid0.coords t 0).val = t.val / 4)

variable (t : Fin cfg0.N)

/-- A column of a grid point's block, among all the channels. -/
def colOf (d : Fin 512) : Fin 2048 := ⟨t.val % 4 * 512 + d.val, by omega⟩

theorem block3 (k : Fin 2048) (d : Fin 512) : iblk m c 3 t (ix2 k d) = wrOf m c (ix2 k (colOf t d)) := by
  refine (congrFun (v1 m c) _).trans ?_
  unfold colOf
  blk_ext [idx t]
theorem block4 (k : Fin 2048) (d : Fin 512) : iblk m c 4 t (ix2 k d) = wkOf m c (ix2 k (colOf t d)) := by
  refine (congrFun (v2 m c) _).trans ?_
  unfold colOf
  blk_ext [idx t]
theorem block5 (k : Fin 2048) (d : Fin 512) : iblk m c 5 t (ix2 k d) = wvOf m c (ix2 k (colOf t d)) := by
  refine (congrFun (v3 m c) _).trans ?_
  unfold colOf
  blk_ext [idx t]
theorem block8 (k : Fin 2048) (n : Fin 256) : iblk m c 8 t (ix2 k n) = g1Of m c (ix2 k n) := by
  refine (congrFun (v12 m c) _).trans ?_
  blk_ext [idx t]
theorem block11 (n : Fin 256) (d : Fin 512) : iblk m c 11 t (ix2 n d) = g2Of m c (ix2 n (colOf t d)) := by
  refine (congrFun (v13 m c) _).trans ?_
  unfold colOf
  blk_ext [idx t]

/-- A row vector handed over as one row of a matrix. -/
theorem asRow_apply (x : FVec Ideal S2048 .f32) (q : Fin 2048) : shapeCast S1x2048 x shapeCasts_S2048_S1x2048 (ix2 0 q) = x (ix1 q) := by
  pointwise
theorem block12 (d : Fin 512) : iblk m c 12 t (ix2 0 d) = w0Of m c (ix1 (colOf t d)) := by
  refine (congrFun (v14 m c) _).trans (Eq.trans ?_ (asRow_apply _ _))
  unfold colOf
  blk_ext [idx t]
theorem block13 (d : Fin 512) : iblk m c 13 t (ix2 0 d) = a0Of m c (ix1 (colOf t d)) := by
  refine (congrFun (v15 m c) _).trans (Eq.trans ?_ (asRow_apply _ _))
  unfold colOf
  blk_ext [idx t]
theorem block14 (d : Fin 512) : iblk m c 14 t (ix2 0 d) = kkOf m c (ix1 (colOf t d)) := by
  refine (congrFun (v16 m c) _).trans (Eq.trans ?_ (asRow_apply _ _))
  unfold colOf
  blk_ext [idx t]
theorem block15 (d : Fin 512) : iblk m c 15 t (ix2 0 d) = kaOf m c (ix1 (colOf t d)) := by
  refine (congrFun (v17 m c) _).trans (Eq.trans ?_ (asRow_apply _ _))
  unfold colOf
  blk_ext [idx t]

/-- What the padding is filled with. -/
abbrev noughts : FVec Ideal S_ .f32 := sitofp .f32 (constantI S_ 32 0#32)
theorem noughts_apply (x : S_.Idx) : noughts x = 0 := by
  show ((0#32 : BitVec 32).toInt : ℝ) = (0 : EReal)
  simp

/-- A weight padded with zero columns, and one padded with zero rows. -/
theorem columns_apply (x : FVec Ideal S2048x96 .f32) (z : FVec Ideal S_ .f32) (k : Fin 2048) (n : Fin 96) :
    pad S2048x128 ![0, 0] ![0, 32] ![0, 0] x z pads_S2048x96_S2048x128_000_0320 h_S_ (ix2 k ⟨n.val, by omega⟩) = x (ix2 k n) := by
  refine pad_apply_of_inside _ _ _ _ _ _ _ _ (ix2 k n) ?_
  intro a; fin_cases a <;> simp
theorem rows_apply (x : FVec Ideal S96x2048 .f32) (z : FVec Ideal S_ .f32) (n : Fin 96) (q : Fin 2048) :
    pad S128x2048 ![0, 0] ![32, 0] ![0, 0] x z pads_S96x2048_S128x2048_0320_000 h_S_ (ix2 ⟨n.val, by omega⟩ q) = x (ix2 n q) := by
  refine pad_apply_of_inside _ _ _ _ _ _ _ _ (ix2 n q) ?_
  intro a; fin_cases a <;> simp
theorem rows_zero (x : FVec Ideal S96x2048 .f32) (n : Fin 128) (hn : 96 ≤ n.val) (q : Fin 2048) :
    pad S128x2048 ![0, 0] ![32, 0] ![0, 0] x noughts pads_S96x2048_S128x2048_0320_000 h_S_ (ix2 n q) = 0 := by
  refine (pad_apply_of_not_inside _ _ _ _ _ _ _ _ 0 ?_).trans (noughts_apply _)
  simp
  omega
theorem coefficients_apply (x : FVec Ideal S6x2048 .f32) (z : FVec Ideal S_ .f32) (k : Fin 6) (q : Fin 2048) :
    pad S8x2048 ![0, 0] ![2, 0] ![0, 0] x z pads_S6x2048_S8x2048_020_000 h_S_ (ix2 ⟨k.val, by omega⟩ q) = x (ix2 k q) := by
  refine pad_apply_of_inside _ _ _ _ _ _ _ _ (ix2 k q) ?_
  intro a; fin_cases a <;> simp
theorem block6 (k : Fin 2048) (n : Fin 96) : iblk m c 6 t (ix2 k ⟨n.val, by omega⟩) = w1Of m c (ix2 k n) := by
  refine (congrFun (v5 m c) _).trans (Eq.trans ?_ (columns_apply _ noughts k n))
  blk_ext [idx t]
theorem block7 (k : Fin 2048) (n : Fin 96) : iblk m c 7 t (ix2 k ⟨n.val, by omega⟩) = a1Of m c (ix2 k n) := by
  refine (congrFun (v9 m c) _).trans (Eq.trans ?_ (columns_apply _ noughts k n))
  blk_ext [idx t]
theorem block9 (n : Fin 96) (d : Fin 512) : iblk m c 9 t (ix2 ⟨n.val, by omega⟩ d) = w2Of m c (ix2 n (colOf t d)) := by
  refine (congrFun (v7 m c) _).trans (Eq.trans ?_ (rows_apply _ noughts n _))
  unfold colOf
  blk_ext [idx t]
theorem block9_zero (n : Fin 128) (hn : 96 ≤ n.val) (d : Fin 512) : iblk m c 9 t (ix2 n d) = (0 : EReal) := by
  refine (congrFun (v7 m c) _).trans (Eq.trans ?_ (rows_zero (w2Of m c) n hn (colOf t d)))
  unfold colOf
  blk_ext [idx t]
theorem block10 (n : Fin 96) (d : Fin 512) : iblk m c 10 t (ix2 ⟨n.val, by omega⟩ d) = a2Of m c (ix2 n (colOf t d)) := by
  refine (congrFun (v11 m c) _).trans (Eq.trans ?_ (rows_apply _ noughts n _))
  unfold colOf
  blk_ext [idx t]
theorem block10_zero (n : Fin 128) (hn : 96 ≤ n.val) (d : Fin 512) : iblk m c 10 t (ix2 n d) = (0 : EReal) := by
  refine (congrFun (v11 m c) _).trans (Eq.trans ?_ (rows_zero (a2Of m c) n hn (colOf t d)))
  unfold colOf
  blk_ext [idx t]
theorem block2 (k : Fin 6) (q : Fin 2048) : iblk m c 2 t (ix2 ⟨k.val, by omega⟩ q) = muOf m c (ix2 k q) := by
  refine (congrFun (v0 m c) _).trans (Eq.trans ?_ (coefficients_apply _ noughts k q))
  blk_ext [idx t]

/-- The sequences' rows one under another. -/
theorem stacked_apply (x : FVec Ideal S2x8192x2048 .f32) (R : Fin 16384) (q : Fin 2048) :
    shapeCast S16384x2048 x shapeCasts_S2x8192x2048_S16384x2048 (ix2 R q) = x (ix3 ⟨R.val / 8192, by omega⟩ ⟨R.val % 8192, by omega⟩ q) := by
  pointwise
theorem block0 (r : Fin 512) (q : Fin 2048) : iblk m c 0 t (ix2 r q) = rowsOf m c (ix3 ⟨(t.val / 4 * 512 + r.val) / 8192, by have : t.val < 128 := t.isLt; omega⟩ ⟨(t.val / 4 * 512 + r.val) % 8192, by omega⟩ q) := by
  refine (congrFun (v18 m c) _).trans (Eq.trans ?_ (stacked_apply _ ⟨t.val / 4 * 512 + r.val, by have : t.val < 128 := t.isLt; omega⟩ q))
  blk_ext [idx t]
theorem block1 (h0 : 1 ≤ t.val / 4) (q : Fin 2048) : iblk m c 1 t (ix2 7 q) = rowsOf m c (ix3 ⟨(t.val / 4 * 512 - 1) / 8192, by have : t.val < 128 := t.isLt; omega⟩ ⟨(t.val / 4 * 512 - 1) % 8192, by omega⟩ q) := by
  refine (congrFun (v18 m c) _).trans (Eq.trans ?_ (stacked_apply _ ⟨t.val / 4 * 512 - 1, by have : t.val < 128 := t.isLt; omega⟩ q))
  blk_ext [idx t]

/-- What the three row windows of a grid point hold, for the mixtures: the block's rows, the coefficients and the row
    just before the block. -/
theorem lies : Lies (rowsOf m c) (muOf m c) ⟨t.val / 64, by have : t.val < 128 := t.isLt; omega⟩ (t.val / 4 % 16 * 512)
    (iblk m c 0 t) (iblk m c 1 t) (iblk m c 2 t) (rowWord (grid0.coords t)) where
  inside := by omega
  rows r q := by
    rw [block0]
    congr 2 <;> exact Fin.ext (by simp only []; omega)
  coefficients k q := block2 m c t k q
  before := by
    have hN : t.val < 128 := t.isLt
    have hk : keep (rowWord (grid0.coords t)) = if t.val / 4 % 16 = 0 then 0 else 1 := by
      unfold rowWord
      rw [coords_val t]
      exact keep_eq _ (by omega)
    by_cases h0 : t.val / 4 % 16 = 0
    · exact .inl ⟨by rw [hk, if_pos h0], by omega⟩
    · refine .inr ⟨by rw [hk, if_neg h0], by omega, fun q => ?_⟩
      rw [block1 m c t (by omega)]
      congr 2 <;> exact Fin.ext (by simp only []; omega)

end Cert.ProjIdeal.Windows
end
-- ==== Proof.ProjResult.lean ====
/-  The projections: each result array, assembled from the blocks the grid points leave, is the plain computation's. -/
module

public import proofs.«01_k».proof.Proof.ProjValues
public import proofs.«01_k».proof.Proof.ProjWindows
public import proofs.«01_k».proof.Proof.ProjReference

@[expose] public section

set_option maxRecDepth 16384

noncomputable section

namespace Cert.ProjIdeal.Result

open Cert.ProjIdeal Cert.ProjIdeal.Gen Cert.ProjIdeal.Projections Cert.ProjIdeal.Rows Cert.ProjIdeal.Values Cert.ProjIdeal.Entry Cert.ProjIdeal.Windows
open Cert.ProjReferenceIdeal.Plain Cert.PoolSums
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The first point of a row block, and a row of a point's block among all the rows. -/
def first : Fin cfg0.N := ⟨t.val / 4 * 4, by have := t.isLt; omega⟩
def rowAt (r : Fin 512) : Fin 16384 := ⟨t.val / 4 * 512 + r.val, by have : t.val < 128 := t.isLt; omega⟩

/-- A mixture, as the first point of the row block left it. -/
theorem opened (k : Fin 6) (hs : Cert.ProjReferenceIdeal.S6x2048.Slices ![k.val, 0] Cert.ProjReferenceIdeal.S1x2048) (r : Fin 512) (q : Fin 2048) :
    mixedAt m c (first t) (ix3 k r q) = mixture ![k.val, 0] hs (rowsOf m c) (muOf m c) (ix3 (seqOf (rowAt t r)) (posOf (rowAt t r)) q) := by
  have hN : t.val < 128 := t.isLt
  refine ((lies m c (first t)).mixed_eq k hs r q).trans ?_
  have e1 : (⟨(first t).val / 64, by show t.val / 4 * 4 / 64 < 2; omega⟩ : Fin 2) = seqOf (rowAt t r) :=
    Fin.ext (by show t.val / 4 * 4 / 64 = (t.val / 4 * 512 + r.val) / 8192; omega)
  have e2 : (⟨(first t).val / 4 % 16 * 512 + r.val, by omega⟩ : Fin 8192) = posOf (rowAt t r) :=
    Fin.ext (by show t.val / 4 * 4 / 4 % 16 * 512 + r.val = (t.val / 4 * 512 + r.val) % 8192; omega)
  exact congrArg₂ (fun b p => mixture ![k.val, 0] hs (rowsOf m c) (muOf m c) (ix3 b p q)) e1 e2

theorem held_mixed (k : Fin 6) (hs : Cert.ProjReferenceIdeal.S6x2048.Slices ![k.val, 0] Cert.ProjReferenceIdeal.S1x2048) (r : Fin 512) (q : Fin 2048) :
    (held m c t.val t.isLt).1 (ix3 k r q) = mixture ![k.val, 0] hs (rowsOf m c) (muOf m c) (ix3 (seqOf (rowAt t r)) (posOf (rowAt t r)) q) := by
  rw [held_eq, show (⟨t.val / 4 * 4, by have := t.isLt; omega⟩ : Fin cfg0.N) = first t from rfl]
  dsimp only [opening]
  exact opened m c t k hs r q

/-- The low-rank activations, as the first point of the row block left them. -/
theorem held_decay (r : Fin 512) (k : Fin 96) : (held m c t.val t.isLt).2.1 (ix2 r ⟨k.val, by omega⟩)
    = Ideal.tanh (∑ q : Fin 2048, mixW (rowsOf m c) (muOf m c) (ix3 (seqOf (rowAt t r)) (posOf (rowAt t r)) q) * w1Of m c (ix2 q k)) := by
  rw [held_eq]
  refine (decayAct_value r _ _ _).trans (congrArg Ideal.tanh (Finset.sum_congr rfl fun q _ => ?_))
  rw [slab1_apply]
  exact congrArg₂ (fun a b : EReal => a * b) (opened m c t 1 _ r q) (block6 m c (first t) q k)
theorem held_rate (r : Fin 512) (k : Fin 96) : (held m c t.val t.isLt).2.2.1 (ix2 r ⟨k.val, by omega⟩)
    = ∑ q : Fin 2048, mixA (rowsOf m c) (muOf m c) (ix3 (seqOf (rowAt t r)) (posOf (rowAt t r)) q) * a1Of m c (ix2 q k) := by
  rw [held_eq]
  refine (rateAct_value r _ _ _).trans (Finset.sum_congr rfl fun q _ => ?_)
  rw [slab4_apply]
  exact congrArg₂ (fun a b : EReal => a * b) (opened m c t 4 _ r q) (block7 m c (first t) q k)
theorem held_gate (r : Fin 512) (k : Fin 256) : (held m c t.val t.isLt).2.2.2 (ix2 r k)
    = logistic (∑ q : Fin 2048, mixG (rowsOf m c) (muOf m c) (ix3 (seqOf (rowAt t r)) (posOf (rowAt t r)) q) * g1Of m c (ix2 q k)) := by
  rw [held_eq]
  refine (gateAct_value r _ _ _).trans (congrArg logistic (Finset.sum_congr rfl fun q _ => ?_))
  rw [slab5_apply]
  exact congrArg₂ (fun a b : EReal => a * b) (opened m c t 5 _ r q) (block8 m c (first t) q k)

variable (r d : Fin 512)

/-- The seven blocks a point stores, entry by entry. -/
theorem r_block : rAt m c t (ix2 r d) = receptances (rowsOf m c) (muOf m c) (wrOf m c) (ix2 (rowAt t r) (colOf t d)) := by
  refine (receptance_value r d _ _).trans (Eq.trans ?_ (receptances_apply _ _ _ _ _).symm)
  refine Finset.sum_congr rfl fun q _ => ?_
  rw [slab0_apply]
  exact congrArg₂ (fun a b : EReal => a * b) (held_mixed m c t 0 _ r q) (block3 m c t q d)
theorem v_block : vAt m c t (ix2 r d) = values (rowsOf m c) (muOf m c) (wvOf m c) (ix2 (rowAt t r) (colOf t d)) := by
  refine (value_value r d _ _).trans (Eq.trans ?_ (values_apply _ _ _ _ _).symm)
  refine Finset.sum_congr rfl fun q _ => ?_
  rw [slab3_apply]
  exact congrArg₂ (fun a b : EReal => a * b) (held_mixed m c t 3 _ r q) (block5 m c t q d)
theorem g_block : gAt m c t (ix2 r d) = gates (rowsOf m c) (muOf m c) (g1Of m c) (g2Of m c) (ix2 (rowAt t r) (colOf t d)) := by
  refine (gate_value r d _ _).trans (Eq.trans ?_ (gates_apply _ _ _ _ _ _).symm)
  refine Finset.sum_congr rfl fun k _ => ?_
  exact congrArg₂ (fun a b : EReal => a * b) (held_gate m c t r k) (block11 m c t k d)
theorem d_block : dAt m c t (ix2 r d) = decays (rowsOf m c) (muOf m c) (w0Of m c) (w1Of m c) (w2Of m c) (ix2 (rowAt t r) (colOf t d)) := by
  refine (decay_value r d _ _ _).trans (Eq.trans ?_ (decays_apply _ _ _ _ _ _ _).symm)
  refine congrArg decayOf (congrArg₂ (fun a b : EReal => a + b) (block12 m c t d) ?_)
  refine (padded_sum _ fun k hk => (congrArg (fun b : EReal => _ * b) (block9_zero m c t k hk d)).trans (mul_zero _)).trans ?_
  refine Finset.sum_congr rfl fun k _ => ?_
  exact congrArg₂ (fun a b : EReal => a * b) (held_decay m c t r k) (block9 m c t k d)
/-- The learning rate of a point's block. -/
theorem rate_block : rate (held m c t.val t.isLt).2.2.1 (iblk m c 10 t) (iblk m c 13 t) (ix2 r d)
    = learning (rowsOf m c) (muOf m c) (a0Of m c) (a1Of m c) (a2Of m c) (ix3 (seqOf (rowAt t r)) (posOf (rowAt t r)) (colOf t d)) := by
  refine (rate_value r d _ _ _).trans (Eq.trans ?_ (learning_apply _ _ _ _ _ _ _ _).symm)
  refine congrArg logistic (congrArg₂ (fun a b : EReal => a + b) (block13 m c t d) ?_)
  refine (padded_sum _ fun k hk => (congrArg (fun b : EReal => _ * b) (block10_zero m c t k hk d)).trans (mul_zero _)).trans ?_
  refine Finset.sum_congr rfl fun k _ => ?_
  exact congrArg₂ (fun a b : EReal => a * b) (held_rate m c t r k) (block10 m c t k d)
/-- The keys' product, and the key scaled for its head. -/
theorem keyProduct : ∑ q : Fin 2048, slab2 (held m c t.val t.isLt).1 (ix3 0 r q) * iblk m c 4 t (ix2 q d)
    = ∑ q : Fin 2048, mixK (rowsOf m c) (muOf m c) (ix3 (seqOf (rowAt t r)) (posOf (rowAt t r)) q) * wkOf m c (ix2 q (colOf t d)) := by
  refine Finset.sum_congr rfl fun q _ => ?_
  rw [slab2_apply]
  exact congrArg₂ (fun a b : EReal => a * b) (held_mixed m c t 2 _ r q) (block4 m c t q d)
theorem k_block : kAt m c t (ix2 r d)
    = keys (rowsOf m c) (muOf m c) (wkOf m c) (a0Of m c) (a1Of m c) (a2Of m c) (kaOf m c) (ix2 (rowAt t r) (colOf t d)) := by
  refine (key_value r d _ _ _).trans (Eq.trans ?_ (keys_apply _ _ _ _ _ _ _ _ _).symm)
  refine congrArg₂ (fun a b : EReal => a * b) ((product_value r d _ _).trans (keyProduct m c t r d)) ?_
  exact congrArg₂ (fun a b : EReal => 1 + (a - 1) * b) (rate_block m c t r d) (block15 m c t d)

/-- The scaled keys of a point's block, their squares, and the keys of unit length. -/
abbrev scaled : FVec Ideal S512x512 .f32 := k0_pay20 (slab2 (held m c t.val t.isLt).1) (iblk m c 4 t) (iblk m c 14 t)
abbrev squares : FVec Ideal S512x512 .f32 := keySquares (held m c t.val t.isLt).1 (iblk m c 4 t) (iblk m c 14 t)
theorem scaled_apply : scaled m c t (ix2 r d) = keyAt (rowsOf m c) (muOf m c) (rowAt t r) (colOf t d) (wkOf m c) (kkOf m c) := by
  refine (scaledKey_value r d _ _ _).trans ?_
  exact congrArg₂ (fun a b : EReal => a * b) (keyProduct m c t r d) (block14 m c t d)
theorem squares_apply : squares m c t (ix2 r d) = keyAt (rowsOf m c) (muOf m c) (rowAt t r) (colOf t d) (wkOf m c) (kkOf m c)
    * keyAt (rowsOf m c) (muOf m c) (rowAt t r) (colOf t d) (wkOf m c) (kkOf m c) := by
  refine (square_value r d _ _ _).trans ?_
  exact congrArg₂ (fun a b : EReal => a * b) (scaled_apply m c t r d) (scaled_apply m c t r d)

/-- The arrays the keys are made of hold real numbers. -/
structure Real : Prop where
  rows : ∀ i, IsReal (rowsOf m c i)
  mu : ∀ i, IsReal (muOf m c i)
  kk : ∀ i, IsReal (kkOf m c i)
  wk : ∀ i, IsReal (wkOf m c i)

variable {m c}

theorem Real.key (h : Real m c) (R : Fin 16384) (q : Fin 2048) : IsReal (keyAt (rowsOf m c) (muOf m c) R q (wkOf m c) (kkOf m c)) := by
  refine .mul (.sum _ _ fun p _ => .mul ?_ (h.wk _)) (h.kk _)
  have hs : IsReal (shifted (rowsOf m c) (ix3 (seqOf R) (posOf R) p)) := by
    rw [shifted_apply]
    split
    · exact h.rows _
    · exact .zero
  refine (congrArg IsReal (mixture_apply (rowsOf m c) (muOf m c) 2 _ (seqOf R) (posOf R) p)).mpr ?_
  exact (h.rows _).add ((hs.sub (h.rows _)).mul (h.mu _))

theorem Real.unit (h : Real m c) : unit (scaled m c t) (squares m c t) (ix2 r d)
    = unitKeyAt (rowsOf m c) (muOf m c) (rowAt t r) (colOf t d) (wkOf m c) (kkOf m c) := by
  refine (unit_apply r d _ _ fun e => ?_).trans ?_
  · have hk := h.key (rowAt t r) (colOf t e)
    have := hk.mul hk
    rw [← squares_apply] at this
    exact this
  · unfold unitKeyAt
    refine congrArg₂ Ideal.div (scaled_apply m c t r d) (congrArg (fun s => max (Ideal.sqrt s) (Ideal.ofBits .f32 0x2B8CBCCC#32)) (Finset.sum_congr rfl fun e _ => ?_))
    have eq : headChannel (colOf t d) e = colOf t ⟨d.val / 64 * 64 + e.val, by omega⟩ :=
      Fin.ext (by show (t.val % 4 * 512 + d.val) / 64 * 64 + e.val = t.val % 4 * 512 + (d.val / 64 * 64 + e.val); omega)
    rw [eq]
    exact squares_apply m c t r _
theorem Real.n_block (h : Real m c) : nAt m c t (ix2 r d)
    = removals (rowsOf m c) (muOf m c) (wkOf m c) (kkOf m c) (ix2 (rowAt t r) (colOf t d)) := by
  refine (removal_value r d (scaled m c t) (squares m c t)).trans (Eq.trans ?_ (removals_apply _ _ _ _ _ _).symm)
  exact congrArg (fun a : EReal => -a) (h.unit t r d)
theorem Real.b_block (h : Real m c) : bAt m c t (ix2 r d)
    = insertions (rowsOf m c) (muOf m c) (wkOf m c) (kkOf m c) (a0Of m c) (a1Of m c) (a2Of m c) (ix2 (rowAt t r) (colOf t d)) := by
  refine (insertion_value r d _ (scaled m c t) (squares m c t)).trans (Eq.trans ?_ (insertions_apply _ _ _ _ _ _ _ _ _).symm)
  exact congrArg₂ (fun a b : EReal => a * b) (h.unit t r d) (rate_block m c t r d)

variable (m c)

/-- The seven result arrays. -/
theorem final16 : (dats m 0 c).arrAt 16 cfg0.N = receptances (rowsOf m c) (muOf m c) (wrOf m c) := by
  refine (dats m 0 c).arrAt_eq_of_covers 16 _ (by decide +kernel) fun t hf y => ?_
  blk_simp
  rw [after0_16, eq_ix2 y]
  refine (r_block m c t (y 0) (y 1)).trans ?_
  unfold rowAt colOf
  blk_ext [idx t]
theorem final17 : (dats m 0 c).arrAt 17 cfg0.N = decays (rowsOf m c) (muOf m c) (w0Of m c) (w1Of m c) (w2Of m c) := by
  refine (dats m 0 c).arrAt_eq_of_covers 17 _ (by decide +kernel) fun t hf y => ?_
  blk_simp
  rw [after0_17, eq_ix2 y]
  refine (d_block m c t (y 0) (y 1)).trans ?_
  unfold rowAt colOf
  blk_ext [idx t]
theorem final18 : (dats m 0 c).arrAt 18 cfg0.N = keys (rowsOf m c) (muOf m c) (wkOf m c) (a0Of m c) (a1Of m c) (a2Of m c) (kaOf m c) := by
  refine (dats m 0 c).arrAt_eq_of_covers 18 _ (by decide +kernel) fun t hf y => ?_
  blk_simp
  rw [after0_18, eq_ix2 y]
  refine (k_block m c t (y 0) (y 1)).trans ?_
  unfold rowAt colOf
  blk_ext [idx t]
theorem final19 : (dats m 0 c).arrAt 19 cfg0.N = values (rowsOf m c) (muOf m c) (wvOf m c) := by
  refine (dats m 0 c).arrAt_eq_of_covers 19 _ (by decide +kernel) fun t hf y => ?_
  blk_simp
  rw [after0_19, eq_ix2 y]
  refine (v_block m c t (y 0) (y 1)).trans ?_
  unfold rowAt colOf
  blk_ext [idx t]
theorem final20 (h : Real m c) : (dats m 0 c).arrAt 20 cfg0.N = removals (rowsOf m c) (muOf m c) (wkOf m c) (kkOf m c) := by
  refine (dats m 0 c).arrAt_eq_of_covers 20 _ (by decide +kernel) fun t hf y => ?_
  blk_simp
  rw [after0_20, eq_ix2 y]
  refine (h.n_block t (y 0) (y 1)).trans ?_
  unfold rowAt colOf
  blk_ext [idx t]
theorem final21 (h : Real m c) : (dats m 0 c).arrAt 21 cfg0.N
    = insertions (rowsOf m c) (muOf m c) (wkOf m c) (kkOf m c) (a0Of m c) (a1Of m c) (a2Of m c) := by
  refine (dats m 0 c).arrAt_eq_of_covers 21 _ (by decide +kernel) fun t hf y => ?_
  blk_simp
  rw [after0_21, eq_ix2 y]
  refine (h.b_block t (y 0) (y 1)).trans ?_
  unfold rowAt colOf
  blk_ext [idx t]
theorem final22 : (dats m 0 c).arrAt 22 cfg0.N = gates (rowsOf m c) (muOf m c) (g1Of m c) (g2Of m c) := by
  refine (dats m 0 c).arrAt_eq_of_covers 22 _ (by decide +kernel) fun t hf y => ?_
  blk_simp
  rw [after0_22, eq_ix2 y]
  refine (g_block m c t (y 0) (y 1)).trans ?_
  unfold rowAt colOf
  blk_ext [idx t]

end Cert.ProjIdeal.Result
end
-- ==== Proof.ProjClaim.lean ====
/-  The projections' kernel computes what the plain computation computes, for finite activations, mixing weights, key scale and key weight. -/
module

public import Idealize.ShloMosaic.Lib.WordCmp
public import Idealize.ShloMosaic.Lib.ReduceAll
public import Idealize.ShloMosaic.Lib.Pipeline.ValueKit
public import proofs.«01_k».proof.Defs
public import proofs.«01_k».proof.Proof.PoolClaim
public import proofs.«01_k».proof.Proof.ProjRun
public import proofs.«01_k».proof.Proof.ProjResult
public import proofs.«01_k».proof.Proof.Gen.ProjReferenceIdeal.Run
public import proofs.«01_k».proof.Proof.Gen.Pre_keys_finite

@[expose] public section

set_option maxRecDepth 16384

noncomputable section

namespace Cert.ProjClaim

open Idealize.ShloMosaic Idealize.ShloMosaic.TcCoe Idealize.SL.Sem
open Cert.PoolSums Cert.ProjIdeal.Entry
open Cert.ProjIdeal.Projections (results_run)

/-- The precondition's word is one: the four arrays the keys are made of hold real numbers. -/
theorem finite (m : (ℓ : Loc ProjIdeal.nD ProjIdeal.τ ProjIdeal.sig) → Buf (Elt Ideal) ℓ) (c : Dev ProjIdeal.nD)
    (hp : Cert.Pre_ProjIdeal_keys_finite (hPre_keys_finite := Cert.Pre_keys_finite.Gen.facts) m) : ProjIdeal.Result.Real m c := by
  have h0 := congrFun (hp c) (fun a => a.elim0)
  dsimp only [Cert.Pre_keys_finite.fn, Cert.Pre_keys_finite.fn_part1] at h0
  obtain ⟨h1, hw⟩ := IntOp.andi_eq_one.mp h0
  obtain ⟨h2, hk⟩ := IntOp.andi_eq_one.mp h1
  obtain ⟨hx, hm⟩ := IntOp.andi_eq_one.mp h2
  constructor
  · intro i
    exact PoolClaim.real_of_lt _ (@Host.reduce_andi_all _ _ _ _ ⟨fun a b => funext fun x => x.elim0⟩ _ _ _ _ _ hx i)
  · intro i
    exact PoolClaim.real_of_lt _ (@Host.reduce_andi_all _ _ _ _ ⟨fun a b => funext fun x => x.elim0⟩ _ _ _ _ _ hm i)
  · intro i
    exact PoolClaim.real_of_lt _ (@Host.reduce_andi_all _ _ _ _ ⟨fun a b => funext fun x => x.elim0⟩ _ _ _ _ _ hk i)
  · intro i
    exact PoolClaim.real_of_lt _ (@Host.reduce_andi_all _ _ _ _ ⟨fun a b => funext fun x => x.elim0⟩ _ _ _ _ _ hw i)

set_option maxHeartbeats 4000000 in
theorem equal : Cert.algebraic_ProjIdeal_ProjReferenceIdeal_pre_keys_finite (hProjIdeal := Cert.ProjIdeal.Gen.facts)
    (hProjReferenceIdeal := Cert.ProjReferenceIdeal.Gen.facts) (hPre_keys_finite := Cert.Pre_keys_finite.Gen.facts) := by
  intro m g m' g' pre agree
  have real := fun c => finite m c pre
  refine ⟨fun c => ProjReferenceIdeal.Plain.receptances (rowsOf m c) (muOf m c) (wrOf m c),
    fun c => ProjReferenceIdeal.Plain.decays (rowsOf m c) (muOf m c) (w0Of m c) (w1Of m c) (w2Of m c),
    fun c => ProjReferenceIdeal.Plain.keys (rowsOf m c) (muOf m c) (wkOf m c) (a0Of m c) (a1Of m c) (a2Of m c) (kaOf m c),
    fun c => ProjReferenceIdeal.Plain.values (rowsOf m c) (muOf m c) (wvOf m c),
    fun c => ProjReferenceIdeal.Plain.removals (rowsOf m c) (muOf m c) (wkOf m c) (kkOf m c),
    fun c => ProjReferenceIdeal.Plain.insertions (rowsOf m c) (muOf m c) (wkOf m c) (kkOf m c) (a0Of m c) (a1Of m c) (a2Of m c),
    fun c => ProjReferenceIdeal.Plain.gates (rowsOf m c) (muOf m c) (g1Of m c) (g2Of m c), ?_, ?_⟩
  · exact (θ_run _ _ _).mono (fun _ h c => ⟨((h c).1).trans (ProjIdeal.Result.final16 m c),
      ((h c).2.1).trans (ProjIdeal.Result.final17 m c),
      ((h c).2.2.1).trans (ProjIdeal.Result.final18 m c),
      ((h c).2.2.2.1).trans (ProjIdeal.Result.final19 m c),
      ((h c).2.2.2.2.1).trans (ProjIdeal.Result.final20 m c (real c)),
      ((h c).2.2.2.2.2.1).trans (ProjIdeal.Result.final21 m c (real c)),
      ((h c).2.2.2.2.2.2.1).trans (ProjIdeal.Result.final22 m c),
      (h c).2.2.2.2.2.2.2⟩) (results_run m g)
  · refine (θ_run _ _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_,
      (h c).2.2.2.2.2.2.2⟩) (ProjReferenceIdeal.Value.run m' g')
    · obtain ⟨e0, e1, e2, e3, e4, e5, e6, e7, e8, e9, e10, e11, e12, e13, e14⟩ := agree c
      have e : ProjReferenceIdeal.Plain.receptances
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg12))
          = ProjReferenceIdeal.Plain.receptances (rowsOf m c) (muOf m c) (wrOf m c) := by
        rw [e0, e1, e12]
      exact Eq.trans rfl e
    · obtain ⟨e0, e1, e2, e3, e4, e5, e6, e7, e8, e9, e10, e11, e12, e13, e14⟩ := agree c
      have e : ProjReferenceIdeal.Plain.decays
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg2))
          (m' ((c.tc : Thread ProjReferenceIdeal.nD ProjReferenceIdeal.τ).loc ProjReferenceIdeal.main_arg3))
          (m' ((c.tc : Thread ProjReferenceIdeal.nD ProjReferenceIdeal.τ).loc ProjReferenceIdeal.main_arg4))
          = ProjReferenceIdeal.Plain.decays (rowsOf m c) (muOf m c) (w0Of m c) (w1Of m c) (w2Of m c) := by
        rw [e0, e1, e2, e3, e4]
      exact Eq.trans rfl e
    · obtain ⟨e0, e1, e2, e3, e4, e5, e6, e7, e8, e9, e10, e11, e12, e13, e14⟩ := agree c
      have e : ProjReferenceIdeal.Plain.keys
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg13))
          (m' ((c.tc : Thread ProjReferenceIdeal.nD ProjReferenceIdeal.τ).loc ProjReferenceIdeal.main_arg5))
          (m' ((c.tc : Thread ProjReferenceIdeal.nD ProjReferenceIdeal.τ).loc ProjReferenceIdeal.main_arg6))
          (m' ((c.tc : Thread ProjReferenceIdeal.nD ProjReferenceIdeal.τ).loc ProjReferenceIdeal.main_arg7))
          (m' ((c.tc : Thread ProjReferenceIdeal.nD ProjReferenceIdeal.τ).loc ProjReferenceIdeal.main_arg11))
          = ProjReferenceIdeal.Plain.keys (rowsOf m c) (muOf m c) (wkOf m c) (a0Of m c) (a1Of m c) (a2Of m c) (kaOf m c) := by
        rw [e0, e1, e5, e6, e7, e11, e13]
      exact Eq.trans rfl e
    · obtain ⟨e0, e1, e2, e3, e4, e5, e6, e7, e8, e9, e10, e11, e12, e13, e14⟩ := agree c
      have e : ProjReferenceIdeal.Plain.values
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg14))
          = ProjReferenceIdeal.Plain.values (rowsOf m c) (muOf m c) (wvOf m c) := by
        rw [e0, e1, e14]
      exact Eq.trans rfl e
    · obtain ⟨e0, e1, e2, e3, e4, e5, e6, e7, e8, e9, e10, e11, e12, e13, e14⟩ := agree c
      have e : ProjReferenceIdeal.Plain.removals
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg13))
          (m' ((c.tc : Thread ProjReferenceIdeal.nD ProjReferenceIdeal.τ).loc ProjReferenceIdeal.main_arg10))
          = ProjReferenceIdeal.Plain.removals (rowsOf m c) (muOf m c) (wkOf m c) (kkOf m c) := by
        rw [e0, e1, e10, e13]
      exact Eq.trans rfl e
    · obtain ⟨e0, e1, e2, e3, e4, e5, e6, e7, e8, e9, e10, e11, e12, e13, e14⟩ := agree c
      have e : ProjReferenceIdeal.Plain.insertions
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg13))
          (m' ((c.tc : Thread ProjReferenceIdeal.nD ProjReferenceIdeal.τ).loc ProjReferenceIdeal.main_arg10))
          (m' ((c.tc : Thread ProjReferenceIdeal.nD ProjReferenceIdeal.τ).loc ProjReferenceIdeal.main_arg5))
          (m' ((c.tc : Thread ProjReferenceIdeal.nD ProjReferenceIdeal.τ).loc ProjReferenceIdeal.main_arg6))
          (m' ((c.tc : Thread ProjReferenceIdeal.nD ProjReferenceIdeal.τ).loc ProjReferenceIdeal.main_arg7))
          = ProjReferenceIdeal.Plain.insertions (rowsOf m c) (muOf m c) (wkOf m c) (kkOf m c) (a0Of m c) (a1Of m c) (a2Of m c) := by
        rw [e0, e1, e5, e6, e7, e10, e13]
      exact Eq.trans rfl e
    · obtain ⟨e0, e1, e2, e3, e4, e5, e6, e7, e8, e9, e10, e11, e12, e13, e14⟩ := agree c
      have e : ProjReferenceIdeal.Plain.gates
          (m' ((c.tc : Thread ProjReferenceIdeal.nD ProjReferenceIdeal.τ).loc ProjReferenceIdeal.main_arg0))
          (m' ((c.tc : Thread ProjReferenceIdeal.nD ProjReferenceIdeal.τ).loc ProjReferenceIdeal.main_arg1))
          (m' ((c.tc : Thread ProjReferenceIdeal.nD ProjReferenceIdeal.τ).loc ProjReferenceIdeal.main_arg8))
          (m' ((c.tc : Thread ProjReferenceIdeal.nD ProjReferenceIdeal.τ).loc ProjReferenceIdeal.main_arg9))
          = ProjReferenceIdeal.Plain.gates (rowsOf m c) (muOf m c) (g1Of m c) (g2Of m c) := by
        rw [e0, e1, e8, e9]
      exact Eq.trans rfl e

end Cert.ProjClaim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.KernelIdeal.Value
public import proofs.«01_k».proof.Proof.Gen.FfnIdeal.Value
public import proofs.«01_k».proof.Proof.Gen.ReferenceIdeal.Run
public import proofs.«01_k».proof.Proof.Gen.FfnReferenceIdeal.Run
public import proofs.«01_k».proof.Proof.Gen.MoeReferenceIdeal.Run
public import proofs.«01_k».proof.Proof.Gen.Pre_inputs_finite
public import proofs.«01_k».proof.Proof.Gen.Pre_tables_in_range
public import Idealize.ShloMosaic.Adequacy
public import Idealize.ShloMosaic.Init
public import proofs.«01_k».proof.Proof.FfnClaim
public import proofs.«01_k».proof.Proof.MoeClaim
public import proofs.«01_k».proof.Proof.PoolClaim
public import proofs.«01_k».proof.Proof.References
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame.Runs
public import proofs.«01_k».proof.Proof.Gen.ProjReferenceIdeal
public import proofs.«01_k».proof.Proof.Gen.ProjReferenceIdeal.Run
public import proofs.«01_k».proof.Proof.Gen.Pre_keys_finite
public import proofs.«01_k».proof.Proof.ProjFrames
public import proofs.«01_k».proof.Proof.ProjClaim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Moe.Gen.facts, Cert.MoeIdeal.Gen.facts, Cert.MoeReferenceIdeal.Gen.facts,
  Cert.Proj.Gen.facts, Cert.ProjIdeal.Gen.facts, Cert.ProjReferenceIdeal.Gen.facts,
  Cert.Pre_inputs_finite.Gen.facts, Cert.Pre_tables_in_range.Gen.facts, Cert.Pre_keys_finite.Gen.facts,
  fun m g _ => Cert.Kernel.Gen.frame m g, fun m g _ => Cert.KernelIdeal.Gen.frame m g,
  fun m g _ => Cert.KernelIdeal.Gen.frame m g, References.pool, fun m g _ => References.pool m g trivial,
  fun m g _ => Cert.Ffn.Gen.frame m g, fun m g _ => Cert.FfnIdeal.Gen.frame m g, References.ffn,
  MoeFrames.bits, MoeFrames.ideal, MoeFrames.reference,
  ProjFrames.bits, ProjFrames.ideal, ProjFrames.ideal_finite, ProjFrames.reference, ProjFrames.reference_finite,
  trivial, PoolClaim.equal, trivial, FfnClaim.equal, trivial, MoeClaim.equal, trivial, ProjClaim.equal⟩

end Cert.Proof

end
